-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x7168 : Shape := ⟨3, ![1, 16384, 7168]⟩
abbrev S576x7168 : Shape := ⟨2, ![576, 7168]⟩
abbrev S5x56 : Shape := ⟨2, ![5, 56]⟩
abbrev S512 : Shape := ⟨1, ![512]⟩
abbrev S16384x7168 : Shape := ⟨2, ![16384, 7168]⟩
abbrev S1x512 : Shape := ⟨2, ![1, 512]⟩
abbrev S16384x512 : Shape := ⟨2, ![16384, 512]⟩
abbrev S64x16384 : Shape := ⟨2, ![64, 16384]⟩
abbrev S56x16384 : Shape := ⟨2, ![56, 16384]⟩
abbrev S512x7168 : Shape := ⟨2, ![512, 7168]⟩
abbrev S512x512 : Shape := ⟨2, ![512, 512]⟩
abbrev S64x512 : Shape := ⟨2, ![64, 512]⟩
abbrev S56x512 : Shape := ⟨2, ![56, 512]⟩
abbrev S56x576x128 : Shape := ⟨3, ![56, 576, 128]⟩
abbrev S512x128 : Shape := ⟨2, ![512, 128]⟩
abbrev S256x128 : Shape := ⟨2, ![256, 128]⟩
abbrev S2x512x256 : Shape := ⟨3, ![2, 512, 256]⟩
abbrev S576x512 : Shape := ⟨2, ![576, 512]⟩
abbrev S8x128 : Shape := ⟨2, ![8, 128]⟩
abbrev S1x1 : Shape := ⟨2, ![1, 1]⟩
abbrev S128x128 : Shape := ⟨2, ![128, 128]⟩
abbrev S1x128x128 : Shape := ⟨3, ![1, 128, 128]⟩
abbrev S64x128 : Shape := ⟨2, ![64, 128]⟩
abbrev S1x64x128 : Shape := ⟨3, ![1, 64, 128]⟩
abbrev S128x512 : Shape := ⟨2, ![128, 512]⟩
abbrev S64x256 : Shape := ⟨2, ![64, 256]⟩
abbrev S1x256x256 : Shape := ⟨3, ![1, 256, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S16x128 : Shape := ⟨2, ![16, 128]⟩
abbrev S8x256 : Shape := ⟨2, ![8, 256]⟩
abbrev S256 : Shape := ⟨1, ![256]⟩
abbrev S1x256 : Shape := ⟨2, ![1, 256]⟩
abbrev S1x128 : Shape := ⟨2, ![1, 128]⟩
abbrev S56x128 : Shape := ⟨2, ![56, 128]⟩

abbrev nBuf : Space → Nat
  | .hbm => 10
  | .vmem => 18
  | .smem => 1
  | _ => 0

abbrev bufTy : (tb : Table) → Fin (tcTables nBuf tb) → BufTy
  | .hbm, ⟨0, _⟩ => ⟨S1x16384x7168, .bf16⟩
  | .hbm, ⟨1, _⟩ => ⟨S576x7168, .fp8e4m3⟩
  | .hbm, ⟨2, _⟩ => ⟨S5x56, .f32⟩
  | .hbm, ⟨3, _⟩ => ⟨S512, .f32⟩
  | .hbm, ⟨4, _⟩ => ⟨S16384x7168, .bf16⟩
  | .hbm, ⟨5, _⟩ => ⟨S1x512, .f32⟩
  | .hbm, ⟨6, _⟩ => ⟨S16384x512, .bf16⟩
  | .hbm, ⟨7, _⟩ => ⟨S64x16384, .bf16⟩
  | .hbm, ⟨8, _⟩ => ⟨S16384x7168, .fp8e4m3⟩
  | .hbm, ⟨9, _⟩ => ⟨S56x16384, .f32⟩
  | .local _ .vmem, ⟨0, _⟩ => ⟨S512x7168, .bf16⟩
  | .local _ .vmem, ⟨1, _⟩ => ⟨S512x7168, .bf16⟩
  | .local _ .vmem, ⟨2, _⟩ => ⟨S576x7168, .fp8e4m3⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S64x512, .bf16⟩
  | .local _ .vmem, ⟨7, _⟩ => ⟨S64x512, .bf16⟩
  | .local _ .vmem, ⟨8, _⟩ => ⟨S512x7168, .fp8e4m3⟩
  | .local _ .vmem, ⟨9, _⟩ => ⟨S512x7168, .fp8e4m3⟩
  | .local _ .vmem, ⟨10, _⟩ => ⟨S56x512, .f32⟩
  | .local _ .vmem, ⟨11, _⟩ => ⟨S56x512, .f32⟩
  | .local _ .vmem, ⟨12, _⟩ => ⟨S56x576x128, .bf16⟩
  | .local _ .vmem, ⟨13, _⟩ => ⟨S512x128, .f32⟩
  | .local _ .vmem, ⟨14, _⟩ => ⟨S512x512, .f32⟩
  | .local _ .vmem, ⟨15, _⟩ => ⟨S256x128, .i32⟩
  | .local _ .vmem, ⟨16, _⟩ => ⟨S2x512x256, .bf16⟩
  | .local _ .vmem, ⟨17, _⟩ => ⟨S576x512, .f32⟩
  | .local _ .smem, ⟨0, _⟩ => ⟨S5x56, .f32⟩
  | _, _ => ⟨S1x16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_4 : BitVec 32 := 0#32
  let c56_i32 : BitVec 32 := 56#32
  let v10 : BitVec 32 := Scalar.addi c0_i32_4 c56_i32
  let c1_i32 : BitVec 32 := 1#32
  ⟨c0_i32_4, v10, c1_i32⟩
def k0_mult1 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  v31
def k0_off1 (k0_t1 : Fin k0_t1_loop.trips) : Fin 2 → Nat :=
  let c0_18 : Index := 0#32
  let c0_i32_4 : BitVec 32 := 0#32
  let c1_i32 : BitVec 32 := 1#32
  let arg15 : BitVec 32 := Scf.iv c0_i32_4 c1_i32 k0_t1
  let v33 : Index := Scalar.indexCast arg15
  ![0, v33.toNat]
def k0_off2 (k0_t1 : Fin k0_t1_loop.trips) : Fin 2 → Nat :=
  let c0_19 : Index := 0#32
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v36 : Index := Scalar.indexCast v32
  ![0, v36.toNat]
def k0_off3 (k0_t1 : Fin k0_t1_loop.trips) : Fin 3 → Nat :=
  let c0_i32_4 : BitVec 32 := 0#32
  let c1_i32 : BitVec 32 := 1#32
  let arg15 : BitVec 32 := Scf.iv c0_i32_4 c1_i32 k0_t1
  let v41 : Index := Scalar.indexCast arg15
  let c0_20 : Index := 0#32
  let c0_21 : Index := 0#32
  ![v41.toNat, 0, 0]
def k0_off4 (k0_t1 : Fin k0_t1_loop.trips) : Fin 2 → Nat :=
  let c1 : Index := 1#32
  let c0_i32_4 : BitVec 32 := 0#32
  let c1_i32 : BitVec 32 := 1#32
  let arg15 : BitVec 32 := Scf.iv c0_i32_4 c1_i32 k0_t1
  let v45 : Index := Scalar.indexCast arg15
  ![1, v45.toNat]
def k0_off5 (k0_t1 : Fin k0_t1_loop.trips) : Fin 2 → Nat :=
  let c128 : Index := 128#32
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v48 : Index := Scalar.indexCast v32
  ![128, v48.toNat]
def k0_off6 (k0_t1 : Fin k0_t1_loop.trips) : Fin 3 → Nat :=
  let c0_i32_4 : BitVec 32 := 0#32
  let c1_i32 : BitVec 32 := 1#32
  let arg15 : BitVec 32 := Scf.iv c0_i32_4 c1_i32 k0_t1
  let v53 : Index := Scalar.indexCast arg15
  let c128_22 : Index := 128#32
  let c0_23 : Index := 0#32
  ![v53.toNat, 128, 0]
def k0_off7 (k0_t1 : Fin k0_t1_loop.trips) : Fin 2 → Nat :=
  let c2 : Index := 2#32
  let c0_i32_4 : BitVec 32 := 0#32
  let c1_i32 : BitVec 32 := 1#32
  let arg15 : BitVec 32 := Scf.iv c0_i32_4 c1_i32 k0_t1
  let v57 : Index := Scalar.indexCast arg15
  ![2, v57.toNat]
def k0_off8 (k0_t1 : Fin k0_t1_loop.trips) : Fin 2 → Nat :=
  let c256 : Index := 256#32
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v60 : Index := Scalar.indexCast v32
  ![256, v60.toNat]
def k0_off9 (k0_t1 : Fin k0_t1_loop.trips) : Fin 3 → Nat :=
  let c0_i32_4 : BitVec 32 := 0#32
  let c1_i32 : BitVec 32 := 1#32
  let arg15 : BitVec 32 := Scf.iv c0_i32_4 c1_i32 k0_t1
  let v65 : Index := Scalar.indexCast arg15
  let c256_24 : Index := 256#32
  let c0_25 : Index := 0#32
  ![v65.toNat, 256, 0]
def k0_off10 (k0_t1 : Fin k0_t1_loop.trips) : Fin 2 → Nat :=
  let c3 : Index := 3#32
  let c0_i32_4 : BitVec 32 := 0#32
  let c1_i32 : BitVec 32 := 1#32
  let arg15 : BitVec 32 := Scf.iv c0_i32_4 c1_i32 k0_t1
  let v69 : Index := Scalar.indexCast arg15
  ![3, v69.toNat]
def k0_off11 (k0_t1 : Fin k0_t1_loop.trips) : Fin 2 → Nat :=
  let c384 : Index := 384#32
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v72 : Index := Scalar.indexCast v32
  ![384, v72.toNat]
def k0_off12 (k0_t1 : Fin k0_t1_loop.trips) : Fin 3 → Nat :=
  let c0_i32_4 : BitVec 32 := 0#32
  let c1_i32 : BitVec 32 := 1#32
  let arg15 : BitVec 32 := Scf.iv c0_i32_4 c1_i32 k0_t1
  let v77 : Index := Scalar.indexCast arg15
  let c384_26 : Index := 384#32
  let c0_27 : Index := 0#32
  ![v77.toNat, 384, 0]
def k0_off13 (k0_t1 : Fin k0_t1_loop.trips) : Fin 2 → Nat :=
  let c4 : Index := 4#32
  let c0_i32_4 : BitVec 32 := 0#32
  let c1_i32 : BitVec 32 := 1#32
  let arg15 : BitVec 32 := Scf.iv c0_i32_4 c1_i32 k0_t1
  let v81 : Index := Scalar.indexCast arg15
  ![4, v81.toNat]
def k0_off14 (k0_t1 : Fin k0_t1_loop.trips) : Fin 2 → Nat :=
  let c512 : Index := 512#32
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v84 : Index := Scalar.indexCast v32
  ![512, v84.toNat]
def k0_off15 (k0_t1 : Fin k0_t1_loop.trips) : Fin 3 → Nat :=
  let c0_i32_4 : BitVec 32 := 0#32
  let c1_i32 : BitVec 32 := 1#32
  let arg15 : BitVec 32 := Scf.iv c0_i32_4 c1_i32 k0_t1
  let v89 : Index := Scalar.indexCast arg15
  let c512_28 : Index := 512#32
  let c0_29 : Index := 0#32
  ![v89.toNat, 512, 0]
def k0_cond2 (i : grid0.Coords) : BitVec 1 :=
  let arg0 : BitVec 32 := BitVec.ofNat 32 (i 0).val
  let c32_i32 : BitVec 32 := 32#32
  let v4 : BitVec 1 := Scalar.cmpi .slt arg0 c32_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_4 : BitVec 32 := 0#32
  let c9_i32 : BitVec 32 := 9#32
  let v10 : BitVec 32 := Scalar.addi c0_i32_4 c9_i32
  let c1_i32 : BitVec 32 := 1#32
  ⟨c0_i32_4, v10, c1_i32⟩
def k0_mult2 (k0_t2 : Fin k0_t2_loop.trips) : BitVec 32 :=
  let c0_i32_4 : BitVec 32 := 0#32
  let c1_i32 : BitVec 32 := 1#32
  let arg15 : BitVec 32 := Scf.iv c0_i32_4 c1_i32 k0_t2
  let c64_i32 : BitVec 32 := 64#32
  let v70 : BitVec 32 := Scalar.muli arg15 c64_i32
  v70
def k0_off16 (k0_t2 : Fin k0_t2_loop.trips) : Fin 3 → Nat :=
  let c54 : Index := 54#32
  let c0_i32_4 : BitVec 32 := 0#32
  let c1_i32 : BitVec 32 := 1#32
  let arg15 : BitVec 32 := Scf.iv c0_i32_4 c1_i32 k0_t2
  let c64_i32 : BitVec 32 := 64#32
  let v70 : BitVec 32 := Scalar.muli arg15 c64_i32
  let v71 : BitVec 32 := v70
  let v72 : Index := Scalar.indexCast v71
  let c0_58 : Index := 0#32
  ![54, v72.toNat, 0]
def k0_off17 (k0_t2 : Fin k0_t2_loop.trips) : Fin 3 → Nat :=
  let c55 : Index := 55#32
  let c0_i32_4 : BitVec 32 := 0#32
  let c1_i32 : BitVec 32 := 1#32
  let arg15 : BitVec 32 := Scf.iv c0_i32_4 c1_i32 k0_t2
  let c64_i32 : BitVec 32 := 64#32
  let v70 : BitVec 32 := Scalar.muli arg15 c64_i32
  let v71 : BitVec 32 := v70
  let v75 : Index := Scalar.indexCast v71
  let c0_59 : Index := 0#32
  ![55, v75.toNat, 0]
def k0_off18 : Fin 3 → Nat :=
  let c27_i32 : BitVec 32 := 27#32
  let c2_i32_60 : BitVec 32 := 2#32
  let v79 : BitVec 32 := Scalar.remsi c27_i32 c2_i32_60
  let v80 : Index := Scalar.indexCast v79
  let c0_61 : Index := 0#32
  let c0_62 : Index := 0#32
  ![v80.toNat, 0, 0]
def k0_off19 (k0_t2 : Fin k0_t2_loop.trips) : Fin 2 → Nat :=
  let c0_i32_4 : BitVec 32 := 0#32
  let c1_i32 : BitVec 32 := 1#32
  let arg15 : BitVec 32 := Scf.iv c0_i32_4 c1_i32 k0_t2
  let c64_i32 : BitVec 32 := 64#32
  let v70 : BitVec 32 := Scalar.muli arg15 c64_i32
  let v71 : BitVec 32 := v70
  let v83 : Index := Scalar.indexCast v71
  let c0_63 : Index := 0#32
  ![v83.toNat, 0]
def k0_off20 : Fin 3 → Nat :=
  let c27_i32_66 : BitVec 32 := 27#32
  let c2_i32_67 : BitVec 32 := 2#32
  let v91 : BitVec 32 := Scalar.remsi c27_i32_66 c2_i32_67
  let v92 : Index := Scalar.indexCast v91
  let c256_68 : Index := 256#32
  let c0_69 : Index := 0#32
  ![v92.toNat, 256, 0]
def k0_off21 (k0_t2 : Fin k0_t2_loop.trips) : Fin 2 → Nat :=
  let c0_i32_4 : BitVec 32 := 0#32
  let c1_i32 : BitVec 32 := 1#32
  let arg15 : BitVec 32 := Scf.iv c0_i32_4 c1_i32 k0_t2
  let c64_i32 : BitVec 32 := 64#32
  let v70 : BitVec 32 := Scalar.muli arg15 c64_i32
  let v71 : BitVec 32 := v70
  let v95 : Index := Scalar.indexCast v71
  let c256_70 : Index := 256#32
  ![v95.toNat, 256]
@[reducible] def k0_t3_loop : Scf.Loop 32 :=
  let c0_i32_6 : BitVec 32 := 0#32
  let c32_i32_7 : BitVec 32 := 32#32
  let v11 : BitVec 32 := Scalar.addi c0_i32_6 c32_i32_7
  let c1_i32_8 : BitVec 32 := 1#32
  ⟨c0_i32_6, v11, c1_i32_8⟩
def k0_mult3 (k0_t3 : Fin k0_t3_loop.trips) : BitVec 32 :=
  let c0_i32_6 : BitVec 32 := 0#32
  let c1_i32_8 : BitVec 32 := 1#32
  let arg15 : BitVec 32 := Scf.iv c0_i32_6 c1_i32_8 k0_t3
  let c2_i32_59 : BitVec 32 := 2#32
  let v71 : BitVec 32 := Scalar.divsi arg15 c2_i32_59
  let c32_i32_60 : BitVec 32 := 32#32
  let v72 : BitVec 32 := Scalar.muli v71 c32_i32_60
  v72
def k0_mult4 (k0_t3 : Fin k0_t3_loop.trips) : BitVec 32 :=
  let c0_i32_6 : BitVec 32 := 0#32
  let c1_i32_8 : BitVec 32 := 1#32
  let arg15 : BitVec 32 := Scf.iv c0_i32_6 c1_i32_8 k0_t3
  let c2_i32_61 : BitVec 32 := 2#32
  let v74 : BitVec 32 := Scalar.divsi arg15 c2_i32_61
  let c16_i32 : BitVec 32 := 16#32
  let v75 : BitVec 32 := Scalar.muli v74 c16_i32
  v75
def k0_mult5 (k0_t3 : Fin k0_t3_loop.trips) : BitVec 32 :=
  let c0_i32_62 : BitVec 32 := 0#32
  let c0_i32_6 : BitVec 32 := 0#32
  let c1_i32_8 : BitVec 32 := 1#32
  let arg15 : BitVec 32 := Scf.iv c0_i32_6 c1_i32_8 k0_t3
  let c2_i32_58 : BitVec 32 := 2#32
  let v70 : BitVec 32 := Scalar.remsi arg15 c2_i32_58
  let v77 : BitVec 32 := Scalar.addi c0_i32_62 v70
  let c128_i32 : BitVec 32 := 128#32
  let v78 : BitVec 32 := Scalar.muli v77 c128_i32
  v78
def k0_off22 (k0_t3 : Fin k0_t3_loop.trips) : Fin 2 → Nat :=
  let c0_i32_6 : BitVec 32 := 0#32
  let c1_i32_8 : BitVec 32 := 1#32
  let arg15 : BitVec 32 := Scf.iv c0_i32_6 c1_i32_8 k0_t3
  let c2_i32_59 : BitVec 32 := 2#32
  let v71 : BitVec 32 := Scalar.divsi arg15 c2_i32_59
  let c32_i32_60 : BitVec 32 := 32#32
  let v72 : BitVec 32 := Scalar.muli v71 c32_i32_60
  let v73 : BitVec 32 := v72
  let v80 : Index := Scalar.indexCast v73
  let c0_i32_62 : BitVec 32 := 0#32
  let c2_i32_58 : BitVec 32 := 2#32
  let v70 : BitVec 32 := Scalar.remsi arg15 c2_i32_58
  let v77 : BitVec 32 := Scalar.addi c0_i32_62 v70
  let c128_i32 : BitVec 32 := 128#32
  let v78 : BitVec 32 := Scalar.muli v77 c128_i32
  let v79 : BitVec 32 := v78
  let v81 : Index := Scalar.indexCast v79
  ![v80.toNat, v81.toNat]
def k0_mult6 (k0_t3 : Fin k0_t3_loop.trips) : BitVec 32 :=
  let c0_i32_6 : BitVec 32 := 0#32
  let c1_i32_8 : BitVec 32 := 1#32
  let arg15 : BitVec 32 := Scf.iv c0_i32_6 c1_i32_8 k0_t3
  let c2_i32_58 : BitVec 32 := 2#32
  let v70 : BitVec 32 := Scalar.remsi arg15 c2_i32_58
  let c128_i32_76 : BitVec 32 := 128#32
  let v168 : BitVec 32 := Scalar.muli v70 c128_i32_76
  v168
def k0_off23 (k0_t3 : Fin k0_t3_loop.trips) : Fin 3 → Nat :=
  let c0_i32_74 : BitVec 32 := 0#32
  let c2_i32_75 : BitVec 32 := 2#32
  let v167 : BitVec 32 := Scalar.remsi c0_i32_74 c2_i32_75
  let v170 : Index := Scalar.indexCast v167
  let c0_i32_6 : BitVec 32 := 0#32
  let c1_i32_8 : BitVec 32 := 1#32
  let arg15 : BitVec 32 := Scf.iv c0_i32_6 c1_i32_8 k0_t3
  let c2_i32_59 : BitVec 32 := 2#32
  let v71 : BitVec 32 := Scalar.divsi arg15 c2_i32_59
  let c32_i32_60 : BitVec 32 := 32#32
  let v72 : BitVec 32 := Scalar.muli v71 c32_i32_60
  let v73 : BitVec 32 := v72
  let v171 : Index := Scalar.indexCast v73
  let c2_i32_58 : BitVec 32 := 2#32
  let v70 : BitVec 32 := Scalar.remsi arg15 c2_i32_58
  let c128_i32_76 : BitVec 32 := 128#32
  let v168 : BitVec 32 := Scalar.muli v70 c128_i32_76
  let v169 : BitVec 32 := v168
  let v172 : Index := Scalar.indexCast v169
  ![v170.toNat, v171.toNat, v172.toNat]
def k0_off24 (k0_t3 : Fin k0_t3_loop.trips) (c0_i32_77 : BitVec 32) : Fin 2 → Nat :=
  let c0_i32_6 : BitVec 32 := 0#32
  let c1_i32_8 : BitVec 32 := 1#32
  let arg15 : BitVec 32 := Scf.iv c0_i32_6 c1_i32_8 k0_t3
  let c2_i32_61 : BitVec 32 := 2#32
  let v74 : BitVec 32 := Scalar.divsi arg15 c2_i32_61
  let c16_i32 : BitVec 32 := 16#32
  let v75 : BitVec 32 := Scalar.muli v74 c16_i32
  let v76 : BitVec 32 := v75
  let v177 : BitVec 32 := Scalar.addi v76 c0_i32_77
  let v181 : Index := Scalar.indexCast v177
  let c0_78 : Index := 0#32
  ![v181.toNat, 0]
@[reducible] def k0_t4_loop : Scf.Loop 32 :=
  let c0_i32_10 : BitVec 32 := 0#32
  let c8_i32 : BitVec 32 := 8#32
  let v13 : BitVec 32 := Scalar.addi c0_i32_10 c8_i32
  let c1_i32_11 : BitVec 32 := 1#32
  ⟨c0_i32_10, v13, c1_i32_11⟩
def k0_mult7 (k0_t4 : Fin k0_t4_loop.trips) : BitVec 32 :=
  let c0_i32_10 : BitVec 32 := 0#32
  let c1_i32_11 : BitVec 32 := 1#32
  let arg15 : BitVec 32 := Scf.iv c0_i32_10 c1_i32_11 k0_t4
  let c64_i32 : BitVec 32 := 64#32
  let v70 : BitVec 32 := Scalar.muli arg15 c64_i32
  v70
def k0_off25 (k0_t4 : Fin k0_t4_loop.trips) : Fin 2 → Nat :=
  let c0_i32_10 : BitVec 32 := 0#32
  let c1_i32_11 : BitVec 32 := 1#32
  let arg15 : BitVec 32 := Scf.iv c0_i32_10 c1_i32_11 k0_t4
  let c64_i32 : BitVec 32 := 64#32
  let v70 : BitVec 32 := Scalar.muli arg15 c64_i32
  let v71 : BitVec 32 := v70
  let v72 : Index := Scalar.indexCast v71
  let c0_58 : Index := 0#32
  ![v72.toNat, 0]
def k0_off26 (k0_t4 : Fin k0_t4_loop.trips) : Fin 2 → Nat :=
  let c0_i32_10 : BitVec 32 := 0#32
  let c1_i32_11 : BitVec 32 := 1#32
  let arg15 : BitVec 32 := Scf.iv c0_i32_10 c1_i32_11 k0_t4
  let c64_i32 : BitVec 32 := 64#32
  let v70 : BitVec 32 := Scalar.muli arg15 c64_i32
  let v71 : BitVec 32 := v70
  let v79 : Index := Scalar.indexCast v71
  let c0_61 : Index := 0#32
  ![v79.toNat, 0]
@[reducible] def k0_t5_loop : Scf.Loop 32 :=
  let c0_i32_20 : BitVec 32 := 0#32
  let c8_i32_21 : BitVec 32 := 8#32
  let v25 : BitVec 32 := Scalar.addi c0_i32_20 c8_i32_21
  let c1_i32_22 : BitVec 32 := 1#32
  ⟨c0_i32_20, v25, c1_i32_22⟩
def k0_mult8 (k0_t5 : Fin k0_t5_loop.trips) : BitVec 32 :=
  let c0_i32_20 : BitVec 32 := 0#32
  let c1_i32_22 : BitVec 32 := 1#32
  let arg15 : BitVec 32 := Scf.iv c0_i32_20 c1_i32_22 k0_t5
  let c64_i32 : BitVec 32 := 64#32
  let v70 : BitVec 32 := Scalar.muli arg15 c64_i32
  v70
def k0_off27 (k0_t5 : Fin k0_t5_loop.trips) : Fin 2 → Nat :=
  let c0_i32_20 : BitVec 32 := 0#32
  let c1_i32_22 : BitVec 32 := 1#32
  let arg15 : BitVec 32 := Scf.iv c0_i32_20 c1_i32_22 k0_t5
  let c64_i32 : BitVec 32 := 64#32
  let v70 : BitVec 32 := Scalar.muli arg15 c64_i32
  let v71 : BitVec 32 := v70
  let v72 : Index := Scalar.indexCast v71
  let c256_58 : Index := 256#32
  ![v72.toNat, 256]
def k0_off28 (k0_t5 : Fin k0_t5_loop.trips) : Fin 2 → Nat :=
  let c0_i32_20 : BitVec 32 := 0#32
  let c1_i32_22 : BitVec 32 := 1#32
  let arg15 : BitVec 32 := Scf.iv c0_i32_20 c1_i32_22 k0_t5
  let c64_i32 : BitVec 32 := 64#32
  let v70 : BitVec 32 := Scalar.muli arg15 c64_i32
  let v71 : BitVec 32 := v70
  let v79 : Index := Scalar.indexCast v71
  let c256_61 : Index := 256#32
  ![v79.toNat, 256]
@[reducible] def k0_t6_loop : Scf.Loop 32 :=
  let c0_i32_31 : BitVec 32 := 0#32
  let c9_i32_32 : BitVec 32 := 9#32
  let v37 : BitVec 32 := Scalar.addi c0_i32_31 c9_i32_32
  let c1_i32_33 : BitVec 32 := 1#32
  ⟨c0_i32_31, v37, c1_i32_33⟩
def k0_mult9 (k0_t6 : Fin k0_t6_loop.trips) : BitVec 32 :=
  let c0_i32_31 : BitVec 32 := 0#32
  let c1_i32_33 : BitVec 32 := 1#32
  let arg15 : BitVec 32 := Scf.iv c0_i32_31 c1_i32_33 k0_t6
  let c64_i32 : BitVec 32 := 64#32
  let v70 : BitVec 32 := Scalar.muli arg15 c64_i32
  v70
def k0_off29 (k0_t6 : Fin k0_t6_loop.trips) : Fin 3 → Nat :=
  let c0_58 : Index := 0#32
  let c0_i32_31 : BitVec 32 := 0#32
  let c1_i32_33 : BitVec 32 := 1#32
  let arg15 : BitVec 32 := Scf.iv c0_i32_31 c1_i32_33 k0_t6
  let c64_i32 : BitVec 32 := 64#32
  let v70 : BitVec 32 := Scalar.muli arg15 c64_i32
  let v71 : BitVec 32 := v70
  let v72 : Index := Scalar.indexCast v71
  let c0_59 : Index := 0#32
  ![0, v72.toNat, 0]
def k0_off30 (k0_t6 : Fin k0_t6_loop.trips) : Fin 3 → Nat :=
  let c1 : Index := 1#32
  let c0_i32_31 : BitVec 32 := 0#32
  let c1_i32_33 : BitVec 32 := 1#32
  let arg15 : BitVec 32 := Scf.iv c0_i32_31 c1_i32_33 k0_t6
  let c64_i32 : BitVec 32 := 64#32
  let v70 : BitVec 32 := Scalar.muli arg15 c64_i32
  let v71 : BitVec 32 := v70
  let v75 : Index := Scalar.indexCast v71
  let c0_60 : Index := 0#32
  ![1, v75.toNat, 0]
def k0_off31 : Fin 3 → Nat :=
  let c0_i32_61 : BitVec 32 := 0#32
  let c2_i32_62 : BitVec 32 := 2#32
  let v79 : BitVec 32 := Scalar.remsi c0_i32_61 c2_i32_62
  let v80 : Index := Scalar.indexCast v79
  let c0_63 : Index := 0#32
  let c0_64 : Index := 0#32
  ![v80.toNat, 0, 0]
def k0_off32 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let c64_i32 : BitVec 32 := 64#32
  let v70 : BitVec 32 := Scalar.muli arg15 c64_i32
  let v71 : BitVec 32 := v70
  let v83 : Index := Scalar.indexCast v71
  let c0_65 : Index := 0#32
  ![v83.toNat, 0]
def k0_off33 : Fin 3 → Nat :=
  let c0_i32_68 : BitVec 32 := 0#32
  let c2_i32_69 : BitVec 32 := 2#32
  let v91 : BitVec 32 := Scalar.remsi c0_i32_68 c2_i32_69
  let v92 : Index := Scalar.indexCast v91
  let c256_70 : Index := 256#32
  let c0_71 : Index := 0#32
  ![v92.toNat, 256, 0]
def k0_off34 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let c64_i32 : BitVec 32 := 64#32
  let v70 : BitVec 32 := Scalar.muli arg15 c64_i32
  let v71 : BitVec 32 := v70
  let v95 : Index := Scalar.indexCast v71
  let c256_72 : Index := 256#32
  ![v95.toNat, 256]
@[reducible] def k0_t7_loop : Scf.Loop 32 :=
  let c0_i32_35 : BitVec 32 := 0#32
  let c32_i32_36 : BitVec 32 := 32#32
  let v38 : BitVec 32 := Scalar.addi c0_i32_35 c32_i32_36
  let c1_i32_37 : BitVec 32 := 1#32
  ⟨c0_i32_35, v38, c1_i32_37⟩
def k0_mult10 (k0_t7 : Fin k0_t7_loop.trips) : BitVec 32 :=
  let c0_i32_35 : BitVec 32 := 0#32
  let c1_i32_37 : BitVec 32 := 1#32
  let arg15 : BitVec 32 := Scf.iv c0_i32_35 c1_i32_37 k0_t7
  let c2_i32_59 : BitVec 32 := 2#32
  let v71 : BitVec 32 := Scalar.divsi arg15 c2_i32_59
  let c32_i32_60 : BitVec 32 := 32#32
  let v72 : BitVec 32 := Scalar.muli v71 c32_i32_60
  v72
def k0_mult11 (k0_t7 : Fin k0_t7_loop.trips) : BitVec 32 :=
  let c0_i32_35 : BitVec 32 := 0#32
  let c1_i32_37 : BitVec 32 := 1#32
  let arg15 : BitVec 32 := Scf.iv c0_i32_35 c1_i32_37 k0_t7
  let c2_i32_61 : BitVec 32 := 2#32
  let v74 : BitVec 32 := Scalar.divsi arg15 c2_i32_61
  let c16_i32 : BitVec 32 := 16#32
  let v75 : BitVec 32 := Scalar.muli v74 c16_i32
  v75
def k0_mult12 (k0_t7 : Fin k0_t7_loop.trips) : BitVec 32 :=
  let c2_i32_62 : BitVec 32 := 2#32
  let c0_i32_35 : BitVec 32 := 0#32
  let c1_i32_37 : BitVec 32 := 1#32
  let arg15 : BitVec 32 := Scf.iv c0_i32_35 c1_i32_37 k0_t7
  let c2_i32_58 : BitVec 32 := 2#32
  let v70 : BitVec 32 := Scalar.remsi arg15 c2_i32_58
  let v77 : BitVec 32 := Scalar.addi c2_i32_62 v70
  let c128_i32 : BitVec 32 := 128#32
  let v78 : BitVec 32 := Scalar.muli v77 c128_i32
  v78
def k0_off35 (k0_t7 : Fin k0_t7_loop.trips) : Fin 2 → Nat :=
  let c0_i32_35 : BitVec 32 := 0#32
  let c1_i32_37 : BitVec 32 := 1#32
  let arg15 : BitVec 32 := Scf.iv c0_i32_35 c1_i32_37 k0_t7
  let c2_i32_59 : BitVec 32 := 2#32
  let v71 : BitVec 32 := Scalar.divsi arg15 c2_i32_59
  let c32_i32_60 : BitVec 32 := 32#32
  let v72 : BitVec 32 := Scalar.muli v71 c32_i32_60
  let v73 : BitVec 32 := v72
  let v80 : Index := Scalar.indexCast v73
  let c2_i32_62 : BitVec 32 := 2#32
  let c2_i32_58 : BitVec 32 := 2#32
  let v70 : BitVec 32 := Scalar.remsi arg15 c2_i32_58
  let v77 : BitVec 32 := Scalar.addi c2_i32_62 v70
  let c128_i32 : BitVec 32 := 128#32
  let v78 : BitVec 32 := Scalar.muli v77 c128_i32
  let v79 : BitVec 32 := v78
  let v81 : Index := Scalar.indexCast v79
  ![v80.toNat, v81.toNat]
def k0_mult13 (k0_t7 : Fin k0_t7_loop.trips) : BitVec 32 :=
  let c0_i32_35 : BitVec 32 := 0#32
  let c1_i32_37 : BitVec 32 := 1#32
  let arg15 : BitVec 32 := Scf.iv c0_i32_35 c1_i32_37 k0_t7
  let c2_i32_58 : BitVec 32 := 2#32
  let v70 : BitVec 32 := Scalar.remsi arg15 c2_i32_58
  let c128_i32_76 : BitVec 32 := 128#32
  let v168 : BitVec 32 := Scalar.muli v70 c128_i32_76
  v168
def k0_off36 (k0_t7 : Fin k0_t7_loop.trips) : Fin 3 → Nat :=
  let c1_i32_74 : BitVec 32 := 1#32
  let c2_i32_75 : BitVec 32 := 2#32
  let v167 : BitVec 32 := Scalar.remsi c1_i32_74 c2_i32_75
  let v170 : Index := Scalar.indexCast v167
  let c0_i32_35 : BitVec 32 := 0#32
  let c1_i32_37 : BitVec 32 := 1#32
  let arg15 : BitVec 32 := Scf.iv c0_i32_35 c1_i32_37 k0_t7
  let c2_i32_59 : BitVec 32 := 2#32
  let v71 : BitVec 32 := Scalar.divsi arg15 c2_i32_59
  let c32_i32_60 : BitVec 32 := 32#32
  let v72 : BitVec 32 := Scalar.muli v71 c32_i32_60
  let v73 : BitVec 32 := v72
  let v171 : Index := Scalar.indexCast v73
  let c2_i32_58 : BitVec 32 := 2#32
  let v70 : BitVec 32 := Scalar.remsi arg15 c2_i32_58
  let c128_i32_76 : BitVec 32 := 128#32
  let v168 : BitVec 32 := Scalar.muli v70 c128_i32_76
  let v169 : BitVec 32 := v168
  let v172 : Index := Scalar.indexCast v169
  ![v170.toNat, v171.toNat, v172.toNat]
def k0_off37 (k0_t7 : Fin k0_t7_loop.trips) (c0_i32_77 : BitVec 32) : Fin 2 → Nat :=
  let c0_i32_35 : BitVec 32 := 0#32
  let c1_i32_37 : BitVec 32 := 1#32
  let arg15 : BitVec 32 := Scf.iv c0_i32_35 c1_i32_37 k0_t7
  let c2_i32_61 : BitVec 32 := 2#32
  let v74 : BitVec 32 := Scalar.divsi arg15 c2_i32_61
  let c16_i32 : BitVec 32 := 16#32
  let v75 : BitVec 32 := Scalar.muli v74 c16_i32
  let v76 : BitVec 32 := v75
  let v177 : BitVec 32 := Scalar.addi v76 c0_i32_77
  let v181 : Index := Scalar.indexCast v177
  let c0_78 : Index := 0#32
  ![v181.toNat, 0]
@[reducible] def k0_t8_loop : Scf.Loop 32 :=
  let c0_i32_41 : BitVec 32 := 0#32
  let c4_i32 : BitVec 32 := 4#32
  let v44 : BitVec 32 := Scalar.addi c0_i32_41 c4_i32
  let c1_i32_42 : BitVec 32 := 1#32
  ⟨c0_i32_41, v44, c1_i32_42⟩
def k0_mult14 (k0_t8 : Fin k0_t8_loop.trips) : BitVec 32 :=
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  v70
def k0_off38 (k0_t8 : Fin k0_t8_loop.trips) : Fin 2 → Nat :=
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v72 : Index := Scalar.indexCast v71
  let c0_58 : Index := 0#32
  ![v72.toNat, 0]
def k0_off39 (k0_t8 : Fin k0_t8_loop.trips) : Fin 2 → Nat :=
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v77 : Index := Scalar.indexCast v71
  let c0_59 : Index := 0#32
  ![v77.toNat, 0]
def k0_off40 (k0_t8 : Fin k0_t8_loop.trips) : Fin 2 → Nat :=
  let c0_60 : Index := 0#32
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v82 : Index := Scalar.indexCast v71
  ![0, v82.toNat]
def k0_off41 (k0_t8 : Fin k0_t8_loop.trips) : Fin 2 → Nat :=
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v84 : Index := Scalar.indexCast v71
  let c128_61 : Index := 128#32
  ![v84.toNat, 128]
def k0_off42 (k0_t8 : Fin k0_t8_loop.trips) : Fin 2 → Nat :=
  let c128_63 : Index := 128#32
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v94 : Index := Scalar.indexCast v71
  ![128, v94.toNat]
def k0_off43 (k0_t8 : Fin k0_t8_loop.trips) : Fin 2 → Nat :=
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v96 : Index := Scalar.indexCast v71
  let c256_64 : Index := 256#32
  ![v96.toNat, 256]
def k0_off44 (k0_t8 : Fin k0_t8_loop.trips) : Fin 2 → Nat :=
  let c256_66 : Index := 256#32
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v106 : Index := Scalar.indexCast v71
  ![256, v106.toNat]
def k0_off45 (k0_t8 : Fin k0_t8_loop.trips) : Fin 2 → Nat :=
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v108 : Index := Scalar.indexCast v71
  let c384_67 : Index := 384#32
  ![v108.toNat, 384]
def k0_off46 (k0_t8 : Fin k0_t8_loop.trips) : Fin 2 → Nat :=
  let c384_69 : Index := 384#32
  let c0_i32_41 : BitVec 32 := 0#32
  let c1_i32_42 : BitVec 32 := 1#32
  let arg15 : BitVec 32 := Scf.iv c0_i32_41 c1_i32_42 k0_t8
  let c128_i32 : BitVec 32 := 128#32
  let v70 : BitVec 32 := Scalar.muli arg15 c128_i32
  let v71 : BitVec 32 := v70
  let v118 : Index := Scalar.indexCast v71
  ![384, v118.toNat]
@[reducible] def k0_t9_loop : Scf.Loop 32 :=
  let c2_i32 : BitVec 32 := 2#32
  let c26_i32 : BitVec 32 := 26#32
  let v45 : BitVec 32 := Scalar.addi c2_i32 c26_i32
  let c1_i32_44 : BitVec 32 := 1#32
  ⟨c2_i32, v45, c1_i32_44⟩
@[reducible] def k0_t10_loop : Scf.Loop 32 :=
  let c0_i32_59 : BitVec 32 := 0#32
  let c9_i32_60 : BitVec 32 := 9#32
  let v71 : BitVec 32 := Scalar.addi c0_i32_59 c9_i32_60
  let c1_i32_61 : BitVec 32 := 1#32
  ⟨c0_i32_59, v71, c1_i32_61⟩
def k0_mult15 (k0_t10 : Fin k0_t10_loop.trips) : BitVec 32 :=
  let c0_i32_59 : BitVec 32 := 0#32
  let c1_i32_61 : BitVec 32 := 1#32
  let arg16 : BitVec 32 := Scf.iv c0_i32_59 c1_i32_61 k0_t10
  let c64_i32 : BitVec 32 := 64#32
  let v73 : BitVec 32 := Scalar.muli arg16 c64_i32
  v73
def k0_off47 (k0_t9 : Fin k0_t9_loop.trips) (k0_t10 : Fin k0_t10_loop.trips) : Fin 3 → Nat :=
  let c2_i32_67 : BitVec 32 := 2#32
  let c2_i32 : BitVec 32 := 2#32
  let c1_i32_44 : BitVec 32 := 1#32
  let arg15 : BitVec 32 := Scf.iv c2_i32 c1_i32_44 k0_t9
  let c1_i32_58 : BitVec 32 := 1#32
  let v70 : BitVec 32 := Scalar.subi arg15 c1_i32_58
  let v75 : BitVec 32 := Scalar.muli c2_i32_67 v70
  let v76 : Index := Scalar.indexCast v75
  let c0_i32_59 : BitVec 32 := 0#32
  let c1_i32_61 : BitVec 32 := 1#32
  let arg16 : BitVec 32 := Scf.iv c0_i32_59 c1_i32_61 k0_t10
  let c64_i32 : BitVec 32 := 64#32
  let v73 : BitVec 32 := Scalar.muli arg16 c64_i32
  let v74 : BitVec 32 := v73
  let v77 : Index := Scalar.indexCast v74
  let c0_68 : Index := 0#32
  ![v76.toNat, v77.toNat, 0]
def k0_off48 (k0_t9 : Fin k0_t9_loop.trips) (k0_t10 : Fin k0_t10_loop.trips) : Fin 3 → Nat :=
  let c2_i32_69 : BitVec 32 := 2#32
  let c2_i32 : BitVec 32 := 2#32
  let c1_i32_44 : BitVec 32 := 1#32
  let arg15 : BitVec 32 := Scf.iv c2_i32 c1_i32_44 k0_t9
  let c1_i32_58 : BitVec 32 := 1#32
  let v70 : BitVec 32 := Scalar.subi arg15 c1_i32_58
  let v80 : BitVec 32 := Scalar.muli c2_i32_69 v70
  let c1_i32_70 : BitVec 32 := 1#32
  let v81 : BitVec 32 := Scalar.addi v80 c1_i32_70
  let v82 : Index := Scalar.indexCast v81
  let c0_i32_59 : BitVec 32 := 0#32
  let c1_i32_61 : BitVec 32 := 1#32
  let arg16 : BitVec 32 := Scf.iv c0_i32_59 c1_i32_61 k0_t10
  let c64_i32 : BitVec 32 := 64#32
  let v73 : BitVec 32 := Scalar.muli arg16 c64_i32
  let v74 : BitVec 32 := v73
  let v83 : Index := Scalar.indexCast v74
  let c0_71 : Index := 0#32
  ![v82.toNat, v83.toNat, 0]
def k0_off49 (k0_t9 : Fin k0_t9_loop.trips) : Fin 3 → Nat :=
  let c2_i32 : BitVec 32 := 2#32
  let c1_i32_44 : BitVec 32 := 1#32
  let arg15 : BitVec 32 := Scf.iv c2_i32 c1_i32_44 k0_t9
  let c1_i32_58 : BitVec 32 := 1#32
  let v70 : BitVec 32 := Scalar.subi arg15 c1_i32_58
  let c2_i32_72 : BitVec 32 := 2#32
  let v87 : BitVec 32 := Scalar.remsi v70 c2_i32_72
  let v88 : Index := Scalar.indexCast v87
  let c0_73 : Index := 0#32
  let c0_74 : Index := 0#32
  ![v88.toNat, 0, 0]
def k0_off50 (k0_t10 : Fin k0_t10_loop.trips) : Fin 2 → Nat :=
  let c0_i32_59 : BitVec 32 := 0#32
  let c1_i32_61 : BitVec 32 := 1#32
  let arg16 : BitVec 32 := Scf.iv c0_i32_59 c1_i32_61 k0_t10
  let c64_i32 : BitVec 32 := 64#32
  let v73 : BitVec 32 := Scalar.muli arg16 c64_i32
  let v74 : BitVec 32 := v73
  let v91 : Index := Scalar.indexCast v74
  let c0_75 : Index := 0#32
  ![v91.toNat, 0]
def k0_off51 (k0_t9 : Fin k0_t9_loop.trips) : Fin 3 → Nat :=
  let c2_i32 : BitVec 32 := 2#32
  let c1_i32_44 : BitVec 32 := 1#32
  let arg15 : BitVec 32 := Scf.iv c2_i32 c1_i32_44 k0_t9
  let c1_i32_58 : BitVec 32 := 1#32
  let v70 : BitVec 32 := Scalar.subi arg15 c1_i32_58
  let c2_i32_78 : BitVec 32 := 2#32
  let v99 : BitVec 32 := Scalar.remsi v70 c2_i32_78
  let v100 : Index := Scalar.indexCast v99
  let c256_79 : Index := 256#32
  let c0_80 : Index := 0#32
  ![v100.toNat, 256, 0]
def k0_off52 (k0_t10 : Fin k0_t10_loop.trips) : Fin 2 → Nat :=
  let c0_i32_59 : BitVec 32 := 0#32
  let c1_i32_61 : BitVec 32 := 1#32
  let arg16 : BitVec 32 := Scf.iv c0_i32_59 c1_i32_61 k0_t10
  let c64_i32 : BitVec 32 := 64#32
  let v73 : BitVec 32 := Scalar.muli arg16 c64_i32
  let v74 : BitVec 32 := v73
  let v103 : Index := Scalar.indexCast v74
  let c256_81 : Index := 256#32
  ![v103.toNat, 256]
@[reducible] def k0_t11_loop : Scf.Loop 32 :=
  let c0_i32_63 : BitVec 32 := 0#32
  let c32_i32_64 : BitVec 32 := 32#32
  let v72 : BitVec 32 := Scalar.addi c0_i32_63 c32_i32_64
  let c1_i32_65 : BitVec 32 := 1#32
  ⟨c0_i32_63, v72, c1_i32_65⟩
def k0_mult16 (k0_t11 : Fin k0_t11_loop.trips) : BitVec 32 :=
  let c0_i32_63 : BitVec 32 := 0#32
  let c1_i32_65 : BitVec 32 := 1#32
  let arg16 : BitVec 32 := Scf.iv c0_i32_63 c1_i32_65 k0_t11
  let c2_i32_68 : BitVec 32 := 2#32
  let v74 : BitVec 32 := Scalar.divsi arg16 c2_i32_68
  let c32_i32_69 : BitVec 32 := 32#32
  let v75 : BitVec 32 := Scalar.muli v74 c32_i32_69
  v75
def k0_mult17 (k0_t11 : Fin k0_t11_loop.trips) : BitVec 32 :=
  let c0_i32_63 : BitVec 32 := 0#32
  let c1_i32_65 : BitVec 32 := 1#32
  let arg16 : BitVec 32 := Scf.iv c0_i32_63 c1_i32_65 k0_t11
  let c2_i32_70 : BitVec 32 := 2#32
  let v77 : BitVec 32 := Scalar.divsi arg16 c2_i32_70
  let c16_i32 : BitVec 32 := 16#32
  let v78 : BitVec 32 := Scalar.muli v77 c16_i32
  v78
def k0_mult18 (k0_t9 : Fin k0_t9_loop.trips) (k0_t11 : Fin k0_t11_loop.trips) : BitVec 32 :=
  let c2_i32_71 : BitVec 32 := 2#32
  let c2_i32 : BitVec 32 := 2#32
  let c1_i32_44 : BitVec 32 := 1#32
  let arg15 : BitVec 32 := Scf.iv c2_i32 c1_i32_44 k0_t9
  let v80 : BitVec 32 := Scalar.muli c2_i32_71 arg15
  let c0_i32_63 : BitVec 32 := 0#32
  let c1_i32_65 : BitVec 32 := 1#32
  let arg16 : BitVec 32 := Scf.iv c0_i32_63 c1_i32_65 k0_t11
  let c2_i32_67 : BitVec 32 := 2#32
  let v73 : BitVec 32 := Scalar.remsi arg16 c2_i32_67
  let v81 : BitVec 32 := Scalar.addi v80 v73
  let c128_i32 : BitVec 32 := 128#32
  let v82 : BitVec 32 := Scalar.muli v81 c128_i32
  v82
def k0_off53 (k0_t9 : Fin k0_t9_loop.trips) (k0_t11 : Fin k0_t11_loop.trips) : Fin 2 → Nat :=
  let c0_i32_63 : BitVec 32 := 0#32
  let c1_i32_65 : BitVec 32 := 1#32
  let arg16 : BitVec 32 := Scf.iv c0_i32_63 c1_i32_65 k0_t11
  let c2_i32_68 : BitVec 32 := 2#32
  let v74 : BitVec 32 := Scalar.divsi arg16 c2_i32_68
  let c32_i32_69 : BitVec 32 := 32#32
  let v75 : BitVec 32 := Scalar.muli v74 c32_i32_69
  let v76 : BitVec 32 := v75
  let v84 : Index := Scalar.indexCast v76
  let c2_i32_71 : BitVec 32 := 2#32
  let c2_i32 : BitVec 32 := 2#32
  let c1_i32_44 : BitVec 32 := 1#32
  let arg15 : BitVec 32 := Scf.iv c2_i32 c1_i32_44 k0_t9
  let v80 : BitVec 32 := Scalar.muli c2_i32_71 arg15
  let c2_i32_67 : BitVec 32 := 2#32
  let v73 : BitVec 32 := Scalar.remsi arg16 c2_i32_67
  let v81 : BitVec 32 := Scalar.addi v80 v73
  let c128_i32 : BitVec 32 := 128#32
  let v82 : BitVec 32 := Scalar.muli v81 c128_i32
  let v83 : BitVec 32 := v82
  let v85 : Index := Scalar.indexCast v83
  ![v84.toNat, v85.toNat]
def k0_mult19 (k0_t11 : Fin k0_t11_loop.trips) : BitVec 32 :=
  let c0_i32_63 : BitVec 32 := 0#32
  let c1_i32_65 : BitVec 32 := 1#32
  let arg16 : BitVec 32 := Scf.iv c0_i32_63 c1_i32_65 k0_t11
  let c2_i32_67 : BitVec 32 := 2#32
  let v73 : BitVec 32 := Scalar.remsi arg16 c2_i32_67
  let c128_i32_84 : BitVec 32 := 128#32
  let v172 : BitVec 32 := Scalar.muli v73 c128_i32_84
  v172
def k0_off54 (k0_t9 : Fin k0_t9_loop.trips) (k0_t11 : Fin k0_t11_loop.trips) : Fin 3 → Nat :=
  let c2_i32 : BitVec 32 := 2#32
  let c1_i32_44 : BitVec 32 := 1#32
  let arg15 : BitVec 32 := Scf.iv c2_i32 c1_i32_44 k0_t9
  let c2_i32_83 : BitVec 32 := 2#32
  let v171 : BitVec 32 := Scalar.remsi arg15 c2_i32_83
  let v174 : Index := Scalar.indexCast v171
  let c0_i32_63 : BitVec 32 := 0#32
  let c1_i32_65 : BitVec 32 := 1#32
  let arg16 : BitVec 32 := Scf.iv c0_i32_63 c1_i32_65 k0_t11
  let c2_i32_68 : BitVec 32 := 2#32
  let v74 : BitVec 32 := Scalar.divsi arg16 c2_i32_68
  let c32_i32_69 : BitVec 32 := 32#32
  let v75 : BitVec 32 := Scalar.muli v74 c32_i32_69
  let v76 : BitVec 32 := v75
  let v175 : Index := Scalar.indexCast v76
  let c2_i32_67 : BitVec 32 := 2#32
  let v73 : BitVec 32 := Scalar.remsi arg16 c2_i32_67
  let c128_i32_84 : BitVec 32 := 128#32
  let v172 : BitVec 32 := Scalar.muli v73 c128_i32_84
  let v173 : BitVec 32 := v172
  let v176 : Index := Scalar.indexCast v173
  ![v174.toNat, v175.toNat, v176.toNat]
def k0_off55 (k0_t11 : Fin k0_t11_loop.trips) (c0_i32_85 : BitVec 32) : Fin 2 → Nat :=
  let c0_i32_63 : BitVec 32 := 0#32
  let c1_i32_65 : BitVec 32 := 1#32
  let arg16 : BitVec 32 := Scf.iv c0_i32_63 c1_i32_65 k0_t11
  let c2_i32_70 : BitVec 32 := 2#32
  let v77 : BitVec 32 := Scalar.divsi arg16 c2_i32_70
  let c16_i32 : BitVec 32 := 16#32
  let v78 : BitVec 32 := Scalar.muli v77 c16_i32
  let v79 : BitVec 32 := v78
  let v181 : BitVec 32 := Scalar.addi v79 c0_i32_85
  let v185 : Index := Scalar.indexCast v181
  let c0_86 : Index := 0#32
  ![v185.toNat, 0]
def k0_cond3 (i : grid0.Coords) : BitVec 1 :=
  let arg0 : BitVec 32 := BitVec.ofNat 32 (i 0).val
  let c32_i32_2 : BitVec 32 := 32#32
  let v7 : BitVec 1 := Scalar.cmpi .eq arg0 c32_i32_2
  let v8 : BitVec 32 := Scalar.extui v7
  let c0_i32_3 : BitVec 32 := 0#32
  let v9 : BitVec 1 := Scalar.cmpi .ne v8 c0_i32_3
  v9

@[reducible] def k0_t12_loop : Scf.Loop 32 :=
  let c0_i32_4 : BitVec 32 := 0#32
  let c9_i32 : BitVec 32 := 9#32
  let v10 : BitVec 32 := Scalar.addi c0_i32_4 c9_i32
  let c1_i32 : BitVec 32 := 1#32
  ⟨c0_i32_4, v10, c1_i32⟩
def k0_mult20 (k0_t12 : Fin k0_t12_loop.trips) : BitVec 32 :=
  let c0_i32_4 : BitVec 32 := 0#32
  let c1_i32 : BitVec 32 := 1#32
  let arg15 : BitVec 32 := Scf.iv c0_i32_4 c1_i32 k0_t12
  let c64_i32 : BitVec 32 := 64#32
  let v42 : BitVec 32 := Scalar.muli arg15 c64_i32
  v42
def k0_off56 (k0_t12 : Fin k0_t12_loop.trips) : Fin 3 → Nat :=
  let c54 : Index := 54#32
  let c0_i32_4 : BitVec 32 := 0#32
  let c1_i32 : BitVec 32 := 1#32
  let arg15 : BitVec 32 := Scf.iv c0_i32_4 c1_i32 k0_t12
  let c64_i32 : BitVec 32 := 64#32
  let v42 : BitVec 32 := Scalar.muli arg15 c64_i32
  let v43 : BitVec 32 := v42
  let v44 : Index := Scalar.indexCast v43
  let c0_32 : Index := 0#32
  ![54, v44.toNat, 0]
def k0_off57 (k0_t12 : Fin k0_t12_loop.trips) : Fin 3 → Nat :=
  let c55 : Index := 55#32
  let c0_i32_4 : BitVec 32 := 0#32
  let c1_i32 : BitVec 32 := 1#32
  let arg15 : BitVec 32 := Scf.iv c0_i32_4 c1_i32 k0_t12
  let c64_i32 : BitVec 32 := 64#32
  let v42 : BitVec 32 := Scalar.muli arg15 c64_i32
  let v43 : BitVec 32 := v42
  let v47 : Index := Scalar.indexCast v43
  let c0_33 : Index := 0#32
  ![55, v47.toNat, 0]
def k0_off58 : Fin 3 → Nat :=
  let c27_i32 : BitVec 32 := 27#32
  let c2_i32 : BitVec 32 := 2#32
  let v51 : BitVec 32 := Scalar.remsi c27_i32 c2_i32
  let v52 : Index := Scalar.indexCast v51
  let c0_34 : Index := 0#32
  let c0_35 : Index := 0#32
  ![v52.toNat, 0, 0]
def k0_off59 (k0_t12 : Fin k0_t12_loop.trips) : Fin 2 → Nat :=
  let c0_i32_4 : BitVec 32 := 0#32
  let c1_i32 : BitVec 32 := 1#32
  let arg15 : BitVec 32 := Scf.iv c0_i32_4 c1_i32 k0_t12
  let c64_i32 : BitVec 32 := 64#32
  let v42 : BitVec 32 := Scalar.muli arg15 c64_i32
  let v43 : BitVec 32 := v42
  let v55 : Index := Scalar.indexCast v43
  let c0_36 : Index := 0#32
  ![v55.toNat, 0]
def k0_off60 : Fin 3 → Nat :=
  let c27_i32_39 : BitVec 32 := 27#32
  let c2_i32_40 : BitVec 32 := 2#32
  let v63 : BitVec 32 := Scalar.remsi c27_i32_39 c2_i32_40
  let v64 : Index := Scalar.indexCast v63
  let c256_41 : Index := 256#32
  let c0_42 : Index := 0#32
  ![v64.toNat, 256, 0]
def k0_off61 (k0_t12 : Fin k0_t12_loop.trips) : Fin 2 → Nat :=
  let c0_i32_4 : BitVec 32 := 0#32
  let c1_i32 : BitVec 32 := 1#32
  let arg15 : BitVec 32 := Scf.iv c0_i32_4 c1_i32 k0_t12
  let c64_i32 : BitVec 32 := 64#32
  let v42 : BitVec 32 := Scalar.muli arg15 c64_i32
  let v43 : BitVec 32 := v42
  let v67 : Index := Scalar.indexCast v43
  let c256_43 : Index := 256#32
  ![v67.toNat, 256]
@[reducible] def k0_t13_loop : Scf.Loop 32 :=
  let c0_i32_6 : BitVec 32 := 0#32
  let c8_i32 : BitVec 32 := 8#32
  let v12 : BitVec 32 := Scalar.addi c0_i32_6 c8_i32
  let c1_i32_7 : BitVec 32 := 1#32
  ⟨c0_i32_6, v12, c1_i32_7⟩
def k0_mult21 (k0_t13 : Fin k0_t13_loop.trips) : BitVec 32 :=
  let c0_i32_6 : BitVec 32 := 0#32
  let c1_i32_7 : BitVec 32 := 1#32
  let arg15 : BitVec 32 := Scf.iv c0_i32_6 c1_i32_7 k0_t13
  let c64_i32 : BitVec 32 := 64#32
  let v42 : BitVec 32 := Scalar.muli arg15 c64_i32
  v42
def k0_off62 (k0_t13 : Fin k0_t13_loop.trips) : Fin 2 → Nat :=
  let c0_i32_6 : BitVec 32 := 0#32
  let c1_i32_7 : BitVec 32 := 1#32
  let arg15 : BitVec 32 := Scf.iv c0_i32_6 c1_i32_7 k0_t13
  let c64_i32 : BitVec 32 := 64#32
  let v42 : BitVec 32 := Scalar.muli arg15 c64_i32
  let v43 : BitVec 32 := v42
  let v44 : Index := Scalar.indexCast v43
  let c0_32 : Index := 0#32
  ![v44.toNat, 0]
def k0_off63 (k0_t13 : Fin k0_t13_loop.trips) : Fin 2 → Nat :=
  let c0_i32_6 : BitVec 32 := 0#32
  let c1_i32_7 : BitVec 32 := 1#32
  let arg15 : BitVec 32 := Scf.iv c0_i32_6 c1_i32_7 k0_t13
  let c64_i32 : BitVec 32 := 64#32
  let v42 : BitVec 32 := Scalar.muli arg15 c64_i32
  let v43 : BitVec 32 := v42
  let v51 : Index := Scalar.indexCast v43
  let c0_35 : Index := 0#32
  ![v51.toNat, 0]
@[reducible] def k0_t14_loop : Scf.Loop 32 :=
  let c0_i32_16 : BitVec 32 := 0#32
  let c8_i32_17 : BitVec 32 := 8#32
  let v24 : BitVec 32 := Scalar.addi c0_i32_16 c8_i32_17
  let c1_i32_18 : BitVec 32 := 1#32
  ⟨c0_i32_16, v24, c1_i32_18⟩
def k0_mult22 (k0_t14 : Fin k0_t14_loop.trips) : BitVec 32 :=
  let c0_i32_16 : BitVec 32 := 0#32
  let c1_i32_18 : BitVec 32 := 1#32
  let arg15 : BitVec 32 := Scf.iv c0_i32_16 c1_i32_18 k0_t14
  let c64_i32 : BitVec 32 := 64#32
  let v42 : BitVec 32 := Scalar.muli arg15 c64_i32
  v42
def k0_off64 (k0_t14 : Fin k0_t14_loop.trips) : Fin 2 → Nat :=
  let c0_i32_16 : BitVec 32 := 0#32
  let c1_i32_18 : BitVec 32 := 1#32
  let arg15 : BitVec 32 := Scf.iv c0_i32_16 c1_i32_18 k0_t14
  let c64_i32 : BitVec 32 := 64#32
  let v42 : BitVec 32 := Scalar.muli arg15 c64_i32
  let v43 : BitVec 32 := v42
  let v44 : Index := Scalar.indexCast v43
  let c256_32 : Index := 256#32
  ![v44.toNat, 256]
def k0_off65 (k0_t14 : Fin k0_t14_loop.trips) : Fin 2 → Nat :=
  let c0_i32_16 : BitVec 32 := 0#32
  let c1_i32_18 : BitVec 32 := 1#32
  let arg15 : BitVec 32 := Scf.iv c0_i32_16 c1_i32_18 k0_t14
  let c64_i32 : BitVec 32 := 64#32
  let v42 : BitVec 32 := Scalar.muli arg15 c64_i32
  let v43 : BitVec 32 := v42
  let v51 : Index := Scalar.indexCast v43
  let c256_35 : Index := 256#32
  ![v51.toNat, 256]
@[reducible] def k0_t15_loop : Scf.Loop 32 :=
  let c0_i32_29 : BitVec 32 := 0#32
  let c4_i32 : BitVec 32 := 4#32
  let v41 : BitVec 32 := Scalar.addi c0_i32_29 c4_i32
  let c1_i32_30 : BitVec 32 := 1#32
  ⟨c0_i32_29, v41, c1_i32_30⟩
def k0_mult23 (k0_t15 : Fin k0_t15_loop.trips) : BitVec 32 :=
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  v42
def k0_off66 (k0_t15 : Fin k0_t15_loop.trips) : Fin 2 → Nat :=
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v44 : Index := Scalar.indexCast v43
  let c0_32 : Index := 0#32
  ![v44.toNat, 0]
def k0_off67 (k0_t15 : Fin k0_t15_loop.trips) : Fin 2 → Nat :=
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v49 : Index := Scalar.indexCast v43
  let c0_33 : Index := 0#32
  ![v49.toNat, 0]
def k0_off68 (k0_t15 : Fin k0_t15_loop.trips) : Fin 2 → Nat :=
  let c0_34 : Index := 0#32
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v54 : Index := Scalar.indexCast v43
  ![0, v54.toNat]
def k0_off69 (k0_t15 : Fin k0_t15_loop.trips) : Fin 2 → Nat :=
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v56 : Index := Scalar.indexCast v43
  let c128 : Index := 128#32
  ![v56.toNat, 128]
def k0_off70 (k0_t15 : Fin k0_t15_loop.trips) : Fin 2 → Nat :=
  let c128_36 : Index := 128#32
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v66 : Index := Scalar.indexCast v43
  ![128, v66.toNat]
def k0_off71 (k0_t15 : Fin k0_t15_loop.trips) : Fin 2 → Nat :=
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v68 : Index := Scalar.indexCast v43
  let c256_37 : Index := 256#32
  ![v68.toNat, 256]
def k0_off72 (k0_t15 : Fin k0_t15_loop.trips) : Fin 2 → Nat :=
  let c256_39 : Index := 256#32
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v78 : Index := Scalar.indexCast v43
  ![256, v78.toNat]
def k0_off73 (k0_t15 : Fin k0_t15_loop.trips) : Fin 2 → Nat :=
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v80 : Index := Scalar.indexCast v43
  let c384 : Index := 384#32
  ![v80.toNat, 384]
def k0_off74 (k0_t15 : Fin k0_t15_loop.trips) : Fin 2 → Nat :=
  let c384_41 : Index := 384#32
  let c0_i32_29 : BitVec 32 := 0#32
  let c1_i32_30 : BitVec 32 := 1#32
  let arg15 : BitVec 32 := Scf.iv c0_i32_29 c1_i32_30 k0_t15
  let c128_i32 : BitVec 32 := 128#32
  let v42 : BitVec 32 := Scalar.muli arg15 c128_i32
  let v43 : BitVec 32 := v42
  let v90 : Index := Scalar.indexCast v43
  ![384, v90.toNat]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S56x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x16384x7168 : Shape := ⟨3, ![1, 16384, 7168]⟩
abbrev S576x7168 : Shape := ⟨2, ![576, 7168]⟩
abbrev S5x56 : Shape := ⟨2, ![5, 56]⟩
abbrev S512 : Shape := ⟨1, ![512]⟩
abbrev S16384x7168 : Shape := ⟨2, ![16384, 7168]⟩
abbrev S1x512 : Shape := ⟨2, ![1, 512]⟩
abbrev S16384x512 : Shape := ⟨2, ![16384, 512]⟩
abbrev S64x16384 : Shape := ⟨2, ![64, 16384]⟩
abbrev S56x16384 : Shape := ⟨2, ![56, 16384]⟩
abbrev S16384x56x128 : Shape := ⟨3, ![16384, 56, 128]⟩
abbrev S16384x56 : Shape := ⟨2, ![16384, 56]⟩
abbrev S16384x56x1 : Shape := ⟨3, ![16384, 56, 1]⟩
abbrev S5x1x56 : Shape := ⟨3, ![5, 1, 56]⟩
abbrev S5x128x56 : Shape := ⟨3, ![5, 128, 56]⟩
abbrev S640x56 : Shape := ⟨2, ![640, 56]⟩
abbrev S576x56 : Shape := ⟨2, ![576, 56]⟩
abbrev S576x56x128 : Shape := ⟨3, ![576, 56, 128]⟩
abbrev S576x56x1 : Shape := ⟨3, ![576, 56, 1]⟩
abbrev S16384x576 : Shape := ⟨2, ![16384, 576]⟩
abbrev S16384 : Shape := ⟨1, ![16384]⟩
abbrev S16384x1 : Shape := ⟨2, ![16384, 1]⟩
abbrev S16384x64 : Shape := ⟨2, ![16384, 64]⟩

abbrev nBuf : Space → Nat
  | .hbm => 10
  | .vmem => 8
  | .smem => 0
  | _ => 0

abbrev bufTy : (tb : Table) → Fin (tcTables nBuf tb) → BufTy
  | .hbm, ⟨0, _⟩ => ⟨S1x16384x7168, .bf16⟩
  | .hbm, ⟨1, _⟩ => ⟨S576x7168, .fp8e4m3⟩
  | .hbm, ⟨2, _⟩ => ⟨S5x56, .f32⟩
  | .hbm, ⟨3, _⟩ => ⟨S512, .f32⟩
  | .hbm, ⟨4, _⟩ => ⟨S16384x7168, .bf16⟩
  | .hbm, ⟨5, _⟩ => ⟨S1x512, .f32⟩
  | .hbm, ⟨6, _⟩ => ⟨S16384x512, .bf16⟩
  | .hbm, ⟨7, _⟩ => ⟨S64x16384, .bf16⟩
  | .hbm, ⟨8, _⟩ => ⟨S16384x7168, .fp8e4m3⟩
  | .hbm, ⟨9, _⟩ => ⟨S56x16384, .f32⟩
  | .local _ .vmem, ⟨0, _⟩ => ⟨S16384x7168, .bf16⟩
  | .local _ .vmem, ⟨1, _⟩ => ⟨S576x7168, .fp8e4m3⟩
  | .local _ .vmem, ⟨2, _⟩ => ⟨S5x56, .f32⟩
  | .local _ .vmem, ⟨3, _⟩ => ⟨S1x512, .f32⟩
  | .local _ .vmem, ⟨4, _⟩ => ⟨S16384x512, .bf16⟩
  | .local _ .vmem, ⟨5, _⟩ => ⟨S64x16384, .bf16⟩
  | .local _ .vmem, ⟨6, _⟩ => ⟨S16384x7168, .fp8e4m3⟩
  | .local _ .vmem, ⟨7, _⟩ => ⟨S56x16384, .f32⟩
  | _, _ => ⟨S1x16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c246_i32 : BitVec 32 := 246#32
  let v9 : BitVec 32 := Scalar.addi c0_i32 c246_i32
  let c1_i32 : BitVec 32 := 1#32
  ⟨c0_i32, v9, c1_i32⟩
abbrev stage0_0 : Fin 1 → Memref sig .tc .vmem S16384x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelLoops.lean ====
module

public import proofs.«01_k».proof.Proof.Gen.Kernel.Frame
public import proofs.«01_k».proof.Proof.Gen.Kernel.Loops

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- `step 0`, `step 1`, …, each applied to what the one before left; nothing past the last trip. -/
def iterN {α : Type} {T : ℕ} (step : Fin T → α → α) (g : α) : ℕ → α
  | 0 => g
  | k + 1 => if h : k < T then step ⟨k, h⟩ (iterN step g k) else iterN step g k

theorem iterN_succ {α : Type} {T : ℕ} (step : Fin T → α → α) (g : α) (k : Fin T) :
    iterN step g (k.val + 1) = step k (iterN step g k.val) := by
  rw [iterN.eq_2]; exact dif_pos k.isLt

variable (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

/-- What one trip of a quantising loop holds: the tokens read, the codes, the scale words and the pushed tile written. -/
abbrev QTrip (X1 : BufTy.Contents (Elt F) arg1.view.ty) (f7 : BufTy.Contents (Elt F) arg7.view.ty) (f12 : BufTy.Contents (Elt F) arg12.view.ty) (f13 : BufTy.Contents (Elt F) arg13.view.ty) : sProp 𝕄 :=
  iprop((arg1.view.loc (c : Thread nD τ) ↦[arg1.view.set]{fullShare} X1) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13))

set_option maxHeartbeats 2000000 in
@[irreducible] def qtrip3 (v0 : IVec S8x128 32) (k0_h2 : k0_cond2 i = 1#1) (X1 : BufTy.Contents (Elt F) arg1.view.ty) (k : Fin k0_t3_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) // ∀ (E : Set ℕ) f7 f12 f13,
      QTrip (F := F) c arg1 arg7 arg12 arg13 X1 f7 f12 f13
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 k PUnit.unit)
          (fun _ => QTrip (F := F) c arg1 arg7 arg12 arg13 X1 (L.1 f7) (L.2.1 f12) (L.2.2 f13)) } := by
  have hk : k.val < 32 := Nat.lt_of_lt_of_le k.isLt k0_t3_abs.2.1
  refine ⟨⟨?_, ?_, ?_⟩, fun E f7 f12 f13 => ?run⟩
  case run =>
    unfold k0_t3_body
    iintro ⟨H1, H7, H12, H13⟩
    sl_exec
    sl_step
    sl_close

set_option warn.classDefReducibility false in
/-- The quantising loop by its invariant: each written buffer holds what the trips so far left. -/
@[sl_loop] def qloop3 (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (X1 : BufTy.Contents (Elt F) arg1.view.ty) (G7 : BufTy.Contents (Elt F) arg7.view.ty) (G12 : BufTy.Contents (Elt F) arg12.view.ty) (G13 : BufTy.Contents (Elt F) arg13.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 where
  inv k _ := iprop((arg1.view.loc (c : Thread nD τ) ↦[arg1.view.set]{fullShare} X1) ∗ (∃ f, (arg7.view.loc (c : Thread nD τ) ↦[arg7.view.set]{fullShare} f) ∗ ⌜f = iterN (fun k => (qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).1.1) G7 k⌝) ∗ (∃ f, (arg12.view.loc (c : Thread nD τ) ↦[arg12.view.set]{fullShare} f) ∗ ⌜f = iterN (fun k => (qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).1.2.1) G12 k⌝) ∗ (∃ f, (arg13.view.loc (c : Thread nD τ) ↦[arg13.view.set]{fullShare} f) ∗ ⌜f = iterN (fun k => (qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).1.2.2) G13 k⌝))
  step k acc := by
    iintro ⟨H1, ⟨%f7, H7, %h7⟩, ⟨%f12, H12, %h12⟩, ⟨%f13, H13, %h13⟩⟩
    iapply (wp_wand_r Idealize.ShloMosaic.frame (wpE (defs₀ (F := F)) 𝒱 (c : Thread nD τ) bd) E)
    isplitl [H1 H7 H12 H13]
    · iapply ((qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).2 E f7 f12 f13)
      isplitl [H1]; · iexact H1
      isplitl [H7]; · iexact H7
      isplitl [H12]; · iexact H12
      iexact H13
    · iintro %_ ⟨H1, H7, H12, H13⟩
      isplitl [H1]; · iexact H1
      rw [iterN_succ, iterN_succ, iterN_succ]
      isplitl [H7]
      · iexists _; isplitl [H7]; · iexact H7
        ipureintro; rw [h7]
      isplitl [H12]
      · iexists _; isplitl [H12]; · iexact H12
        ipureintro; rw [h12]
      · iexists _; isplitl [H13]; · iexact H13
        ipureintro; rw [h13]

set_option maxHeartbeats 2000000 in
@[irreducible] def qtrip7 (v0 : IVec S8x128 32) (k0_h2 : k0_cond2 i = 1#1) (v23 : FVec F S1x256 .f32) (v26 : FVec F S8x256 .f32) (v32 : FVec F S64x256 .bf16) (X1 : BufTy.Contents (Elt F) arg1.view.ty) (k : Fin k0_t7_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) // ∀ (E : Set ℕ) f7 f12 f13,
      QTrip (F := F) c arg1 arg7 arg12 arg13 X1 f7 f12 f13
      ⊢ wp frame (wpE (defs₀ (F := F)) 𝒱 (c : Thread nD τ) bd) E (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k PUnit.unit)
          (fun _ => QTrip (F := F) c arg1 arg7 arg12 arg13 X1 (L.1 f7) (L.2.1 f12) (L.2.2 f13)) } := by
  have hk : k.val < 32 := Nat.lt_of_lt_of_le k.isLt k0_t7_abs.2.1
  refine ⟨⟨?_, ?_, ?_⟩, fun E f7 f12 f13 => ?run⟩
  case run =>
    unfold k0_t7_body
    iintro ⟨H1, H7, H12, H13⟩
    sl_exec
    sl_step
    sl_close

set_option warn.classDefReducibility false in
/-- The quantising loop by its invariant: each written buffer holds what the trips so far left. -/
@[sl_loop] def qloop7 (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (G7 : BufTy.Contents (Elt F) arg7.view.ty) (G12 : BufTy.Contents (Elt F) arg12.view.ty) (G13 : BufTy.Contents (Elt F) arg13.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 where
  inv k _ := iprop((arg1.view.loc (c : Thread nD τ) ↦[arg1.view.set]{fullShare} X1) ∗ (∃ f, (arg7.view.loc (c : Thread nD τ) ↦[arg7.view.set]{fullShare} f) ∗ ⌜f = iterN (fun k => (qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).1.1) G7 k⌝) ∗ (∃ f, (arg12.view.loc (c : Thread nD τ) ↦[arg12.view.set]{fullShare} f) ∗ ⌜f = iterN (fun k => (qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).1.2.1) G12 k⌝) ∗ (∃ f, (arg13.view.loc (c : Thread nD τ) ↦[arg13.view.set]{fullShare} f) ∗ ⌜f = iterN (fun k => (qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).1.2.2) G13 k⌝))
  step k acc := by
    iintro ⟨H1, ⟨%f7, H7, %h7⟩, ⟨%f12, H12, %h12⟩, ⟨%f13, H13, %h13⟩⟩
    iapply (wp_wand_r Idealize.ShloMosaic.frame (wpE (defs₀ (F := F)) 𝒱 (c : Thread nD τ) bd) E)
    isplitl [H1 H7 H12 H13]
    · iapply ((qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).2 E f7 f12 f13)
      isplitl [H1]; · iexact H1
      isplitl [H7]; · iexact H7
      isplitl [H12]; · iexact H12
      iexact H13
    · iintro %_ ⟨H1, H7, H12, H13⟩
      isplitl [H1]; · iexact H1
      rw [iterN_succ, iterN_succ, iterN_succ]
      isplitl [H7]
      · iexists _; isplitl [H7]; · iexact H7
        ipureintro; rw [h7]
      isplitl [H12]
      · iexists _; isplitl [H12]; · iexact H12
        ipureintro; rw [h12]
      · iexists _; isplitl [H13]; · iexact H13
        ipureintro; rw [h13]

set_option maxHeartbeats 2000000 in
@[irreducible] def qtrip11 (v0 : IVec S8x128 32) (k0_h2 : k0_cond2 i = 1#1) (v23 : FVec F S1x256 .f32) (v26 : FVec F S8x256 .f32) (v32 : FVec F S64x256 .bf16) (k0_t9 : Fin k0_t9_loop.trips) (arg15 : BitVec 32) (X1 : BufTy.Contents (Elt F) arg1.view.ty) (k : Fin k0_t11_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) // ∀ (E : Set ℕ) f7 f12 f13,
      QTrip (F := F) c arg1 arg7 arg12 arg13 X1 f7 f12 f13
      ⊢ wp frame (wpE (defs₀ (F := F)) 𝒱 (c : Thread nD τ) bd) E (k0_t11_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 k PUnit.unit)
          (fun _ => QTrip (F := F) c arg1 arg7 arg12 arg13 X1 (L.1 f7) (L.2.1 f12) (L.2.2 f13)) } := by
  have hk : k.val < 32 := Nat.lt_of_lt_of_le k.isLt k0_t11_abs.2.1
  refine ⟨⟨?_, ?_, ?_⟩, fun E f7 f12 f13 => ?run⟩
  case run =>
    unfold k0_t11_body
    iintro ⟨H1, H7, H12, H13⟩
    sl_exec
    sl_step
    sl_close

set_option warn.classDefReducibility false in
/-- The quantising loop by its invariant: each written buffer holds what the trips so far left. -/
@[sl_loop] def qloop11 (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (k0_t9 : Fin k0_t9_loop.trips) (arg15 : BitVec 32) (X1 : BufTy.Contents (Elt F) arg1.view.ty) (G7 : BufTy.Contents (Elt F) arg7.view.ty) (G12 : BufTy.Contents (Elt F) arg12.view.ty) (G13 : BufTy.Contents (Elt F) arg13.view.ty) :
    LoopInvTy_k0_t11 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 where
  inv k _ := iprop((arg1.view.loc (c : Thread nD τ) ↦[arg1.view.set]{fullShare} X1) ∗ (∃ f, (arg7.view.loc (c : Thread nD τ) ↦[arg7.view.set]{fullShare} f) ∗ ⌜f = iterN (fun k => (qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).1.1) G7 k⌝) ∗ (∃ f, (arg12.view.loc (c : Thread nD τ) ↦[arg12.view.set]{fullShare} f) ∗ ⌜f = iterN (fun k => (qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).1.2.1) G12 k⌝) ∗ (∃ f, (arg13.view.loc (c : Thread nD τ) ↦[arg13.view.set]{fullShare} f) ∗ ⌜f = iterN (fun k => (qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).1.2.2) G13 k⌝))
  step k acc := by
    iintro ⟨H1, ⟨%f7, H7, %h7⟩, ⟨%f12, H12, %h12⟩, ⟨%f13, H13, %h13⟩⟩
    iapply (wp_wand_r Idealize.ShloMosaic.frame (wpE (defs₀ (F := F)) 𝒱 (c : Thread nD τ) bd) E)
    isplitl [H1 H7 H12 H13]
    · iapply ((qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).2 E f7 f12 f13)
      isplitl [H1]; · iexact H1
      isplitl [H7]; · iexact H7
      isplitl [H12]; · iexact H12
      iexact H13
    · iintro %_ ⟨H1, H7, H12, H13⟩
      isplitl [H1]; · iexact H1
      rw [iterN_succ, iterN_succ, iterN_succ]
      isplitl [H7]
      · iexists _; isplitl [H7]; · iexact H7
        ipureintro; rw [h7]
      isplitl [H12]
      · iexists _; isplitl [H12]; · iexact H12
        ipureintro; rw [h12]
      · iexists _; isplitl [H13]; · iexact H13
        ipureintro; rw [h13]

/-- What one trip of the loop over the 256-wide tiles holds. -/
abbrev KTrip (X1 : BufTy.Contents (Elt F) arg1.view.ty) (X9 : BufTy.Contents (Elt F) arg9.view.ty) (f7 : BufTy.Contents (Elt F) arg7.view.ty) (f12 : BufTy.Contents (Elt F) arg12.view.ty) (f13 : BufTy.Contents (Elt F) arg13.view.ty) (f14 : BufTy.Contents (Elt F) arg14.view.ty) : sProp 𝕄 :=
  iprop((arg1.view.loc (c : Thread nD τ) ↦[arg1.view.set]{fullShare} X1) ∗ (arg9.view.loc (c : Thread nD τ) ↦[arg9.view.set]{fullShare} X9) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

set_option maxHeartbeats 4000000 in
@[irreducible] def ktrip (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (k : Fin k0_t9_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) × (BufTy.Contents (Elt F) arg13.view.ty → BufTy.Contents (Elt F) arg14.view.ty → BufTy.Contents (Elt F) arg14.view.ty) // ∀ (E : Set ℕ) f7 f12 f13 f14,
      KTrip (F := F) c arg1 arg7 arg9 arg12 arg13 arg14 X1 X9 f7 f12 f13 f14
      ⊢ wp frame (wpE (defs₀ (F := F)) 𝒱 (c : Thread nD τ) bd) E (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k PUnit.unit)
          (fun _ => KTrip (F := F) c arg1 arg7 arg9 arg12 arg13 arg14 X1 X9 (L.1 f7) (L.2.1 f12) (L.2.2.1 f13) (L.2.2.2 f13 f14)) } := by
  have hk : k.val < 26 := Nat.lt_of_lt_of_le k.isLt k0_t9_abs.2.1
  refine ⟨⟨?_, ?_, ?_, ?_⟩, fun E f7 f12 f13 f14 => ?run⟩
  case run =>
    unfold k0_t9_body
    iintro ⟨H1, H9, H7, H12, H13, H14⟩
    sl_exec
    sl_step
    sl_close

/-- The pushed tiles and the accumulators after the first `k` trips. -/
def kst (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (G13 : BufTy.Contents (Elt F) arg13.view.ty) (G14 : BufTy.Contents (Elt F) arg14.view.ty) (k : ℕ) :
    BufTy.Contents (Elt F) arg13.view.ty × BufTy.Contents (Elt F) arg14.view.ty :=
  iterN (fun k s => ((ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.1 s.1, (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.2 s.1 s.2)) (G13, G14) k

theorem kst_succ (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (G13 : BufTy.Contents (Elt F) arg13.view.ty) (G14 : BufTy.Contents (Elt F) arg14.view.ty) (k : Fin k0_t9_loop.trips) :
    kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 (k.val + 1) = ((ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.1 (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k.val).1, (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.2 (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k.val).1 (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k.val).2) := by
  unfold kst; rw [iterN_succ]

set_option warn.classDefReducibility false in
/-- The loop over the tiles by its invariant. -/
@[sl_loop] def kloop (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (G7 : BufTy.Contents (Elt F) arg7.view.ty) (G12 : BufTy.Contents (Elt F) arg12.view.ty) (G13 : BufTy.Contents (Elt F) arg13.view.ty) (G14 : BufTy.Contents (Elt F) arg14.view.ty) :
    LoopInvTy_k0_t9 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 where
  inv k _ := iprop((arg1.view.loc (c : Thread nD τ) ↦[arg1.view.set]{fullShare} X1) ∗ (arg9.view.loc (c : Thread nD τ) ↦[arg9.view.set]{fullShare} X9) ∗ (∃ f, (arg7.view.loc (c : Thread nD τ) ↦[arg7.view.set]{fullShare} f) ∗ ⌜f = iterN (fun k => (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.1) G7 k⌝) ∗ (∃ f, (arg12.view.loc (c : Thread nD τ) ↦[arg12.view.set]{fullShare} f) ∗ ⌜f = iterN (fun k => (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.1) G12 k⌝) ∗ (∃ f, (arg13.view.loc (c : Thread nD τ) ↦[arg13.view.set]{fullShare} f) ∗ ⌜f = (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k).1⌝) ∗ (∃ f, (arg14.view.loc (c : Thread nD τ) ↦[arg14.view.set]{fullShare} f) ∗ ⌜f = (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k).2⌝))
  step k acc := by
    iintro ⟨H1, H9, ⟨%f7, H7, %h7⟩, ⟨%f12, H12, %h12⟩, ⟨%f13, H13, %h13⟩, ⟨%f14, H14, %h14⟩⟩
    iapply (wp_wand_r Idealize.ShloMosaic.frame (wpE (defs₀ (F := F)) 𝒱 (c : Thread nD τ) bd) E)
    isplitl [H1 H9 H7 H12 H13 H14]
    · iapply ((ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).2 E f7 f12 f13 f14)
      isplitl [H1]; · iexact H1
      isplitl [H9]; · iexact H9
      isplitl [H7]; · iexact H7
      isplitl [H12]; · iexact H12
      isplitl [H13]; · iexact H13
      iexact H14
    · iintro %_ ⟨H1, H9, H7, H12, H13, H14⟩
      isplitl [H1]; · iexact H1
      isplitl [H9]; · iexact H9
      rw [iterN_succ, iterN_succ, kst_succ]
      isplitl [H7]
      · iexists _; isplitl [H7]; · iexact H7
        ipureintro; rw [h7]
      isplitl [H12]
      · iexists _; isplitl [H12]; · iexact H12
        ipureintro; rw [h12]
      isplitl [H13]
      · iexists _; isplitl [H13]; · iexact H13
        ipureintro; rw [h13]
      · iexists _; isplitl [H14]; · iexact H14
        ipureintro; rw [h13, h14]

end Cert.Proof.Kernel
end
-- ==== Proof.KernelRun.lean ====
module

public import proofs.«01_k».proof.Proof.KernelLoops

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- What the fourteen buffers of a grid step hold: the inputs (1 to 4), the results' blocks (5 to 8), the scratch (9 to 14). -/
structure St (F : FTy → Type) [FloatOps F] where
  x1 : Vec F S512x7168 .bf16
  x2 : Vec F S576x7168 .fp8e4m3
  x3 : Vec F S5x56 .f32
  x4 : Vec F S1x512 .f32
  x5 : Vec F S512x512 .bf16
  x6 : Vec F S64x512 .bf16
  x7 : Vec F S512x7168 .fp8e4m3
  x8 : Vec F S56x512 .f32
  x9 : Vec F S56x576x128 .bf16
  x10 : Vec F S512x128 .f32
  x11 : Vec F S512x512 .f32
  x12 : Vec F S256x128 .i32
  x13 : Vec F S2x512x256 .bf16
  x14 : Vec F S576x512 .f32

/-- The fourteen buffers held, at `s`. -/
def Held (c : Dev nD) (arg1 : Memref sig .tc .vmem S512x7168 .bf16) (arg2 : Memref sig .tc .vmem S576x7168 .fp8e4m3) (arg3 : Memref sig .tc .smem S5x56 .f32) (arg4 : Memref sig .tc .vmem S1x512 .f32) (arg5 : Memref sig .tc .vmem S512x512 .bf16) (arg6 : Memref sig .tc .vmem S64x512 .bf16) (arg7 : Memref sig .tc .vmem S512x7168 .fp8e4m3) (arg8 : Memref sig .tc .vmem S56x512 .f32) (arg9 : Memref sig .tc .vmem S56x576x128 .bf16) (arg10 : Memref sig .tc .vmem S512x128 .f32) (arg11 : Memref sig .tc .vmem S512x512 .f32) (arg12 : Memref sig .tc .vmem S256x128 .i32) (arg13 : Memref sig .tc .vmem S2x512x256 .bf16) (arg14 : Memref sig .tc .vmem S576x512 .f32) (s : St F) : sProp 𝕄 :=
  iprop(owns (c : Thread nD τ) arg1 fullShare s.x1
      ∗ owns (c : Thread nD τ) arg2 fullShare s.x2
      ∗ owns (c : Thread nD τ) arg3 fullShare s.x3
      ∗ owns (c : Thread nD τ) arg4 fullShare s.x4
      ∗ owns (c : Thread nD τ) arg5 fullShare s.x5
      ∗ owns (c : Thread nD τ) arg6 fullShare s.x6
      ∗ owns (c : Thread nD τ) arg7 fullShare s.x7
      ∗ owns (c : Thread nD τ) arg8 fullShare s.x8
      ∗ owns (c : Thread nD τ) arg9 fullShare s.x9
      ∗ owns (c : Thread nD τ) arg10 fullShare s.x10
      ∗ owns (c : Thread nD τ) arg11 fullShare s.x11
      ∗ owns (c : Thread nD τ) arg12 fullShare s.x12
      ∗ owns (c : Thread nD τ) arg13 fullShare s.x13
      ∗ owns (c : Thread nD τ) arg14 fullShare s.x14)

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

set_option maxHeartbeats 8000000 in
set_option warn.classDefReducibility false in
/-- What the first grid step leaves in the buffers, found by running the body. -/
@[irreducible] def runA (h1 : k0_cond1 i = 1#1) (h2 : k0_cond2 i = 1#1) (h3 : ¬ k0_cond3 i = 1#1) (s : St F) :
    { s' : St F // ∀ (E : Set ℕ) (K : PUnit → sProp 𝕄),
      iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 s' -∗ K ⟨⟩))
        ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨s.x1, s.x2, s.x3, s.x4, ?_, ?_, ?_, ?_, ?_, ?_, ?_, ?_, ?_, ?_⟩, fun E K => ?run⟩
  case run =>
    unfold Held owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_unfold [cc0_mla_kv_down_proj]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    · iexists _; isplitr; swap; · iexact H14
      ipureintro; rfl

set_option maxHeartbeats 8000000 in
set_option warn.classDefReducibility false in
/-- What a grid step that is neither the first nor the last leaves in the buffers, found by running the body. -/
@[irreducible] def runB (h1 : ¬ k0_cond1 i = 1#1) (h2 : k0_cond2 i = 1#1) (h3 : ¬ k0_cond3 i = 1#1) (s : St F) :
    { s' : St F // ∀ (E : Set ℕ) (K : PUnit → sProp 𝕄),
      iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 s' -∗ K ⟨⟩))
        ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨s.x1, s.x2, s.x3, s.x4, ?_, ?_, ?_, ?_, s.x9, s.x10, ?_, ?_, ?_, ?_⟩, fun E K => ?run⟩
  case run =>
    unfold Held owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_unfold [cc0_mla_kv_down_proj]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    · iexists _; isplitr; swap; · iexact H14
      ipureintro; rfl

set_option maxHeartbeats 8000000 in
set_option warn.classDefReducibility false in
/-- What the last grid step leaves in the buffers, found by running the body. -/
@[irreducible] def runC (h1 : ¬ k0_cond1 i = 1#1) (h2 : ¬ k0_cond2 i = 1#1) (h3 : k0_cond3 i = 1#1) (s : St F) :
    { s' : St F // ∀ (E : Set ℕ) (K : PUnit → sProp 𝕄),
      iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 s' -∗ K ⟨⟩))
        ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨s.x1, s.x2, s.x3, s.x4, ?_, ?_, s.x7, s.x8, s.x9, s.x10, ?_, s.x12, s.x13, ?_⟩, fun E K => ?run⟩
  case run =>
    unfold Held owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_unfold [cc0_mla_kv_down_proj]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; · ipureintro; exact harg12.read_unread _
      iexact H12
    isplitl [H13]
    · iexists _; isplitr; · ipureintro; exact harg13.read_unread _
      iexact H13
    · iexists _; isplitr; swap; · iexact H14
      ipureintro; rfl

end Cert.Proof.Kernel
end
-- ==== Proof.KernelFrame.lean ====
module

public import proofs.«01_k».proof.Proof.KernelRun
public import Idealize.ShloMosaic.Lib.Pipeline.ArrRel

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

/-- What the six scratch buffers hold: weights, gamma, latent rows, scale words, pushed tiles, accumulators. -/
structure Sc (F : FTy → Type) [FloatOps F] where
  x9 : Vec F S56x576x128 .bf16
  x10 : Vec F S512x128 .f32
  x11 : Vec F S512x512 .f32
  x12 : Vec F S256x128 .i32
  x13 : Vec F S2x512x256 .bf16
  x14 : Vec F S576x512 .f32

/-- The scratch of a grid step's state. -/
def St.sc (s : St F) : Sc F := ⟨s.x9, s.x10, s.x11, s.x12, s.x13, s.x14⟩

/-- The three cases of a grid step. -/
theorem cases_cond : ∀ i : grid0.Coords,
    (k0_cond1 i = 1#1 ∧ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1) := by
  decide +kernel

section
variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Classical in
/-- One grid step on the fourteen buffers. -/
def step (s : St F) : St F :=
  if h : k0_cond1 i = 1#1 ∧ k0_cond2 i = 1#1 ∧ ¬ k0_cond3 i = 1#1 then (runA c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).1
  else if h : ¬ k0_cond1 i = 1#1 ∧ k0_cond2 i = 1#1 ∧ ¬ k0_cond3 i = 1#1 then (runB c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).1
  else if h : ¬ k0_cond1 i = 1#1 ∧ ¬ k0_cond2 i = 1#1 ∧ k0_cond3 i = 1#1 then (runC c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).1
  else s

theorem step_run (s : St F) (E : Set ℕ) (K : PUnit → sProp 𝕄) :
    iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 (step c i arg1 harg1 arg2 harg2 arg3 harg3 arg4 harg4 arg5 harg5 arg6 harg6 arg7 harg7 arg8 harg8 arg9 harg9 arg10 harg10 arg11 harg11 arg12 harg12 arg13 harg13 arg14 harg14 s) -∗ K ⟨⟩))
      ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K := by
  unfold step
  rcases cases_cond i with h | h | h
  · rw [dif_pos h]; exact (runA c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).2 E K
  · rw [dif_neg (fun h' => h.1 h'.1), dif_pos h]; exact (runB c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).2 E K
  · rw [dif_neg (fun h' => h.1 h'.1), dif_neg (fun h' => h.2.1 h'.2.1), dif_pos h]; exact (runC c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).2 E K

theorem step_x1 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x1 = s.x1 := by unfold step runA runB runC; split <;> [rfl; (split <;> [rfl; (split <;> rfl)])]
theorem step_x2 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x2 = s.x2 := by unfold step runA runB runC; split <;> [rfl; (split <;> [rfl; (split <;> rfl)])]
theorem step_x3 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x3 = s.x3 := by unfold step runA runB runC; split <;> [rfl; (split <;> [rfl; (split <;> rfl)])]
theorem step_x4 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x4 = s.x4 := by unfold step runA runB runC; split <;> [rfl; (split <;> [rfl; (split <;> rfl)])]
end

variable (m : (ℓ : Loc nD τ sig) → Buf (Elt F) ℓ) (ρ : Dev nD → PrngReg)

/-- What is followed from grid step to grid step: `P t` of the scratch before step `t`; `O w t Y X` between what result
    block `w` was found at and what it was left at. `next`: one step keeps them, whatever buffers it runs on. -/
structure Track (c : Dev nD) where
  P : ℕ → Sc F → Prop
  O5 : Fin cfg0.N → Vec F S512x512 .bf16 → Vec F S512x512 .bf16 → Prop
  O6 : Fin cfg0.N → Vec F S64x512 .bf16 → Vec F S64x512 .bf16 → Prop
  O7 : Fin cfg0.N → Vec F S512x7168 .fp8e4m3 → Vec F S512x7168 .fp8e4m3 → Prop
  O8 : Fin cfg0.N → Vec F S56x512 .f32 → Vec F S56x512 .f32 → Prop
  start : ∀ s, P 0 s
  next : ∀ (t : Fin cfg0.N) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (s : St F),
    s.x1 = iblk m c 0 t → s.x2 = iblk m c 1 t → s.x3 = iblk m c 2 t → s.x4 = iblk m c 3 t → P t.val s.sc →
    P (t.val + 1) (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).sc
      ∧ O5 t s.x5 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x5 ∧ O6 t s.x6 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x6
      ∧ O7 t s.x7 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x7 ∧ O8 t s.x8 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x8

/-- Nothing followed: what the frame claim needs. -/
def Track.none (c : Dev nD) : Track m c where
  P _ _ := True
  O5 _ _ _ := True
  O6 _ _ _ := True
  O7 _ _ _ := True
  O8 _ _ _ := True
  start _ := trivial
  next := by intros; exact ⟨trivial, trivial, trivial, trivial, trivial⟩

variable {m} (T : (c : Dev nD) → Track m c)

/-- The six scratch buffers held, at `s`. -/
def heldSc (c : Dev nD) (s : Sc F) : sProp 𝕄 :=
  iprop(owns (c : Thread nD τ) (Memref.whole cc0_scratch0) fullShare s.x9 ∗ owns (c : Thread nD τ) (Memref.whole cc0_scratch1) fullShare s.x10 ∗ owns (c : Thread nD τ) (Memref.whole cc0_scratch2) fullShare s.x11 ∗ owns (c : Thread nD τ) (Memref.whole cc0_scratch3) fullShare s.x12 ∗ owns (c : Thread nD τ) (Memref.whole cc0_scratch4) fullShare s.x13 ∗ owns (c : Thread nD τ) (Memref.whole cc0_scratch5) fullShare s.x14)

/-- The pipeline's proof data: the arrays as the region finds them, what a step may leave in each block, and the scratch
    at something satisfying `P`. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => (T c).O5 t Y X
    | ⟨5, _⟩ => (T c).O6 t Y X
    | ⟨6, _⟩ => (T c).O7 t Y X
    | ⟨7, _⟩ => (T c).O8 t Y X
  Φ t := iprop((∃ s : Sc F, ⌜(T c).P t.val s⌝ ∗ heldSc c s) ∗ ∃ r, prngReg c r)
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat T c).BodyObligation (defs₀ (F := F)) 𝒱₀ () Set.univ := fun t Y hY => by
  have e0 : Y 0 = iblk m c 0 t := by
    obtain ⟨d, hd⟩ := RDat.finds_in_eq_fetched (rdat T c) (0 : Fin 8) rfl (fun _ _ _ => rfl) (fun _ _ _ h => h) t _ (hY 0)
    exact hd
  have e1 : Y 1 = iblk m c 1 t := by
    obtain ⟨d, hd⟩ := RDat.finds_in_eq_fetched (rdat T c) (1 : Fin 8) rfl (fun _ _ _ => rfl) (fun _ _ _ h => h) t _ (hY 1)
    exact hd
  have e2 : Y 2 = iblk m c 2 t := by
    obtain ⟨d, hd⟩ := RDat.finds_in_eq_fetched (rdat T c) (2 : Fin 8) rfl (fun _ _ _ => rfl) (fun _ _ _ h => h) t _ (hY 2)
    exact hd
  have e3 : Y 3 = iblk m c 3 t := by
    obtain ⟨d, hd⟩ := RDat.finds_in_eq_fetched (rdat T c) (3 : Fin 8) rfl (fun _ _ _ => rfl) (fun _ _ _ h => h) t _ (hY 3)
    exact hd
  rw [bigSep_W0, defs₀_row]
  simp only [bigSep_W0]
  rw [show (rdat T c).owesAt () t.succ = (rdat T c).owesAt () t.castSucc from rfl]
  rw [show (rdat T c).Φ t.castSucc = iprop((∃ s : Sc F, ⌜(T c).P t.val s⌝ ∗ heldSc c s) ∗ ∃ r, prngReg c r) from rfl,
    show (rdat T c).Φ t.succ = iprop((∃ s : Sc F, ⌜(T c).P (t.val + 1) s⌝ ∗ heldSc c s) ∗ ∃ r, prngReg c r) from rfl]
  unfold heldSc
  iintro ⟨⟨⟨%sc, %hP, H9, H10, H11, H12, H13, H14⟩, Hr⟩, Ho, H1, H2, H3, H4, H5, H6, H7, H8⟩
  let s : St F := ⟨Y 0, Y 1, Y 2, Y 3, Y 4, Y 5, Y 6, Y 7, sc.x9, sc.x10, sc.x11, sc.x12, sc.x13, sc.x14⟩
  have hn := (T c).next t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) s e0 e1 e2 e3 hP
  iapply (step_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) s Set.univ _)
  unfold Held
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  rw [step_x1, step_x2, step_x3, step_x4]
  iintro ⟨H1, H2, H3, H4, H5, H6, H7, H8, H9, H10, H11, H12, H13, H14⟩
  isplitl [Hr H9 H10 H11 H12 H13 H14]
  · isplitr [Hr]
    · iexists _; isplitr; · ipureintro; exact hn.1
      isplitl [H9]; · iexact H9
      isplitl [H10]; · iexact H10
      isplitl [H11]; · iexact H11
      isplitl [H12]; · iexact H12
      isplitl [H13]; · iexact H13
      iexact H14
    · iexact Hr
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact hn.2.1
  isplitl [H6]
  · iexists _; isplitr; swap; · iexact H6
    ipureintro; exact hn.2.2.1
  isplitl [H7]
  · iexists _; isplitr; swap; · iexact H7
    ipureintro; exact hn.2.2.2.1
  iexists _; isplitr; swap; · iexact H8
  ipureintro; exact hn.2.2.2.2

set_option backward.isDefEq.respectTransparency.types false in
/-- Every execution ends, its arrays standing in the data's relation to the arrays at entry. -/
theorem run_main : θ_run defs (onTc (τ := τ) (main (F := F))) (s₀ m ρ)
    (fun r => RDat.FramePost (cfgs 0) (fun c => rdat T c) (V m) r ∧ r.2.sem = fun _ => 0) :=
  RDat.θ_run_frame_track (Q' := _) cfgs (0 : Fin 1) launch0 defs₀ 𝒱₀ (fun c => rdat T c) m ρ main
    (hbody := body_obligation T) (hshare := fun c w => (rdat T c).share_full (fun _ => rfl) w)
    (howed := fun _ _ => rfl) (V := V m) (hmain := hmain m 𝒱₀) (hA := fun _ _ => rfl)
    (hin := fun c => by
      show Pipeline.ΦA spec0 c ⊢ iprop((∃ s : Sc F, ⌜(T c).P 0 s⌝ ∗ heldSc c s) ∗ ∃ r, prngReg c r)
      unfold Pipeline.ΦA heldSc
      rw [scopedRest0_eq]; simp only [owns_whole]
      iintro ⟨⟨⟨%f0, H0⟩, ⟨%f1, H1⟩, ⟨%f2, H2⟩, ⟨%f3, H3⟩, ⟨%f4, H4⟩, ⟨%f5, H5⟩⟩, Hr⟩
      isplitr [Hr]
      · iexists ⟨f0, f1, f2, f3, f4, f5⟩; isplitr; · ipureintro; exact (T c).start _
        isplitl [H0]; · iexact H0
        isplitl [H1]; · iexact H1
        isplitl [H2]; · iexact H2
        isplitl [H3]; · iexact H3
        isplitl [H4]; · iexact H4
        iexact H5
      · iexact Hr)
    (hout := fun c => by
      show iprop((∃ s : Sc F, ⌜(T c).P _ s⌝ ∗ heldSc c s) ∗ ∃ r, prngReg c r) ⊢ Pipeline.ΦA spec0 c
      unfold Pipeline.ΦA heldSc
      rw [scopedRest0_eq]; simp only [owns_whole]
      iintro ⟨⟨%s, -, H0, H1, H2, H3, H4, H5⟩, Hr⟩
      isplitr [Hr]
      · isplitl [H0]; · iexists _; iexact H0
        isplitl [H1]; · iexists _; iexact H1
        isplitl [H2]; · iexists _; iexact H2
        isplitl [H3]; · iexists _; iexact H3
        isplitl [H4]; · iexists _; iexact H4
        iexists _; iexact H5
      · iexact Hr)

/-- The arguments end as they were. -/
theorem args_kept {r : PUnit × MemSt nD τ sig (Elt F)} (h : RDat.FramePost (cfgs 0) (fun c => rdat T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    (h.arr_in c (1 : Fin 8) rfl).trans (V_main_arg1 m c),
    (h.arr_in c (2 : Fin 8) rfl).trans (V_main_arg2 m c),
    ((h c).2 main_arg3 (Pipeline.mem_restRefs_of main_arg3 (by decide) (by decide))).trans (V_main_arg3 m c)⟩

/-- The frame: @main ends, its arguments unchanged, every counter at zero. -/
theorem frame_main (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨args_kept (fun c => Track.none m c) h.1, h.2⟩) (run_main ρ (fun c => Track.none m c))

end Cert.Proof.Kernel
end
-- ==== Proof.KernelIdealLoops.lean ====
module

public import proofs.«01_k».proof.Proof.Gen.KernelIdeal.Frame
public import proofs.«01_k».proof.Proof.Gen.KernelIdeal.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- `step 0`, `step 1`, …, each applied to what the one before left; nothing past the last trip. -/
def iterN {α : Type} {T : ℕ} (step : Fin T → α → α) (g : α) : ℕ → α
  | 0 => g
  | k + 1 => if h : k < T then step ⟨k, h⟩ (iterN step g k) else iterN step g k

theorem iterN_succ {α : Type} {T : ℕ} (step : Fin T → α → α) (g : α) (k : Fin T) :
    iterN step g (k.val + 1) = step k (iterN step g k.val) := by
  rw [iterN.eq_2]; exact dif_pos k.isLt

variable (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

/-- What one trip of a quantising loop holds: the tokens read, the codes, the scale words and the pushed tile written. -/
abbrev QTrip (X1 : BufTy.Contents (Elt F) arg1.view.ty) (f7 : BufTy.Contents (Elt F) arg7.view.ty) (f12 : BufTy.Contents (Elt F) arg12.view.ty) (f13 : BufTy.Contents (Elt F) arg13.view.ty) : sProp 𝕄 :=
  iprop((arg1.view.loc (c : Thread nD τ) ↦[arg1.view.set]{fullShare} X1) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13))

set_option maxHeartbeats 2000000 in
@[irreducible] def qtrip3 (v0 : IVec S8x128 32) (k0_h2 : k0_cond2 i = 1#1) (X1 : BufTy.Contents (Elt F) arg1.view.ty) (k : Fin k0_t3_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) // ∀ (E : Set ℕ) f7 f12 f13,
      QTrip (F := F) c arg1 arg7 arg12 arg13 X1 f7 f12 f13
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 k PUnit.unit)
          (fun _ => QTrip (F := F) c arg1 arg7 arg12 arg13 X1 (L.1 f7) (L.2.1 f12) (L.2.2 f13)) } := by
  have hk : k.val < 32 := Nat.lt_of_lt_of_le k.isLt k0_t3_abs.2.1
  refine ⟨⟨?_, ?_, ?_⟩, fun E f7 f12 f13 => ?run⟩
  case run =>
    unfold k0_t3_body
    iintro ⟨H1, H7, H12, H13⟩
    sl_exec
    sl_step
    sl_close

set_option warn.classDefReducibility false in
/-- The quantising loop by its invariant: each written buffer holds what the trips so far left. -/
@[sl_loop] def qloop3 (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (X1 : BufTy.Contents (Elt F) arg1.view.ty) (G7 : BufTy.Contents (Elt F) arg7.view.ty) (G12 : BufTy.Contents (Elt F) arg12.view.ty) (G13 : BufTy.Contents (Elt F) arg13.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 where
  inv k _ := iprop((arg1.view.loc (c : Thread nD τ) ↦[arg1.view.set]{fullShare} X1) ∗ (∃ f, (arg7.view.loc (c : Thread nD τ) ↦[arg7.view.set]{fullShare} f) ∗ ⌜f = iterN (fun k => (qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).1.1) G7 k⌝) ∗ (∃ f, (arg12.view.loc (c : Thread nD τ) ↦[arg12.view.set]{fullShare} f) ∗ ⌜f = iterN (fun k => (qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).1.2.1) G12 k⌝) ∗ (∃ f, (arg13.view.loc (c : Thread nD τ) ↦[arg13.view.set]{fullShare} f) ∗ ⌜f = iterN (fun k => (qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).1.2.2) G13 k⌝))
  step k acc := by
    iintro ⟨H1, ⟨%f7, H7, %h7⟩, ⟨%f12, H12, %h12⟩, ⟨%f13, H13, %h13⟩⟩
    iapply (wp_wand_r Idealize.ShloMosaic.frame (wpE (defs₀ (F := F)) 𝒱 (c : Thread nD τ) bd) E)
    isplitl [H1 H7 H12 H13]
    · iapply ((qtrip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 X1 k).2 E f7 f12 f13)
      isplitl [H1]; · iexact H1
      isplitl [H7]; · iexact H7
      isplitl [H12]; · iexact H12
      iexact H13
    · iintro %_ ⟨H1, H7, H12, H13⟩
      isplitl [H1]; · iexact H1
      rw [iterN_succ, iterN_succ, iterN_succ]
      isplitl [H7]
      · iexists _; isplitl [H7]; · iexact H7
        ipureintro; rw [h7]
      isplitl [H12]
      · iexists _; isplitl [H12]; · iexact H12
        ipureintro; rw [h12]
      · iexists _; isplitl [H13]; · iexact H13
        ipureintro; rw [h13]

set_option maxHeartbeats 2000000 in
@[irreducible] def qtrip7 (v0 : IVec S8x128 32) (k0_h2 : k0_cond2 i = 1#1) (v23 : FVec F S1x256 .f32) (v26 : FVec F S8x256 .f32) (v32 : FVec F S64x256 .bf16) (X1 : BufTy.Contents (Elt F) arg1.view.ty) (k : Fin k0_t7_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) // ∀ (E : Set ℕ) f7 f12 f13,
      QTrip (F := F) c arg1 arg7 arg12 arg13 X1 f7 f12 f13
      ⊢ wp frame (wpE (defs₀ (F := F)) 𝒱 (c : Thread nD τ) bd) E (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k PUnit.unit)
          (fun _ => QTrip (F := F) c arg1 arg7 arg12 arg13 X1 (L.1 f7) (L.2.1 f12) (L.2.2 f13)) } := by
  have hk : k.val < 32 := Nat.lt_of_lt_of_le k.isLt k0_t7_abs.2.1
  refine ⟨⟨?_, ?_, ?_⟩, fun E f7 f12 f13 => ?run⟩
  case run =>
    unfold k0_t7_body
    iintro ⟨H1, H7, H12, H13⟩
    sl_exec
    sl_step
    sl_close

set_option warn.classDefReducibility false in
/-- The quantising loop by its invariant: each written buffer holds what the trips so far left. -/
@[sl_loop] def qloop7 (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (G7 : BufTy.Contents (Elt F) arg7.view.ty) (G12 : BufTy.Contents (Elt F) arg12.view.ty) (G13 : BufTy.Contents (Elt F) arg13.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 where
  inv k _ := iprop((arg1.view.loc (c : Thread nD τ) ↦[arg1.view.set]{fullShare} X1) ∗ (∃ f, (arg7.view.loc (c : Thread nD τ) ↦[arg7.view.set]{fullShare} f) ∗ ⌜f = iterN (fun k => (qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).1.1) G7 k⌝) ∗ (∃ f, (arg12.view.loc (c : Thread nD τ) ↦[arg12.view.set]{fullShare} f) ∗ ⌜f = iterN (fun k => (qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).1.2.1) G12 k⌝) ∗ (∃ f, (arg13.view.loc (c : Thread nD τ) ↦[arg13.view.set]{fullShare} f) ∗ ⌜f = iterN (fun k => (qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).1.2.2) G13 k⌝))
  step k acc := by
    iintro ⟨H1, ⟨%f7, H7, %h7⟩, ⟨%f12, H12, %h12⟩, ⟨%f13, H13, %h13⟩⟩
    iapply (wp_wand_r Idealize.ShloMosaic.frame (wpE (defs₀ (F := F)) 𝒱 (c : Thread nD τ) bd) E)
    isplitl [H1 H7 H12 H13]
    · iapply ((qtrip7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 k).2 E f7 f12 f13)
      isplitl [H1]; · iexact H1
      isplitl [H7]; · iexact H7
      isplitl [H12]; · iexact H12
      iexact H13
    · iintro %_ ⟨H1, H7, H12, H13⟩
      isplitl [H1]; · iexact H1
      rw [iterN_succ, iterN_succ, iterN_succ]
      isplitl [H7]
      · iexists _; isplitl [H7]; · iexact H7
        ipureintro; rw [h7]
      isplitl [H12]
      · iexists _; isplitl [H12]; · iexact H12
        ipureintro; rw [h12]
      · iexists _; isplitl [H13]; · iexact H13
        ipureintro; rw [h13]

set_option maxHeartbeats 2000000 in
@[irreducible] def qtrip11 (v0 : IVec S8x128 32) (k0_h2 : k0_cond2 i = 1#1) (v23 : FVec F S1x256 .f32) (v26 : FVec F S8x256 .f32) (v32 : FVec F S64x256 .bf16) (k0_t9 : Fin k0_t9_loop.trips) (arg15 : BitVec 32) (X1 : BufTy.Contents (Elt F) arg1.view.ty) (k : Fin k0_t11_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) // ∀ (E : Set ℕ) f7 f12 f13,
      QTrip (F := F) c arg1 arg7 arg12 arg13 X1 f7 f12 f13
      ⊢ wp frame (wpE (defs₀ (F := F)) 𝒱 (c : Thread nD τ) bd) E (k0_t11_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 k PUnit.unit)
          (fun _ => QTrip (F := F) c arg1 arg7 arg12 arg13 X1 (L.1 f7) (L.2.1 f12) (L.2.2 f13)) } := by
  have hk : k.val < 32 := Nat.lt_of_lt_of_le k.isLt k0_t11_abs.2.1
  refine ⟨⟨?_, ?_, ?_⟩, fun E f7 f12 f13 => ?run⟩
  case run =>
    unfold k0_t11_body
    iintro ⟨H1, H7, H12, H13⟩
    sl_exec
    sl_step
    sl_close

set_option warn.classDefReducibility false in
/-- The quantising loop by its invariant: each written buffer holds what the trips so far left. -/
@[sl_loop] def qloop11 (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (k0_t9 : Fin k0_t9_loop.trips) (arg15 : BitVec 32) (X1 : BufTy.Contents (Elt F) arg1.view.ty) (G7 : BufTy.Contents (Elt F) arg7.view.ty) (G12 : BufTy.Contents (Elt F) arg12.view.ty) (G13 : BufTy.Contents (Elt F) arg13.view.ty) :
    LoopInvTy_k0_t11 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 where
  inv k _ := iprop((arg1.view.loc (c : Thread nD τ) ↦[arg1.view.set]{fullShare} X1) ∗ (∃ f, (arg7.view.loc (c : Thread nD τ) ↦[arg7.view.set]{fullShare} f) ∗ ⌜f = iterN (fun k => (qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).1.1) G7 k⌝) ∗ (∃ f, (arg12.view.loc (c : Thread nD τ) ↦[arg12.view.set]{fullShare} f) ∗ ⌜f = iterN (fun k => (qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).1.2.1) G12 k⌝) ∗ (∃ f, (arg13.view.loc (c : Thread nD τ) ↦[arg13.view.set]{fullShare} f) ∗ ⌜f = iterN (fun k => (qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).1.2.2) G13 k⌝))
  step k acc := by
    iintro ⟨H1, ⟨%f7, H7, %h7⟩, ⟨%f12, H12, %h12⟩, ⟨%f13, H13, %h13⟩⟩
    iapply (wp_wand_r Idealize.ShloMosaic.frame (wpE (defs₀ (F := F)) 𝒱 (c : Thread nD τ) bd) E)
    isplitl [H1 H7 H12 H13]
    · iapply ((qtrip11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k0_t9 arg15 X1 k).2 E f7 f12 f13)
      isplitl [H1]; · iexact H1
      isplitl [H7]; · iexact H7
      isplitl [H12]; · iexact H12
      iexact H13
    · iintro %_ ⟨H1, H7, H12, H13⟩
      isplitl [H1]; · iexact H1
      rw [iterN_succ, iterN_succ, iterN_succ]
      isplitl [H7]
      · iexists _; isplitl [H7]; · iexact H7
        ipureintro; rw [h7]
      isplitl [H12]
      · iexists _; isplitl [H12]; · iexact H12
        ipureintro; rw [h12]
      · iexists _; isplitl [H13]; · iexact H13
        ipureintro; rw [h13]

/-- What one trip of the loop over the 256-wide tiles holds. -/
abbrev KTrip (X1 : BufTy.Contents (Elt F) arg1.view.ty) (X9 : BufTy.Contents (Elt F) arg9.view.ty) (f7 : BufTy.Contents (Elt F) arg7.view.ty) (f12 : BufTy.Contents (Elt F) arg12.view.ty) (f13 : BufTy.Contents (Elt F) arg13.view.ty) (f14 : BufTy.Contents (Elt F) arg14.view.ty) : sProp 𝕄 :=
  iprop((arg1.view.loc (c : Thread nD τ) ↦[arg1.view.set]{fullShare} X1) ∗ (arg9.view.loc (c : Thread nD τ) ↦[arg9.view.set]{fullShare} X9) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

set_option maxHeartbeats 4000000 in
@[irreducible] def ktrip (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (k : Fin k0_t9_loop.trips) :
    { L : (BufTy.Contents (Elt F) arg7.view.ty → BufTy.Contents (Elt F) arg7.view.ty) × (BufTy.Contents (Elt F) arg12.view.ty → BufTy.Contents (Elt F) arg12.view.ty) × (BufTy.Contents (Elt F) arg13.view.ty → BufTy.Contents (Elt F) arg13.view.ty) × (BufTy.Contents (Elt F) arg13.view.ty → BufTy.Contents (Elt F) arg14.view.ty → BufTy.Contents (Elt F) arg14.view.ty) // ∀ (E : Set ℕ) f7 f12 f13 f14,
      KTrip (F := F) c arg1 arg7 arg9 arg12 arg13 arg14 X1 X9 f7 f12 f13 f14
      ⊢ wp frame (wpE (defs₀ (F := F)) 𝒱 (c : Thread nD τ) bd) E (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 k PUnit.unit)
          (fun _ => KTrip (F := F) c arg1 arg7 arg9 arg12 arg13 arg14 X1 X9 (L.1 f7) (L.2.1 f12) (L.2.2.1 f13) (L.2.2.2 f13 f14)) } := by
  have hk : k.val < 26 := Nat.lt_of_lt_of_le k.isLt k0_t9_abs.2.1
  refine ⟨⟨?_, ?_, ?_, ?_⟩, fun E f7 f12 f13 f14 => ?run⟩
  case run =>
    unfold k0_t9_body
    iintro ⟨H1, H9, H7, H12, H13, H14⟩
    sl_exec
    sl_step
    sl_close

/-- The pushed tiles and the accumulators after the first `k` trips. -/
def kst (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (G13 : BufTy.Contents (Elt F) arg13.view.ty) (G14 : BufTy.Contents (Elt F) arg14.view.ty) (k : ℕ) :
    BufTy.Contents (Elt F) arg13.view.ty × BufTy.Contents (Elt F) arg14.view.ty :=
  iterN (fun k s => ((ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.1 s.1, (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.2 s.1 s.2)) (G13, G14) k

theorem kst_succ (𝒱 : Variants) (c : Dev nD) (bd : Option 𝒱.V) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (G13 : BufTy.Contents (Elt F) arg13.view.ty) (G14 : BufTy.Contents (Elt F) arg14.view.ty) (k : Fin k0_t9_loop.trips) :
    kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 (k.val + 1) = ((ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.1 (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k.val).1, (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.2.2 (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k.val).1 (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k.val).2) := by
  unfold kst; rw [iterN_succ]

set_option warn.classDefReducibility false in
/-- The loop over the tiles by its invariant. -/
@[sl_loop] def kloop (𝒱 : Variants) (c : Dev nD) (bd : Option 𝒱.V) (E : Set ℕ) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (v0 : IVec S8x128 32) (k0_h2 : k0_cond2 i = 1#1) (v23 : FVec F S1x256 .f32) (v26 : FVec F S8x256 .f32) (v32 : FVec F S64x256 .bf16) (X1 : BufTy.Contents (Elt F) arg1.view.ty) (X9 : BufTy.Contents (Elt F) arg9.view.ty) (G7 : BufTy.Contents (Elt F) arg7.view.ty) (G12 : BufTy.Contents (Elt F) arg12.view.ty) (G13 : BufTy.Contents (Elt F) arg13.view.ty) (G14 : BufTy.Contents (Elt F) arg14.view.ty) :
    LoopInvTy_k0_t9 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 where
  inv k _ := iprop((arg1.view.loc (c : Thread nD τ) ↦[arg1.view.set]{fullShare} X1) ∗ (arg9.view.loc (c : Thread nD τ) ↦[arg9.view.set]{fullShare} X9) ∗ (∃ f, (arg7.view.loc (c : Thread nD τ) ↦[arg7.view.set]{fullShare} f) ∗ ⌜f = iterN (fun k => (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.1) G7 k⌝) ∗ (∃ f, (arg12.view.loc (c : Thread nD τ) ↦[arg12.view.set]{fullShare} f) ∗ ⌜f = iterN (fun k => (ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).1.2.1) G12 k⌝) ∗ (∃ f, (arg13.view.loc (c : Thread nD τ) ↦[arg13.view.set]{fullShare} f) ∗ ⌜f = (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k).1⌝) ∗ (∃ f, (arg14.view.loc (c : Thread nD τ) ↦[arg14.view.set]{fullShare} f) ∗ ⌜f = (kst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 G13 G14 k).2⌝))
  step k acc := by
    iintro ⟨H1, H9, ⟨%f7, H7, %h7⟩, ⟨%f12, H12, %h12⟩, ⟨%f13, H13, %h13⟩, ⟨%f14, H14, %h14⟩⟩
    iapply (wp_wand_r Idealize.ShloMosaic.frame (wpE (defs₀ (F := F)) 𝒱 (c : Thread nD τ) bd) E)
    isplitl [H1 H9 H7 H12 H13 H14]
    · iapply ((ktrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k0_h2 v23 v26 v32 X1 X9 k).2 E f7 f12 f13 f14)
      isplitl [H1]; · iexact H1
      isplitl [H9]; · iexact H9
      isplitl [H7]; · iexact H7
      isplitl [H12]; · iexact H12
      isplitl [H13]; · iexact H13
      iexact H14
    · iintro %_ ⟨H1, H9, H7, H12, H13, H14⟩
      isplitl [H1]; · iexact H1
      isplitl [H9]; · iexact H9
      rw [iterN_succ, iterN_succ, kst_succ]
      isplitl [H7]
      · iexists _; isplitl [H7]; · iexact H7
        ipureintro; rw [h7]
      isplitl [H12]
      · iexists _; isplitl [H12]; · iexact H12
        ipureintro; rw [h12]
      isplitl [H13]
      · iexists _; isplitl [H13]; · iexact H13
        ipureintro; rw [h13]
      · iexists _; isplitl [H14]; · iexact H14
        ipureintro; rw [h13, h14]

end Cert.Proof.KernelIdeal
end
-- ==== Proof.KernelIdealRun.lean ====
module

public import proofs.«01_k».proof.Proof.KernelIdealLoops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- What the fourteen buffers of a grid step hold: the inputs (1 to 4), the results' blocks (5 to 8), the scratch (9 to 14). -/
structure St (F : FTy → Type) [FloatOps F] where
  x1 : Vec F S512x7168 .bf16
  x2 : Vec F S576x7168 .fp8e4m3
  x3 : Vec F S5x56 .f32
  x4 : Vec F S1x512 .f32
  x5 : Vec F S512x512 .bf16
  x6 : Vec F S64x512 .bf16
  x7 : Vec F S512x7168 .fp8e4m3
  x8 : Vec F S56x512 .f32
  x9 : Vec F S56x576x128 .bf16
  x10 : Vec F S512x128 .f32
  x11 : Vec F S512x512 .f32
  x12 : Vec F S256x128 .i32
  x13 : Vec F S2x512x256 .bf16
  x14 : Vec F S576x512 .f32

/-- The fourteen buffers held, at `s`. -/
def Held (c : Dev nD) (arg1 : Memref sig .tc .vmem S512x7168 .bf16) (arg2 : Memref sig .tc .vmem S576x7168 .fp8e4m3) (arg3 : Memref sig .tc .smem S5x56 .f32) (arg4 : Memref sig .tc .vmem S1x512 .f32) (arg5 : Memref sig .tc .vmem S512x512 .bf16) (arg6 : Memref sig .tc .vmem S64x512 .bf16) (arg7 : Memref sig .tc .vmem S512x7168 .fp8e4m3) (arg8 : Memref sig .tc .vmem S56x512 .f32) (arg9 : Memref sig .tc .vmem S56x576x128 .bf16) (arg10 : Memref sig .tc .vmem S512x128 .f32) (arg11 : Memref sig .tc .vmem S512x512 .f32) (arg12 : Memref sig .tc .vmem S256x128 .i32) (arg13 : Memref sig .tc .vmem S2x512x256 .bf16) (arg14 : Memref sig .tc .vmem S576x512 .f32) (s : St F) : sProp 𝕄 :=
  iprop(owns (c : Thread nD τ) arg1 fullShare s.x1
      ∗ owns (c : Thread nD τ) arg2 fullShare s.x2
      ∗ owns (c : Thread nD τ) arg3 fullShare s.x3
      ∗ owns (c : Thread nD τ) arg4 fullShare s.x4
      ∗ owns (c : Thread nD τ) arg5 fullShare s.x5
      ∗ owns (c : Thread nD τ) arg6 fullShare s.x6
      ∗ owns (c : Thread nD τ) arg7 fullShare s.x7
      ∗ owns (c : Thread nD τ) arg8 fullShare s.x8
      ∗ owns (c : Thread nD τ) arg9 fullShare s.x9
      ∗ owns (c : Thread nD τ) arg10 fullShare s.x10
      ∗ owns (c : Thread nD τ) arg11 fullShare s.x11
      ∗ owns (c : Thread nD τ) arg12 fullShare s.x12
      ∗ owns (c : Thread nD τ) arg13 fullShare s.x13
      ∗ owns (c : Thread nD τ) arg14 fullShare s.x14)

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

set_option maxHeartbeats 8000000 in
set_option warn.classDefReducibility false in
/-- What the first grid step leaves in the buffers, found by running the body. -/
@[irreducible] def runA (h1 : k0_cond1 i = 1#1) (h2 : k0_cond2 i = 1#1) (h3 : ¬ k0_cond3 i = 1#1) (s : St F) :
    { s' : St F // ∀ (E : Set ℕ) (K : PUnit → sProp 𝕄),
      iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 s' -∗ K ⟨⟩))
        ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨s.x1, s.x2, s.x3, s.x4, ?_, ?_, ?_, ?_, ?_, ?_, ?_, ?_, ?_, ?_⟩, fun E K => ?run⟩
  case run =>
    unfold Held owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_unfold [cc0_mla_kv_down_proj]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    · iexists _; isplitr; swap; · iexact H14
      ipureintro; rfl

set_option maxHeartbeats 8000000 in
set_option warn.classDefReducibility false in
/-- What a grid step that is neither the first nor the last leaves in the buffers, found by running the body. -/
@[irreducible] def runB (h1 : ¬ k0_cond1 i = 1#1) (h2 : k0_cond2 i = 1#1) (h3 : ¬ k0_cond3 i = 1#1) (s : St F) :
    { s' : St F // ∀ (E : Set ℕ) (K : PUnit → sProp 𝕄),
      iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 s' -∗ K ⟨⟩))
        ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨s.x1, s.x2, s.x3, s.x4, ?_, ?_, ?_, ?_, s.x9, s.x10, ?_, ?_, ?_, ?_⟩, fun E K => ?run⟩
  case run =>
    unfold Held owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_unfold [cc0_mla_kv_down_proj]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    · iexists _; isplitr; swap; · iexact H14
      ipureintro; rfl

set_option maxHeartbeats 8000000 in
set_option warn.classDefReducibility false in
/-- What the last grid step leaves in the buffers, found by running the body. -/
@[irreducible] def runC (h1 : ¬ k0_cond1 i = 1#1) (h2 : ¬ k0_cond2 i = 1#1) (h3 : k0_cond3 i = 1#1) (s : St F) :
    { s' : St F // ∀ (E : Set ℕ) (K : PUnit → sProp 𝕄),
      iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 s' -∗ K ⟨⟩))
        ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨s.x1, s.x2, s.x3, s.x4, ?_, ?_, s.x7, s.x8, s.x9, s.x10, ?_, s.x12, s.x13, ?_⟩, fun E K => ?run⟩
  case run =>
    unfold Held owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_unfold [cc0_mla_kv_down_proj]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; · ipureintro; exact harg12.read_unread _
      iexact H12
    isplitl [H13]
    · iexists _; isplitr; · ipureintro; exact harg13.read_unread _
      iexact H13
    · iexists _; isplitr; swap; · iexact H14
      ipureintro; rfl

end Cert.Proof.KernelIdeal
end
-- ==== Proof.KernelIdealFrame.lean ====
module

public import proofs.«01_k».proof.Proof.KernelIdealRun
public import Idealize.ShloMosaic.Lib.Pipeline.ArrRel

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

/-- What the six scratch buffers hold: weights, gamma, latent rows, scale words, pushed tiles, accumulators. -/
structure Sc (F : FTy → Type) [FloatOps F] where
  x9 : Vec F S56x576x128 .bf16
  x10 : Vec F S512x128 .f32
  x11 : Vec F S512x512 .f32
  x12 : Vec F S256x128 .i32
  x13 : Vec F S2x512x256 .bf16
  x14 : Vec F S576x512 .f32

/-- The scratch of a grid step's state. -/
def St.sc (s : St F) : Sc F := ⟨s.x9, s.x10, s.x11, s.x12, s.x13, s.x14⟩

/-- The three cases of a grid step. -/
theorem cases_cond : ∀ i : grid0.Coords,
    (k0_cond1 i = 1#1 ∧ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1) := by
  decide +kernel

section
variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Classical in
/-- One grid step on the fourteen buffers. -/
def step (s : St F) : St F :=
  if h : k0_cond1 i = 1#1 ∧ k0_cond2 i = 1#1 ∧ ¬ k0_cond3 i = 1#1 then (runA c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).1
  else if h : ¬ k0_cond1 i = 1#1 ∧ k0_cond2 i = 1#1 ∧ ¬ k0_cond3 i = 1#1 then (runB c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).1
  else if h : ¬ k0_cond1 i = 1#1 ∧ ¬ k0_cond2 i = 1#1 ∧ k0_cond3 i = 1#1 then (runC c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).1
  else s

theorem step_run (s : St F) (E : Set ℕ) (K : PUnit → sProp 𝕄) :
    iprop(Held c arg1 arg2 arg3 arg4 arg5 arg6 arg7 arg8 arg9 arg10 arg11 arg12 arg13 arg14 s ∗ (Held c arg1 arg2 arg3 arg4 arg5 arg6 arg7 arg8 arg9 arg10 arg11 arg12 arg13 arg14 (step c i arg1 harg1 arg2 harg2 arg3 harg3 arg4 harg4 arg5 harg5 arg6 harg6 arg7 harg7 arg8 harg8 arg9 harg9 arg10 harg10 arg11 harg11 arg12 harg12 arg13 harg13 arg14 harg14 s) -∗ K ⟨⟩))
      ⊢ wp frame (wpE (defs₀ (F := F)) 𝒱₀ (c : Thread nD τ) none) E (cc0_mla_kv_down_proj (F := F) i arg1 harg1 arg2 harg2 arg3 harg3 arg4 harg4 arg5 harg5 arg6 harg6 arg7 harg7 arg8 harg8 arg9 harg9 arg10 harg10 arg11 harg11 arg12 harg12 arg13 harg13 arg14 harg14) K := by
  unfold step
  rcases cases_cond i with h | h | h
  · rw [dif_pos h]; exact (runA c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).2 E K
  · rw [dif_neg (fun h' => h.1 h'.1), dif_pos h]; exact (runB c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).2 E K
  · rw [dif_neg (fun h' => h.1 h'.1), dif_neg (fun h' => h.2.1 h'.2.1), dif_pos h]; exact (runC c i arg1 harg1 arg2 harg2 arg3 harg3 arg4 harg4 arg5 harg5 arg6 harg6 arg7 harg7 arg8 harg8 arg9 harg9 arg10 harg10 arg11 harg11 arg12 harg12 arg13 harg13 arg14 harg14 h.1 h.2.1 h.2.2 s).2 E K

theorem step_x1 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x1 = s.x1 := by unfold step runA runB runC; split <;> [rfl; (split <;> [rfl; (split <;> rfl)])]
theorem step_x2 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x2 = s.x2 := by unfold step runA runB runC; split <;> [rfl; (split <;> [rfl; (split <;> rfl)])]
theorem step_x3 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x3 = s.x3 := by unfold step runA runB runC; split <;> [rfl; (split <;> [rfl; (split <;> rfl)])]
theorem step_x4 (s : St F) : (step c i arg1 harg1 arg2 harg2 arg3 harg3 arg4 harg4 arg5 harg5 arg6 harg6 arg7 harg7 arg8 harg8 arg9 harg9 arg10 harg10 arg11 harg11 arg12 harg12 arg13 harg13 arg14 harg14 s).x4 = s.x4 := by unfold step runA runB runC; split <;> [rfl; (split <;> [rfl; (split <;> rfl)])]
end

variable (m : (ℓ : Loc nD τ sig) → Buf (Elt F) ℓ) (ρ : Dev nD → PrngReg)

/-- What is followed from grid step to grid step: `P t` of the scratch before step `t`; `O w t Y X` between what result
    block `w` was found at and what it was left at. `next`: one step keeps them, whatever buffers it runs on. -/
structure Track (c : Dev nD) where
  P : ℕ → Sc F → Prop
  O5 : Fin cfg0.N → Vec F S512x512 .bf16 → Vec F S512x512 .bf16 → Prop
  O6 : Fin cfg0.N → Vec F S64x512 .bf16 → Vec F S64x512 .bf16 → Prop
  O7 : Fin cfg0.N → Vec F S512x7168 .fp8e4m3 → Vec F S512x7168 .fp8e4m3 → Prop
  O8 : Fin cfg0.N → Vec F S56x512 .f32 → Vec F S56x512 .f32 → Prop
  start : ∀ s, P 0 s
  next : ∀ (t : Fin cfg0.N) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole) (s : St F),
    s.x1 = iblk m c 0 t → s.x2 = iblk m c 1 t → s.x3 = iblk m c 2 t → s.x4 = iblk m c 3 t → P t.val s.sc →
    P (t.val + 1) (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).sc
      ∧ O5 t s.x5 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x5 ∧ O6 t s.x6 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x6
      ∧ O7 t s.x7 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x7 ∧ O8 t s.x8 (step c (grid0.coords t) arg1 harg1 arg2 harg2 arg3 harg3 arg4 harg4 arg5 harg5 arg6 harg6 arg7 harg7 arg8 harg8 arg9 harg9 arg10 harg10 arg11 harg11 arg12 harg12 arg13 harg13 arg14 harg14 s).x8

/-- Nothing followed: what the frame claim needs. -/
def Track.none (c : Dev nD) : Track m c where
  P _ _ := True
  O5 _ _ _ := True
  O6 _ _ _ := True
  O7 _ _ _ := True
  O8 _ _ _ := True
  start _ := trivial
  next := by intros; exact ⟨trivial, trivial, trivial, trivial, trivial⟩

variable {m} (T : (c : Dev nD) → Track m c)

/-- The six scratch buffers held, at `s`. -/
def heldSc (c : Dev nD) (s : Sc F) : sProp 𝕄 :=
  iprop(owns (c : Thread nD τ) (Memref.whole cc0_scratch0) fullShare s.x9 ∗ owns (c : Thread nD τ) (Memref.whole cc0_scratch1) fullShare s.x10 ∗ owns (c : Thread nD τ) (Memref.whole cc0_scratch2) fullShare s.x11 ∗ owns (c : Thread nD τ) (Memref.whole cc0_scratch3) fullShare s.x12 ∗ owns (c : Thread nD τ) (Memref.whole cc0_scratch4) fullShare s.x13 ∗ owns (c : Thread nD τ) (Memref.whole cc0_scratch5) fullShare s.x14)

/-- The pipeline's proof data: the arrays as the region finds them, what a step may leave in each block, and the scratch
    at something satisfying `P`. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => (T c).O5 t Y X
    | ⟨5, _⟩ => (T c).O6 t Y X
    | ⟨6, _⟩ => (T c).O7 t Y X
    | ⟨7, _⟩ => (T c).O8 t Y X
  Φ t := iprop((∃ s : Sc F, ⌜(T c).P t.val s⌝ ∗ heldSc c s) ∗ ∃ r, prngReg c r)
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat T c).BodyObligation (defs₀ (F := F)) 𝒱₀ () Set.univ := fun t Y hY => by
  have e0 : Y 0 = iblk m c 0 t := by
    obtain ⟨d, hd⟩ := RDat.finds_in_eq_fetched (rdat T c) (0 : Fin 8) rfl (fun _ _ _ => rfl) (fun _ _ _ h => h) t _ (hY 0)
    exact hd
  have e1 : Y 1 = iblk m c 1 t := by
    obtain ⟨d, hd⟩ := RDat.finds_in_eq_fetched (rdat T c) (1 : Fin 8) rfl (fun _ _ _ => rfl) (fun _ _ _ h => h) t _ (hY 1)
    exact hd
  have e2 : Y 2 = iblk m c 2 t := by
    obtain ⟨d, hd⟩ := RDat.finds_in_eq_fetched (rdat T c) (2 : Fin 8) rfl (fun _ _ _ => rfl) (fun _ _ _ h => h) t _ (hY 2)
    exact hd
  have e3 : Y 3 = iblk m c 3 t := by
    obtain ⟨d, hd⟩ := RDat.finds_in_eq_fetched (rdat T c) (3 : Fin 8) rfl (fun _ _ _ => rfl) (fun _ _ _ h => h) t _ (hY 3)
    exact hd
  rw [bigSep_W0, defs₀_row]
  simp only [bigSep_W0]
  rw [show (rdat T c).owesAt () t.succ = (rdat T c).owesAt () t.castSucc from rfl]
  rw [show (rdat T c).Φ t.castSucc = iprop((∃ s : Sc F, ⌜(T c).P t.val s⌝ ∗ heldSc c s) ∗ ∃ r, prngReg c r) from rfl,
    show (rdat T c).Φ t.succ = iprop((∃ s : Sc F, ⌜(T c).P (t.val + 1) s⌝ ∗ heldSc c s) ∗ ∃ r, prngReg c r) from rfl]
  unfold heldSc
  iintro ⟨⟨⟨%sc, %hP, H9, H10, H11, H12, H13, H14⟩, Hr⟩, Ho, H1, H2, H3, H4, H5, H6, H7, H8⟩
  let s : St F := ⟨Y 0, Y 1, Y 2, Y 3, Y 4, Y 5, Y 6, Y 7, sc.x9, sc.x10, sc.x11, sc.x12, sc.x13, sc.x14⟩
  have hn := (T c).next t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) s e0 e1 e2 e3 hP
  iapply (step_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) s Set.univ _)
  unfold Held
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  rw [step_x1, step_x2, step_x3, step_x4]
  iintro ⟨H1, H2, H3, H4, H5, H6, H7, H8, H9, H10, H11, H12, H13, H14⟩
  isplitl [Hr H9 H10 H11 H12 H13 H14]
  · isplitr [Hr]
    · iexists _; isplitr; · ipureintro; exact hn.1
      isplitl [H9]; · iexact H9
      isplitl [H10]; · iexact H10
      isplitl [H11]; · iexact H11
      isplitl [H12]; · iexact H12
      isplitl [H13]; · iexact H13
      iexact H14
    · iexact Hr
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact hn.2.1
  isplitl [H6]
  · iexists _; isplitr; swap; · iexact H6
    ipureintro; exact hn.2.2.1
  isplitl [H7]
  · iexists _; isplitr; swap; · iexact H7
    ipureintro; exact hn.2.2.2.1
  iexists _; isplitr; swap; · iexact H8
  ipureintro; exact hn.2.2.2.2

set_option backward.isDefEq.respectTransparency.types false in
/-- Every execution ends, its arrays standing in the data's relation to the arrays at entry. -/
theorem run_main : θ_run defs (onTc (τ := τ) (main (F := F))) (s₀ m ρ)
    (fun r => RDat.FramePost (cfgs 0) (fun c => rdat T c) (V m) r ∧ r.2.sem = fun _ => 0) :=
  RDat.θ_run_frame_track (Q' := _) cfgs (0 : Fin 1) launch0 defs₀ 𝒱₀ (fun c => rdat T c) m ρ main
    (hbody := body_obligation T) (hshare := fun c w => (rdat T c).share_full (fun _ => rfl) w)
    (howed := fun _ _ => rfl) (V := V m) (hmain := hmain m 𝒱₀) (hA := fun _ _ => rfl)
    (hin := fun c => by
      show Pipeline.ΦA spec0 c ⊢ iprop((∃ s : Sc F, ⌜(T c).P 0 s⌝ ∗ heldSc c s) ∗ ∃ r, prngReg c r)
      unfold Pipeline.ΦA heldSc
      rw [scopedRest0_eq]; simp only [owns_whole]
      iintro ⟨⟨⟨%f0, H0⟩, ⟨%f1, H1⟩, ⟨%f2, H2⟩, ⟨%f3, H3⟩, ⟨%f4, H4⟩, ⟨%f5, H5⟩⟩, Hr⟩
      isplitr [Hr]
      · iexists ⟨f0, f1, f2, f3, f4, f5⟩; isplitr; · ipureintro; exact (T c).start _
        isplitl [H0]; · iexact H0
        isplitl [H1]; · iexact H1
        isplitl [H2]; · iexact H2
        isplitl [H3]; · iexact H3
        isplitl [H4]; · iexact H4
        iexact H5
      · iexact Hr)
    (hout := fun c => by
      show iprop((∃ s : Sc F, ⌜(T c).P _ s⌝ ∗ heldSc c s) ∗ ∃ r, prngReg c r) ⊢ Pipeline.ΦA spec0 c
      unfold Pipeline.ΦA heldSc
      rw [scopedRest0_eq]; simp only [owns_whole]
      iintro ⟨⟨%s, -, H0, H1, H2, H3, H4, H5⟩, Hr⟩
      isplitr [Hr]
      · isplitl [H0]; · iexists _; iexact H0
        isplitl [H1]; · iexists _; iexact H1
        isplitl [H2]; · iexists _; iexact H2
        isplitl [H3]; · iexists _; iexact H3
        isplitl [H4]; · iexists _; iexact H4
        iexists _; iexact H5
      · iexact Hr)

/-- The arguments end as they were. -/
theorem args_kept {r : PUnit × MemSt nD τ sig (Elt F)} (h : RDat.FramePost (cfgs 0) (fun c => rdat T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    (h.arr_in c (1 : Fin 8) rfl).trans (V_main_arg1 m c),
    (h.arr_in c (2 : Fin 8) rfl).trans (V_main_arg2 m c),
    ((h c).2 main_arg3 (Pipeline.mem_restRefs_of main_arg3 (by decide) (by decide))).trans (V_main_arg3 m c)⟩

/-- The frame: @main ends, its arguments unchanged, every counter at zero. -/
theorem frame_main (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨args_kept (fun c => Track.none m c) h.1, h.2⟩) (run_main ρ (fun c => Track.none m c))

end Cert.Proof.KernelIdeal
end
-- ==== Proof.Read.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

/-- A trip that changes what is read at `y` only when it is trip `k₀`, and then by `u`. -/
theorem iterN_at {α β : Type} {T : ℕ} (rd : α → β) (step : Fin T → α → α) (g : α) (k₀ : Fin T) (u : β → β)
    (h1 : ∀ f, rd (step k₀ f) = u (rd f)) (h2 : ∀ k, k ≠ k₀ → ∀ f, rd (step k f) = rd f) (n : ℕ) :
    rd (iterN step g n) = if k₀.val < n then u (rd g) else rd g := by
  induction n with
  | zero => rfl
  | succ n ih =>
    by_cases hn : n < T
    · rw [iterN_succ step g ⟨n, hn⟩]
      by_cases e : (⟨n, hn⟩ : Fin T) = k₀
      · have ev : k₀.val = n := by rw [← e]
        rw [e, h1, ev, ih, if_neg (by omega), if_pos (by omega)]
      · have ev : k₀.val ≠ n := fun h => e (Fin.ext h.symm)
        rw [h2 _ e, ih]
        by_cases h : k₀.val < n
        · rw [if_pos h, if_pos (by omega)]
        · rw [if_neg h, if_neg (by omega)]
    · rw [iterN.eq_2, dif_neg hn, ih, if_pos (by have := k₀.isLt; omega), if_pos (by have := k₀.isLt; omega)]

/-- No trip changes what is read. -/
theorem iterN_const {α β : Type} {T : ℕ} (rd : α → β) (step : Fin T → α → α) (g : α) (h2 : ∀ k, ∀ f, rd (step k f) = rd f) (n : ℕ) :
    rd (iterN step g n) = rd g := by
  induction n with
  | zero => rfl
  | succ n ih =>
    by_cases hn : n < T
    · rw [iterN_succ step g ⟨n, hn⟩, h2, ih]
    · rw [iterN.eq_2, dif_neg hn, ih]

/-- A list of pieces built trip by trip is the trips' writes one after the other. -/
theorem writes_iterN {κ : Kind} {sp : Space} {s : Shape} {e : EltTy} {Val : EltTy → Type} (v : View sig κ sp s e) {T : ℕ}
    (pb : ℕ → List (View.Piece Val s e)) (tr : Fin T → BufTy.Contents Val v.ty → List (View.Piece Val s e)) (G : BufTy.Contents Val v.ty)
    (h0 : pb 0 = []) (hs : ∀ k : Fin T, pb (k.val + 1) = tr k (v.writes Val G (pb k.val)) ++ pb k.val) (n : ℕ) (hn : n ≤ T) :
    v.writes Val G (pb n) = iterN (fun k f => v.writes Val f (tr k f)) G n := by
  induction n with
  | zero => rw [h0]; rfl
  | succ n ih =>
    rw [iterN_succ _ G ⟨n, hn⟩, hs ⟨n, hn⟩, View.writes_append, ih (by omega)]

section
variable {κ : Kind} {sp : Space} {e : EltTy} {Val : EltTy → Type} {n m l : ℕ}

theorem read_w2_in (v : View sig κ sp ⟨2, ![n, m]⟩ e) (f : BufTy.Contents Val v.ty) {off : Fin 2 → ℕ} {A B : ℕ} (inb : ∀ a : Fin 2, off a + (![A, B] : Fin 2 → ℕ) a ≤ (![n, m] : Fin 2 → ℕ) a)
    (w : (⟨2, ![A, B]⟩ : Shape).Idx → Val e) (L : List (View.Piece Val ⟨2, ![n, m]⟩ e)) {p q : ℕ} (hoff : off = ![p, q])
    (r : Fin n) (j : Fin m) (a : Fin A) (b : Fin B) (hr : r.val = p + a.val) (hj : j.val = q + b.val) :
    v.read Val (v.writes Val f (⟨Rect.unit (s := ⟨2, ![n, m]⟩) off ![A, B] inb, w⟩ :: L)) (ix2 r j) = w (ix2 a b) :=
  View.read_writes_cons_unit_of_mem v f inb w L (ix2 r j) (ix2 a b) hoff (by intro d; match d with | ⟨0, _⟩ => exact hr | ⟨1, _⟩ => exact hj)

theorem read_w2_out (v : View sig κ sp ⟨2, ![n, m]⟩ e) (f : BufTy.Contents Val v.ty) {off : Fin 2 → ℕ} {A B : ℕ} (inb : ∀ a : Fin 2, off a + (![A, B] : Fin 2 → ℕ) a ≤ (![n, m] : Fin 2 → ℕ) a)
    (w : (⟨2, ![A, B]⟩ : Shape).Idx → Val e) (L : List (View.Piece Val ⟨2, ![n, m]⟩ e)) {p q : ℕ} (hoff : off = ![p, q])
    (r : Fin n) (j : Fin m) (h : (r.val < p ∨ p + A ≤ r.val) ∨ (j.val < q ∨ q + B ≤ j.val)) :
    v.read Val (v.writes Val f (⟨Rect.unit (s := ⟨2, ![n, m]⟩) off ![A, B] inb, w⟩ :: L)) (ix2 r j) = v.read Val (v.writes Val f L) (ix2 r j) := by
  rcases h with h | h
  · exact View.read_writes_cons_unit_of_not_mem v f inb w L (ix2 r j) hoff (0 : Fin 2) h
  · exact View.read_writes_cons_unit_of_not_mem v f inb w L (ix2 r j) hoff (1 : Fin 2) h

theorem read_w3_in (v : View sig κ sp ⟨3, ![l, n, m]⟩ e) (f : BufTy.Contents Val v.ty) {off : Fin 3 → ℕ} {C A B : ℕ} (inb : ∀ a : Fin 3, off a + (![C, A, B] : Fin 3 → ℕ) a ≤ (![l, n, m] : Fin 3 → ℕ) a)
    (w : (⟨3, ![C, A, B]⟩ : Shape).Idx → Val e) (L : List (View.Piece Val ⟨3, ![l, n, m]⟩ e)) {o p q : ℕ} (hoff : off = ![o, p, q])
    (s : Fin l) (r : Fin n) (j : Fin m) (c : Fin C) (a : Fin A) (b : Fin B) (hs : s.val = o + c.val) (hr : r.val = p + a.val) (hj : j.val = q + b.val) :
    v.read Val (v.writes Val f (⟨Rect.unit (s := ⟨3, ![l, n, m]⟩) off ![C, A, B] inb, w⟩ :: L)) (ix3 s r j) = w (ix3 c a b) :=
  View.read_writes_cons_unit_of_mem v f inb w L (ix3 s r j) (ix3 c a b) hoff (by intro d; match d with | ⟨0, _⟩ => exact hs | ⟨1, _⟩ => exact hr | ⟨2, _⟩ => exact hj)

theorem read_w3_out (v : View sig κ sp ⟨3, ![l, n, m]⟩ e) (f : BufTy.Contents Val v.ty) {off : Fin 3 → ℕ} {C A B : ℕ} (inb : ∀ a : Fin 3, off a + (![C, A, B] : Fin 3 → ℕ) a ≤ (![l, n, m] : Fin 3 → ℕ) a)
    (w : (⟨3, ![C, A, B]⟩ : Shape).Idx → Val e) (L : List (View.Piece Val ⟨3, ![l, n, m]⟩ e)) {o p q : ℕ} (hoff : off = ![o, p, q])
    (s : Fin l) (r : Fin n) (j : Fin m) (h : (s.val < o ∨ o + C ≤ s.val) ∨ (r.val < p ∨ p + A ≤ r.val) ∨ (j.val < q ∨ q + B ≤ j.val)) :
    v.read Val (v.writes Val f (⟨Rect.unit (s := ⟨3, ![l, n, m]⟩) off ![C, A, B] inb, w⟩ :: L)) (ix3 s r j) = v.read Val (v.writes Val f L) (ix3 s r j) := by
  rcases h with h | h | h
  · exact View.read_writes_cons_unit_of_not_mem v f inb w L (ix3 s r j) hoff (0 : Fin 3) h
  · exact View.read_writes_cons_unit_of_not_mem v f inb w L (ix3 s r j) hoff (1 : Fin 3) h
  · exact View.read_writes_cons_unit_of_not_mem v f inb w L (ix3 s r j) hoff (2 : Fin 3) h

theorem readAt2 (v : View sig κ sp ⟨2, ![n, m]⟩ e) (f : BufTy.Contents Val v.ty) {off : Fin 2 → ℕ} {A B : ℕ} (inb : ∀ a : Fin 2, off a + (![A, B] : Fin 2 → ℕ) a ≤ (![n, m] : Fin 2 → ℕ) a)
    {p q : ℕ} (hoff : off = ![p, q]) (a : Fin A) (b : Fin B) (r : Fin n) (j : Fin m) (hr : r.val = p + a.val) (hj : j.val = q + b.val) :
    v.readAt Val (Rect.unit (s := ⟨2, ![n, m]⟩) off ![A, B] inb).toLoadRect f (ix2 a b) = v.read Val f (ix2 r j) := by
  subst hoff
  show v.read Val f ((Rect.unit (s := ⟨2, ![n, m]⟩) ![p, q] ![A, B] inb).emb (ix2 a b)) = _
  congr 1
  funext d
  match d with
  | ⟨0, _⟩ => exact Fin.ext ((ValueKit.rect_emb_unit_val _ _ _ _ _).trans hr.symm)
  | ⟨1, _⟩ => exact Fin.ext ((ValueKit.rect_emb_unit_val _ _ _ _ _).trans hj.symm)

theorem readAt3 (v : View sig κ sp ⟨3, ![l, n, m]⟩ e) (f : BufTy.Contents Val v.ty) {off : Fin 3 → ℕ} {C A B : ℕ} (inb : ∀ a : Fin 3, off a + (![C, A, B] : Fin 3 → ℕ) a ≤ (![l, n, m] : Fin 3 → ℕ) a)
    {o p q : ℕ} (hoff : off = ![o, p, q]) (c : Fin C) (a : Fin A) (b : Fin B) (s : Fin l) (r : Fin n) (j : Fin m) (hs : s.val = o + c.val) (hr : r.val = p + a.val) (hj : j.val = q + b.val) :
    v.readAt Val (Rect.unit (s := ⟨3, ![l, n, m]⟩) off ![C, A, B] inb).toLoadRect f (ix3 c a b) = v.read Val f (ix3 s r j) := by
  subst hoff
  show v.read Val f ((Rect.unit (s := ⟨3, ![l, n, m]⟩) ![o, p, q] ![C, A, B] inb).emb (ix3 c a b)) = _
  congr 1
  funext d
  match d with
  | ⟨0, _⟩ => exact Fin.ext ((ValueKit.rect_emb_unit_val _ _ _ _ _).trans hs.symm)
  | ⟨1, _⟩ => exact Fin.ext ((ValueKit.rect_emb_unit_val _ _ _ _ _).trans hr.symm)
  | ⟨2, _⟩ => exact Fin.ext ((ValueKit.rect_emb_unit_val _ _ _ _ _).trans hj.symm)

/-- A masked store: written where the mask is set, -/
theorem read_m2_on (v : Memref sig κ sp ⟨2, ![n, m]⟩ e) (f : BufTy.Contents Val v.view.ty) {off : Fin 2 → ℕ} {A B : ℕ} (inb : ∀ a : Fin 2, off a + (![A, B] : Fin 2 → ℕ) a ≤ (![n, m] : Fin 2 → ℕ) a)
    (w : (⟨2, ![A, B]⟩ : Shape).Idx → Val e) (M : Finset (⟨2, ![A, B]⟩ : Shape).Idx) {p q : ℕ} (hoff : off = ![p, q])
    (r : Fin n) (j : Fin m) (a : Fin A) (b : Fin B) (hr : r.val = p + a.val) (hj : j.val = q + b.val) (h : ix2 a b ∈ M) :
    v.view.read Val (View.write Val (v.access (Rect.unit (s := ⟨2, ![n, m]⟩) off ![A, B] inb)) f w M) (ix2 r j) = w (ix2 a b) := by
  subst hoff
  have hy : (Rect.unit (s := ⟨2, ![n, m]⟩) ![p, q] ![A, B] inb).emb (ix2 a b) = ix2 r j := by
    funext d
    match d with
    | ⟨0, _⟩ => exact Fin.ext ((ValueKit.rect_emb_unit_val _ _ _ _ _).trans hr.symm)
    | ⟨1, _⟩ => exact Fin.ext ((ValueKit.rect_emb_unit_val _ _ _ _ _).trans hj.symm)
  rw [← hy]
  exact View.read_slice_write_emb (v := v.view) (Rect.unit (s := ⟨2, ![n, m]⟩) ![p, q] ![A, B] inb) f w h

/-- not where it is clear, -/
theorem read_m2_off (v : Memref sig κ sp ⟨2, ![n, m]⟩ e) (f : BufTy.Contents Val v.view.ty) {off : Fin 2 → ℕ} {A B : ℕ} (inb : ∀ a : Fin 2, off a + (![A, B] : Fin 2 → ℕ) a ≤ (![n, m] : Fin 2 → ℕ) a)
    (w : (⟨2, ![A, B]⟩ : Shape).Idx → Val e) (M : Finset (⟨2, ![A, B]⟩ : Shape).Idx) {p q : ℕ} (hoff : off = ![p, q])
    (r : Fin n) (j : Fin m) (a : Fin A) (b : Fin B) (hr : r.val = p + a.val) (hj : j.val = q + b.val) (h : ix2 a b ∉ M) :
    v.view.read Val (View.write Val (v.access (Rect.unit (s := ⟨2, ![n, m]⟩) off ![A, B] inb)) f w M) (ix2 r j) = v.view.read Val f (ix2 r j) := by
  subst hoff
  have hy : (Rect.unit (s := ⟨2, ![n, m]⟩) ![p, q] ![A, B] inb).emb (ix2 a b) = ix2 r j := by
    funext d
    match d with
    | ⟨0, _⟩ => exact Fin.ext ((ValueKit.rect_emb_unit_val _ _ _ _ _).trans hr.symm)
    | ⟨1, _⟩ => exact Fin.ext ((ValueKit.rect_emb_unit_val _ _ _ _ _).trans hj.symm)
  refine View.read_slice_write_of_not_mem (v := v.view) (Rect.unit (s := ⟨2, ![n, m]⟩) ![p, q] ![A, B] inb) f w M fun hm => h ?_
  rw [← hy] at hm
  exact (Finset.mem_map' _).mp hm

/-- and not outside the rectangle. -/
theorem read_m2_out (v : Memref sig κ sp ⟨2, ![n, m]⟩ e) (f : BufTy.Contents Val v.view.ty) {off : Fin 2 → ℕ} {A B : ℕ} (inb : ∀ a : Fin 2, off a + (![A, B] : Fin 2 → ℕ) a ≤ (![n, m] : Fin 2 → ℕ) a)
    (w : (⟨2, ![A, B]⟩ : Shape).Idx → Val e) (M : Finset (⟨2, ![A, B]⟩ : Shape).Idx) {p q : ℕ} (hoff : off = ![p, q])
    (r : Fin n) (j : Fin m) (h : r.val < p ∨ p + A ≤ r.val) :
    v.view.read Val (View.write Val (v.access (Rect.unit (s := ⟨2, ![n, m]⟩) off ![A, B] inb)) f w M) (ix2 r j) = v.view.read Val f (ix2 r j) := by
  subst hoff
  refine View.read_slice_write_of_not_mem (v := v.view) (Rect.unit (s := ⟨2, ![n, m]⟩) ![p, q] ![A, B] inb) f w M fun hm => ?_
  obtain ⟨x, -, hx⟩ := Finset.mem_map.mp hm
  have h0 := congrArg (fun y => (y 0).val) hx
  have h1 : ((Rect.unit (s := ⟨2, ![n, m]⟩) ![p, q] ![A, B] inb).emb x 0).val = p + (x 0).val := ValueKit.rect_emb_unit_val _ _ _ _ _
  have h2 : (x 0).val < A := (x 0).isLt
  have h3 : (r.val) = p + (x 0).val := h0.symm.trans h1
  omega
end
-- ==== Proof.Scale.lean ====
module

public import Idealize.ShloMosaic.PureOps.Ideal
public import Idealize.ShloMosaic.PureOps.Ideal.Laws

@[expose] public section

/-! The power-of-two scale of a block, chosen in two ways: the reference doubles a threshold and keeps the last one
passed; the kernel finds the exponent field of the largest absolute value bit by bit. Both give the same scale. -/

noncomputable section

namespace Cert.Proof.Scale

open Idealize.ShloMosaic

/-- One trip of the reference's loop: the threshold doubled, the scale taken from it where `r` reaches it. -/
def dbl (r : EReal) (q : EReal × EReal) : EReal × EReal :=
  (2 * q.1, if q.1 ≤ r then 2 * q.1 else q.2)

/-- The reference's scale of a block whose largest absolute value is `a`. -/
def rscale (a : EReal) : EReal :=
  ((dbl (Ideal.div a ((448 : ℝ) : EReal)))^[246] ((((2 : ℝ) ^ (-126 : ℤ) : ℝ) : EReal), 1)).2

/-- One step of the search: the bits `b` kept where the candidate passes `p`. -/
def stp (p : BitVec 16 → Bool) (b v : BitVec 16) : BitVec 16 := if p (v ||| b) then v ||| b else v

/-- The search over the eight exponent bits, from the top. -/
def search (p : BitVec 16 → Bool) : BitVec 16 :=
  stp p 128#16 (stp p 256#16 (stp p 512#16 (stp p 1024#16 (stp p 2048#16 (stp p 4096#16 (stp p 8192#16 (stp p 16384#16 0#16)))))))

open Classical in
/-- The kernel's exponent bits of `a`. -/
def expo (a : EReal) : BitVec 16 := search fun w => decide (Ideal.ofBits .bf16 (w - 32#16) ≤ a)

/-- The kernel's scale as bits. -/
def sbits (a : EReal) : BitVec 16 := if (expo a).slt 1280#16 then 16256#16 else expo a - 1024#16

/-- The threshold of exponent field `k`. -/
def thr (k : ℕ) : ℝ := if k ≤ 1 then 96 * (2 : ℝ) ^ (-133 : ℤ) else 7 / 4 * (2 : ℝ) ^ ((k : ℤ) - 128)

theorem field_of : ∀ k : Fin 256, 2 ≤ k.val →
    ((BitVec.ofNat 16 (128 * k.val) - 32#16).extractLsb' 15 1 == 1#1) = false
      ∧ ((BitVec.ofNat 16 (128 * k.val) - 32#16).extractLsb' 7 8).toNat = k.val - 1
      ∧ ((BitVec.ofNat 16 (128 * k.val) - 32#16).extractLsb' 0 7).toNat = 96 := by decide +kernel

theorem ofBits_thr (k : ℕ) (h1 : 1 ≤ k) (h2 : k ≤ 255) :
    Ideal.ofBits .bf16 (BitVec.ofNat 16 (128 * k) - 32#16) = ((thr k : ℝ) : EReal) := by
  by_cases hk : k = 1
  · subst hk
    simp [Ideal.ofBits, Ideal.ieee, thr, -EReal.coe_mul]
  · have hf := field_of ⟨k, by omega⟩ (by show 2 ≤ k; omega)
    simp only at hf
    unfold Ideal.ofBits Ideal.ieee
    simp only [Nat.reduceAdd, hf.1, hf.2.1, hf.2.2]
    rw [if_neg (by norm_num; omega), if_neg (by omega)]
    unfold thr
    rw [if_neg Bool.false_ne_true, if_neg (by omega)]
    congr 1
    have e : ((k : ℤ) - 128) = (((k - 1 : ℕ) : ℤ) - (2 ^ (8 - 1) - 1 : ℕ) - (7 : ℕ)) + 7 := by
      rw [Nat.cast_sub h1]; norm_num; ring
    rw [e, zpow_add₀ (by norm_num)]
    norm_num
    ring

theorem thr_succ (k : ℕ) : thr k ≤ thr (k + 1) := by
  unfold thr
  have hp : (0 : ℝ) < (2 : ℝ) ^ ((k : ℤ) - 128) := by positivity
  by_cases h0 : k + 1 ≤ 1
  · rw [if_pos (by omega), if_pos h0]
  · by_cases h1 : k ≤ 1
    · rw [if_pos h1, if_neg h0]
      have : k = 1 := by omega
      subst this
      norm_num
    · rw [if_neg h1, if_neg h0]
      push_cast
      rw [show ((k : ℤ) + 1 - 128) = ((k : ℤ) - 128) + 1 by ring, zpow_add₀ (by norm_num : (2 : ℝ) ≠ 0)]
      norm_num
      linarith

theorem thr_mono : Monotone thr := monotone_nat_of_le_succ thr_succ

/-- The number of thresholds that `a` reaches. -/
theorem exists_count (a : EReal) : ∃ K : Fin 256, ∀ k, 1 ≤ k → k ≤ 255 → (((thr k : ℝ) : EReal) ≤ a ↔ k ≤ K.val) := by
  classical
  have hne : ((Finset.range 256).filter fun k => k = 0 ∨ ((thr k : ℝ) : EReal) ≤ a).Nonempty := ⟨0, by simp⟩
  refine ⟨⟨_, Finset.mem_range.mp (Finset.mem_filter.mp (Finset.max'_mem _ hne)).1⟩, fun k h1 h2 => ⟨fun h => ?_, fun h => ?_⟩⟩
  · exact Finset.le_max' _ _ (Finset.mem_filter.mpr ⟨Finset.mem_range.mpr (by omega), Or.inr h⟩)
  · have hm := (Finset.mem_filter.mp (Finset.max'_mem _ hne)).2
    rcases hm with h0 | h3
    · simp only [h0] at h; omega
    · exact le_trans (EReal.coe_le_coe_iff.mpr (thr_mono h)) h3

theorem stp_congr {p q : BitVec 16 → Bool} (h : ∀ w, w &&& 0x807F#16 = 0#16 → w ≠ 0#16 → p w = q w) (b v : BitVec 16)
    (hb : b &&& 0x807F#16 = 0#16) (hb0 : b ≠ 0#16) (v' : BitVec 16) (hv : v = v' ∧ v &&& 0x807F#16 = 0#16) :
    stp p b v = stp q b v' ∧ stp p b v &&& 0x807F#16 = 0#16 := by
  obtain ⟨rfl, hv⟩ := hv
  have e : (v ||| b) &&& 0x807F#16 = 0#16 := by
    rw [BitVec.and_comm, BitVec.and_or_distrib_left, BitVec.and_comm _ v, hv, BitVec.and_comm _ b, hb]; rfl
  have hn : v ||| b ≠ 0#16 := fun h0 => hb0 (BitVec.or_eq_zero_iff.mp h0).2
  unfold stp
  rw [h _ e hn]
  refine ⟨rfl, ?_⟩
  split
  · exact e
  · exact hv

theorem search_congr {p q : BitVec 16 → Bool} (h : ∀ w, w &&& 0x807F#16 = 0#16 → w ≠ 0#16 → p w = q w) : search p = search q := by
  unfold search
  refine (stp_congr h _ _ (by decide) (by decide) _ (stp_congr h _ _ (by decide) (by decide) _ (stp_congr h _ _ (by decide) (by decide) _
    (stp_congr h _ _ (by decide) (by decide) _ (stp_congr h _ _ (by decide) (by decide) _ (stp_congr h _ _ (by decide) (by decide) _
    (stp_congr h _ _ (by decide) (by decide) _ (stp_congr h _ _ (by decide) (by decide) _ ⟨rfl, by decide⟩)))))))).1

theorem search_count : ∀ K : Fin 256, search (fun w => decide (w.toNat / 128 ≤ K.val)) = BitVec.ofNat 16 (128 * K.val) := by
  decide +kernel

theorem word_form (w : BitVec 16) (h : w &&& 0x807F#16 = 0#16) (h0 : w ≠ 0#16) :
    w = BitVec.ofNat 16 (128 * (w.toNat / 128)) ∧ 1 ≤ w.toNat / 128 ∧ w.toNat / 128 ≤ 255 := by
  have hl : w.toNat % 128 = 0 := by
    have : w &&& 0x7F#16 = 0#16 := by
      have e : (0x7F#16 : BitVec 16) = 0x807F#16 &&& 0x7F#16 := by decide
      rw [e, ← BitVec.and_assoc, h]; decide
    have := congrArg BitVec.toNat this
    rw [BitVec.toNat_and] at this
    have e : w.toNat &&& 127 = w.toNat % 128 := Nat.and_two_pow_sub_one_eq_mod w.toNat 7
    rw [← e]; exact this
  have hh : w.toNat < 32768 := by
    have : w &&& 0x8000#16 = 0#16 := by
      have e : (0x8000#16 : BitVec 16) = 0x807F#16 &&& 0x8000#16 := by decide
      rw [e, ← BitVec.and_assoc, h]; decide
    by_contra hc
    have hm : w.getLsbD 15 = true := by
      have := w.isLt
      rw [BitVec.getLsbD, Nat.testBit_eq_decide_div_mod_eq]
      simp; omega
    have := congrArg (fun x => x.getLsbD 15) this
    simp at this hm; rw [hm] at this; cases this
  have hne : w.toNat ≠ 0 := fun h => h0 (BitVec.eq_of_toNat_eq h)
  refine ⟨BitVec.eq_of_toNat_eq ?_, by omega, by omega⟩
  rw [BitVec.toNat_ofNat, show 128 * (w.toNat / 128) = w.toNat by omega, Nat.mod_eq_of_lt w.isLt]

theorem expo_eq (a : EReal) (K : Fin 256) (hK : ∀ k, 1 ≤ k → k ≤ 255 → (((thr k : ℝ) : EReal) ≤ a ↔ k ≤ K.val)) :
    expo a = BitVec.ofNat 16 (128 * K.val) := by
  rw [← search_count]
  refine search_congr fun w h h0 => ?_
  obtain ⟨e, h1, h2⟩ := word_form w h h0
  rw [decide_eq_decide, ← hK _ h1 h2, ← ofBits_thr _ h1 h2, ← e]

theorem sbits_count : ∀ K : Fin 256, (if (BitVec.ofNat 16 (128 * K.val)).slt 1280#16 then (16256#16 : BitVec 16) else BitVec.ofNat 16 (128 * K.val) - 1024#16)
    = BitVec.ofNat 16 (128 * (if K.val < 10 then 127 else K.val - 8)) := by decide +kernel

theorem field_pow : ∀ k : Fin 255, 1 ≤ k.val →
    ((BitVec.ofNat 16 (128 * k.val)).extractLsb' 15 1 == 1#1) = false
      ∧ ((BitVec.ofNat 16 (128 * k.val)).extractLsb' 7 8).toNat = k.val
      ∧ ((BitVec.ofNat 16 (128 * k.val)).extractLsb' 0 7).toNat = 0 := by decide +kernel

theorem ofBits_pow (k : ℕ) (h1 : 1 ≤ k) (h2 : k ≤ 254) :
    Ideal.ofBits .bf16 (BitVec.ofNat 16 (128 * k)) = (((2 : ℝ) ^ ((k : ℤ) - 127) : ℝ) : EReal) := by
  have hf := field_pow ⟨k, by omega⟩ h1
  simp only at hf
  unfold Ideal.ofBits Ideal.ieee
  simp only [Nat.reduceAdd, hf.1, hf.2.1, hf.2.2]
  rw [if_neg (by omega), if_neg (by omega)]
  congr 1
  have e : ((k : ℤ) - 127) = ((k : ℤ) - (2 ^ (8 - 1) - 1) - (7 : ℕ)) + 7 := by norm_num
  rw [e, zpow_add₀ (by norm_num)]
  norm_num
  ring

/-- `thr k ≤ a` for `k = j + 10` is the reference's comparison in trip `j`. -/
theorem thr_div (a : EReal) (j : ℕ) :
    ((thr (j + 10) : ℝ) : EReal) ≤ a ↔ (((2 : ℝ) ^ ((j : ℤ) - 126) : ℝ) : EReal) ≤ Ideal.div a ((448 : ℝ) : EReal) := by
  rw [Ideal.div_coe (by norm_num)]
  have ht : thr (j + 10) = 448 * (2 : ℝ) ^ ((j : ℤ) - 126) := by
    unfold thr
    rw [if_neg (by omega)]
    push_cast
    rw [show ((j : ℤ) + 10 - 128) = ((j : ℤ) - 126) + 8 by ring, zpow_add₀ (by norm_num : (2 : ℝ) ≠ 0)]
    norm_num
    ring
  rw [ht]
  induction a using EReal.rec with
  | bot =>
    rw [EReal.bot_mul_coe_of_pos (by norm_num), le_bot_iff, le_bot_iff]
    exact ⟨fun h => absurd h (EReal.coe_ne_bot _), fun h => absurd h (EReal.coe_ne_bot _)⟩
  | top =>
    rw [EReal.top_mul_coe_of_pos (by norm_num)]
    simp
  | coe a =>
    rw [← EReal.coe_mul, EReal.coe_le_coe_iff, EReal.coe_le_coe_iff]
    constructor <;> intro h <;> linarith

theorem dbl_iter (r : EReal) (K : ℕ) (hK : ∀ j : ℕ, j < 246 → ((((2 : ℝ) ^ ((j : ℤ) - 126) : ℝ) : EReal) ≤ r ↔ j + 10 ≤ K)) (n : ℕ) (hn : n ≤ 246) :
    (dbl r)^[n] ((((2 : ℝ) ^ (-126 : ℤ) : ℝ) : EReal), 1)
      = ((((2 : ℝ) ^ ((n : ℤ) - 126) : ℝ) : EReal),
        if K < 10 ∨ n = 0 then 1 else (((2 : ℝ) ^ (((min (n - 1) (K - 10) : ℕ) : ℤ) - 125) : ℝ) : EReal)) := by
  induction n with
  | zero => simp
  | succ n ih =>
    rw [Function.iterate_succ_apply', ih (by omega)]
    have h2 : ((2 : EReal)) * (((2 : ℝ) ^ ((n : ℤ) - 126) : ℝ) : EReal) = (((2 : ℝ) ^ ((n : ℤ) - 125) : ℝ) : EReal) := by
      rw [show (2 : EReal) = ((2 : ℝ) : EReal) from rfl, ← EReal.coe_mul]
      congr 1
      rw [show ((n : ℤ) - 125) = ((n : ℤ) - 126) + 1 by ring, zpow_add₀ (by norm_num : (2 : ℝ) ≠ 0)]
      norm_num; ring
    unfold dbl
    refine Prod.ext ?_ ?_
    · show 2 * _ = _
      rw [h2]; congr 2; push_cast; ring
    · simp only [h2]
      by_cases hp : n + 10 ≤ K
      · rw [if_pos ((hK n (by omega)).mpr hp), if_neg (by omega)]
        rw [show min (n + 1 - 1) (K - 10) = n by omega]
      · rw [if_neg (fun h => hp ((hK n (by omega)).mp h))]
        by_cases hK10 : K < 10
        · rw [if_pos (Or.inl hK10), if_pos (Or.inl hK10)]
        · by_cases hn0 : n = 0
          · omega
          · rw [if_neg (by omega), if_neg (by omega), show min (n + 1 - 1) (K - 10) = min (n - 1) (K - 10) by omega]

theorem scale_count (a : EReal) (K : Fin 256) (hK : ∀ k, 1 ≤ k → k ≤ 255 → (((thr k : ℝ) : EReal) ≤ a ↔ k ≤ K.val)) :
    rscale a = if K.val < 10 then 1 else (((2 : ℝ) ^ ((K.val : ℤ) - 135) : ℝ) : EReal) := by
  unfold rscale
  rw [dbl_iter _ K.val (fun (j : ℕ) hj => by rw [← thr_div, hK _ (by omega) (by omega)]) 246 (by omega)]
  simp only
  by_cases h : K.val < 10
  · rw [if_pos (Or.inl h), if_pos h]
  · rw [if_neg (by omega), if_neg h, show min (246 - 1) (K.val - 10) = K.val - 10 by have := K.isLt; omega]
    congr 2
    have : 10 ≤ K.val := by omega
    push_cast [Nat.cast_sub this]
    ring

/-- The kernel's bits read as bf16 are the reference's scale, -/
theorem ofBits_sbits (a : EReal) : Ideal.ofBits .bf16 (sbits a) = rscale a := by
  obtain ⟨K, hK⟩ := exists_count a
  have hlt := K.isLt
  unfold sbits
  rw [expo_eq a K hK, sbits_count, scale_count a K hK]
  by_cases h : K.val < 10
  · rw [if_pos h, if_pos h, ofBits_pow 127 (by omega) (by omega)]; norm_num
  · rw [if_neg h, if_neg h, ofBits_pow _ (by omega) (by omega)]
    congr 2
    have : 8 ≤ K.val := by omega
    push_cast [Nat.cast_sub this]
    ring

theorem inv_count : ∀ K : Fin 256, 32512#16 - BitVec.ofNat 16 (128 * (if K.val < 10 then 127 else K.val - 8))
    = BitVec.ofNat 16 (128 * (if K.val < 10 then 127 else 262 - K.val)) := by decide +kernel

/-- and the complementary bits its inverse. -/
theorem ofBits_inv (a : EReal) : Ideal.ofBits .bf16 (32512#16 - sbits a) = Ideal.div 1 (rscale a) := by
  obtain ⟨K, hK⟩ := exists_count a
  have hlt := K.isLt
  unfold sbits
  rw [expo_eq a K hK, sbits_count, scale_count a K hK, inv_count]
  by_cases h : K.val < 10
  · rw [if_pos h, if_pos h, ofBits_pow 127 (by omega) (by omega)]
    rw [show (1 : EReal) = ((1 : ℝ) : EReal) from rfl, Ideal.div_coe (by norm_num)]
    norm_num
  · rw [if_neg h, if_neg h, ofBits_pow _ (by omega) (by omega), Ideal.div_coe (by positivity), one_mul]
    congr 1
    have : K.val ≤ 262 := by omega
    rw [one_div, ← zpow_neg]
    congr 1
    push_cast [Nat.cast_sub this]
    ring

end Cert.Proof.Scale

end
-- ==== Proof.Spec.lean ====
module

public import proofs.«01_k».proof.Proof.Scale

@[expose] public section

/-! What the four results hold, row by row: functions of one row of tokens, of the weights and of gamma. -/

noncomputable section

namespace Cert.Proof.Spec

open Idealize.ShloMosaic Cert.Proof.Scale

/-- The largest absolute value of a block of 128. -/
def amax (x : Fin 128 → EReal) : EReal := Finset.univ.fold max ⊥ fun l => max (x l) (-(x l))

/-- Block `kb` of a row. -/
def blk (xr : Fin 7168 → EReal) (kb : Fin 56) (l : Fin 128) : EReal := xr ⟨128 * kb.val + l.val, by omega⟩

/-- The block that column `j` lies in. -/
def kbOf (j : Fin 7168) : Fin 56 := ⟨j.val / 128, by omega⟩

/-- The scale of block `kb` of a row. -/
def sc (xr : Fin 7168 → EReal) (kb : Fin 56) : EReal := rscale (amax (blk xr kb))

/-- A value by the inverse scale, clipped. -/
def clip (x s : EReal) : EReal := min ((448 : ℝ) : EReal) (max ((-448 : ℝ) : EReal) (x * Ideal.div 1 s))

/-- The code of column `j` of a row. -/
def code (xr : Fin 7168 → EReal) (j : Fin 7168) : EReal := clip (xr j) (sc xr (kbOf j))

/-- The code scaled back. -/
def xq (xr : Fin 7168 → EReal) (j : Fin 7168) : EReal := code xr j * sc xr (kbOf j)

/-- The weights scaled. -/
def wb (W : Fin 576 → Fin 7168 → EReal) (S : Fin 5 → Fin 56 → EReal) (o : Fin 576) (j : Fin 7168) : EReal :=
  W o j * S ⟨o.val / 128, by omega⟩ (kbOf j)

/-- One entry of the projection. -/
def y (xr wr : Fin 7168 → EReal) : EReal := ∑ j, xq xr j * wr j

/-- The first 512 entries normalised by their root mean square, times gamma. -/
def latent (c γ : Fin 512 → EReal) (o : Fin 512) : EReal :=
  c o * Ideal.rsqrt ((∑ p, c p * c p) * Ideal.ofBits .f32 0x3B000000#32 + Ideal.ofBits .f32 0x358637BD#32) * γ o

end Cert.Proof.Spec

end
-- ==== Proof.QuantPay.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Spec

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

set_option maxRecDepth 16384

/-- The largest absolute value of each row of a 32 by 128 tile, in every column. -/
theorem pay16_at (v : Vec Ideal S32x128 .bf16) (a : Fin 32) (b : Fin 128) :
    k0_pay16 (F := Ideal) v (ix2 a b) = amax fun l => v (ix2 a l) := by
  pointwise [k0_pay16, k0_pay15]
  rfl

theorem select_slt (e k a b : BitVec 16) : Scalar.select (IntOp.cmpi .slt e k) a b = if e.slt k = true then a else b := by
  unfold Scalar.select IntOp.cmpi
  cases e.slt k <;> rfl

open Classical in
theorem stp_ite (A : EReal) (b v : BitVec 16) : stp (fun w => decide (Ideal.ofBits .bf16 (w - 32#16) ≤ A)) b v
    = if Ideal.ofBits .bf16 (IntOp.subi (IntOp.ori v b) 32#16) ≤ A then IntOp.ori v b else v := by
  unfold stp; simp only [decide_eq_true_eq]; rfl

theorem pay17_at (v : Vec Ideal S32x128 .bf16) (a : Fin 32) (b : Fin 128) (A : EReal) (hA : k0_pay16 (F := Ideal) v (ix2 a b) = A) :
    k0_pay17 (F := Ideal) v (ix2 a b) = stp (fun w => open Classical in decide (Ideal.ofBits .bf16 (w - 32#16) ≤ A)) 4096#16 (stp (fun w => open Classical in decide (Ideal.ofBits .bf16 (w - 32#16) ≤ A)) 8192#16 (stp (fun w => open Classical in decide (Ideal.ofBits .bf16 (w - 32#16) ≤ A)) 16384#16 0#16)) := by
  pointwise [k0_pay17]
  rw [hA]
  simp only [stp_ite]

theorem pay19_at' (v88 : FVec Ideal S32x128 .bf16) (v110 v112 : IVec S32x128 16) (a : Fin 32) (b : Fin 128) (A : EReal) (hA : v88 (ix2 a b) = A) (w : BitVec 16)
    (h110 : v110 (ix2 a b) = w) (h112 : v112 (ix2 a b) = w ||| 2048#16) :
    k0_pay19 (F := Ideal) v88 v110 v112 (ix2 a b) = (fun e => if BitVec.slt e 1280#16 then (16256#16 : BitVec 16) else e - 1024#16)
      ((fun p => stp p 128#16 (stp p 256#16 (stp p 512#16 (stp p 1024#16 (stp p 2048#16 w))))) (fun w => open Classical in decide (Ideal.ofBits .bf16 (w - 32#16) ≤ A))) := by
  pointwise [k0_pay19]
  rw [hA, h110, h112]
  simp only [stp_ite]
  simp only [show w ||| 2048#16 = IntOp.ori w 2048#16 from rfl]
  generalize (if Ideal.ofBits .bf16 (IntOp.subi (IntOp.ori w 2048#16) 32#16) ≤ A then IntOp.ori w 2048#16 else w) = w1
  generalize (if Ideal.ofBits .bf16 (IntOp.subi (IntOp.ori w1 1024#16) 32#16) ≤ A then IntOp.ori w1 1024#16 else w1) = w2
  generalize (if Ideal.ofBits .bf16 (IntOp.subi (IntOp.ori w2 512#16) 32#16) ≤ A then IntOp.ori w2 512#16 else w2) = w3
  generalize (if Ideal.ofBits .bf16 (IntOp.subi (IntOp.ori w3 256#16) 32#16) ≤ A then IntOp.ori w3 256#16 else w3) = w4
  generalize (if Ideal.ofBits .bf16 (IntOp.subi (IntOp.ori w4 128#16) 32#16) ≤ A then IntOp.ori w4 128#16 else w4) = w5
  exact select_slt _ _ _ _

theorem pay19_at (v : Vec Ideal S32x128 .bf16) (a : Fin 32) (b : Fin 128) :
    k0_pay19 (F := Ideal) (k0_pay16 v) (k0_pay17 v) (k0_pay18 v) (ix2 a b) = sbits (amax fun l => v (ix2 a l)) := by
  have h := pay17_at v a b _ (pay16_at v a b)
  rw [pay19_at' _ _ _ a b _ (pay16_at v a b) _ h (by pointwise [k0_pay18]; rw [h]; rfl)]
  rfl

theorem pay20_at (v : Vec Ideal S32x128 .bf16) (a : Fin 32) (b : Fin 128) :
    k0_pay20 (F := Ideal) (k0_pay16 v) (k0_pay17 v) (k0_pay18 v) (ix2 a b) = rscale (amax fun l => v (ix2 a l)) := by
  pointwise [k0_pay20]
  rw [pay19_at, ← ofBits_sbits]

theorem pay21_at (v : Vec Ideal S32x128 .bf16) (a : Fin 32) (b : Fin 128) :
    k0_pay21 (F := Ideal) (k0_pay15 v) (k0_pay16 v) (k0_pay17 v) (k0_pay18 v) (ix2 a b) = v (ix2 a b) * Ideal.div 1 (rscale (amax fun l => v (ix2 a l))) := by
  pointwise [k0_pay21, k0_pay15]
  rw [pay19_at, ← ofBits_inv]
  rfl

theorem ofBits_448 : Ideal.ofBits .bf16 0x43E0#16 = ((448 : ℝ) : EReal) := by
  simp [Ideal.ofBits, Ideal.ieee, -EReal.coe_mul]; norm_num
theorem ofBits_n448 : Ideal.ofBits .bf16 0xC3E0#16 = ((-448 : ℝ) : EReal) := by
  simp [Ideal.ofBits, Ideal.ieee, -EReal.coe_mul]; norm_num

theorem pay45_at (K : Ideal .bf16) (hK : K = ((448 : ℝ) : EReal)) (v : Vec Ideal S32x128 .bf16) (a : Fin 32) (b : Fin 128) :
    k0_pay45 (F := Ideal) (k0_pay21 (k0_pay15 v) (k0_pay16 v) (k0_pay17 v) (k0_pay18 v)) K k0_pay22 (ix2 a b)
      = clip (v (ix2 a b)) (rscale (amax fun l => v (ix2 a l))) := by
  pointwise [k0_pay45, k0_pay22]
  rw [pay21_at, hK, ofBits_n448]
  rfl

theorem pay46_at (K : Ideal .bf16) (hK : K = ((448 : ℝ) : EReal)) (v : Vec Ideal S32x128 .bf16) (z : Fin 1) (a : Fin 32) (b : Fin 128) :
    k0_pay46 (F := Ideal) (k0_pay20 (k0_pay16 v) (k0_pay17 v) (k0_pay18 v)) (k0_pay21 (k0_pay15 v) (k0_pay16 v) (k0_pay17 v) (k0_pay18 v)) K k0_pay22 (ix3 z a b)
      = clip (v (ix2 a b)) (rscale (amax fun l => v (ix2 a l))) * rscale (amax fun l => v (ix2 a l)) := by
  pointwise [k0_pay46]
  rw [pay20_at, pay45_at K hK]

theorem ix2_val (n m : Nat) (j : (⟨2, ![n, m]⟩ : Shape).Idx) (a : Fin n) (b : Fin m) (h0 : (j 0).val = a.val) (h1 : (j 1).val = b.val) : j = ix2 a b := by
  funext d
  match d with
  | ⟨0, _⟩ => exact Fin.ext h0
  | ⟨1, _⟩ => exact Fin.ext h1

theorem pay47_at (w : IVec S32x128 16) (a : Fin 16) (b : Fin 128) :
    k0_pay47 w (ix2 a b) = w (ix2 ⟨2 * a.val + 1, by omega⟩ b) ++ w (ix2 ⟨2 * a.val, by omega⟩ b) := by
  unfold k0_pay47
  rw [bitcast_16_32]
  congr 1 <;> congr 1
  · exact ix2_val _ _ _ _ _ (Shape.Bitcasts.srcIdx_row _ _ _ _ _ rfl) (Shape.Bitcasts.srcIdx_other _ _ _ _ _ (by decide))
  · exact ix2_val _ _ _ _ _ (Shape.Bitcasts.srcIdx_row _ _ _ _ _ rfl) (Shape.Bitcasts.srcIdx_other _ _ _ _ _ (by decide))
-- ==== Proof.Quant.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Read
public import proofs.«01_k».proof.Proof.QuantPay

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-- Row `r` of the tokens. -/
abbrev xrow (X1 : BufTy.Contents (Elt Ideal) arg1.view.ty) (r : Fin 512) : Fin 7168 → EReal := fun j => arg1.view.read (Elt Ideal) X1 (ix2 r j)

/-- The codes of a 32 by 128 tile. -/
abbrev codesT (v : Vec Ideal S32x128 .bf16) (K : Ideal .bf16) : Vec Ideal S32x128 .fp8e4m3 :=
  k0_pay45 (F := Ideal) (k0_pay21 (k0_pay15 v) (k0_pay16 v) (k0_pay17 v) (k0_pay18 v)) K k0_pay22

/-- The codes scaled back. -/
abbrev xqT (v : Vec Ideal S32x128 .bf16) (K : Ideal .bf16) : Vec Ideal S1x32x128 .bf16 :=
  k0_pay46 (F := Ideal) (k0_pay20 (k0_pay16 v) (k0_pay17 v) (k0_pay18 v)) (k0_pay21 (k0_pay15 v) (k0_pay16 v) (k0_pay17 v) (k0_pay18 v)) K k0_pay22

/-- The scale bits. -/
abbrev bitsT (v : Vec Ideal S32x128 .bf16) : IVec S32x128 16 := k0_pay19 (F := Ideal) (k0_pay16 v) (k0_pay17 v) (k0_pay18 v)

/-- The two scales of rows `2R`, `2R + 1` as one word. -/
def word (X1 : BufTy.Contents (Elt Ideal) arg1.view.ty) (R : Fin 256) (kb : Fin 56) : BitVec 32 :=
  sbits (amax (blk (xrow arg1 X1 ⟨2 * R.val + 1, by omega⟩) kb)) ++ sbits (amax (blk (xrow arg1 X1 ⟨2 * R.val, by omega⟩) kb))

theorem mem_on_iff {t : Shape} (m : IVec t 1) (x : t.Idx) : x ∈ IVec.on m ↔ m x = 1#1 := by
  simp only [IVec.on, Finset.mem_filter, Finset.mem_univ, true_and]; rfl

theorem cmpi_eq_one (a b : BitVec 32) : IntOp.cmpi .eq a b = 1#1 ↔ a = b := by
  unfold IntOp.cmpi
  by_cases h : a = b
  · simp [h]
  · have : (a == b) = false := by simpa using h
    simp [this, h]

section
variable (X1 : BufTy.Contents (Elt Ideal) arg1.view.ty) {off : Fin 2 → ℕ} (inb : ∀ a : Fin 2, off a + (![32, 128] : Fin 2 → ℕ) a ≤ (![512, 7168] : Fin 2 → ℕ) a)
  (p : Fin 16) (kb : Fin 56) (hoff : off = ![32 * p.val, 128 * kb.val])

/-- The tile loaded at row block `p`, column block `kb`. -/
abbrev tileAt : Vec Ideal S32x128 .bf16 := arg1.view.readAt (Elt Ideal) (Rect.unit (s := S512x7168) off ![32, 128] inb).toLoadRect X1

include hoff

theorem tileAt_apply (a : Fin 32) (b : Fin 128) : tileAt arg1 X1 inb (ix2 a b) = blk (xrow arg1 X1 ⟨32 * p.val + a.val, by omega⟩) kb b :=
  readAt2 arg1.view X1 inb hoff a b ⟨32 * p.val + a.val, by omega⟩ ⟨128 * kb.val + b.val, by omega⟩ rfl rfl

theorem amax_tileAt (a : Fin 32) : (amax fun l => tileAt arg1 X1 inb (ix2 a l)) = amax (blk (xrow arg1 X1 ⟨32 * p.val + a.val, by omega⟩) kb) := by
  congr 1; funext l; exact tileAt_apply arg1 X1 inb p kb hoff a l

/-- A tile of codes written: inside it the code, elsewhere what was there. -/
theorem read_codes (K : Ideal .bf16) (hK : K = ((448 : ℝ) : EReal)) (f7 : BufTy.Contents (Elt Ideal) arg7.view.ty) (r : Fin 512) (j : Fin 7168) :
    arg7.view.read (Elt Ideal) (arg7.view.writes (Elt Ideal) f7 [⟨Rect.unit (s := S512x7168) off ![32, 128] inb, codesT (tileAt arg1 X1 inb) K⟩]) (ix2 r j)
      = if r.val / 32 = p.val ∧ j.val / 128 = kb.val then code (xrow arg1 X1 r) j else arg7.view.read (Elt Ideal) f7 (ix2 r j) := by
  by_cases h : r.val / 32 = p.val ∧ j.val / 128 = kb.val
  · rw [if_pos h, read_w2_in arg7.view f7 inb _ _ hoff r j ⟨r.val % 32, by omega⟩ ⟨j.val % 128, by omega⟩ (by show r.val = 32 * p.val + r.val % 32; omega) (by show j.val = 128 * kb.val + j.val % 128; omega)]
    rw [codesT, pay45_at K hK, amax_tileAt arg1 X1 inb p kb hoff, tileAt_apply arg1 X1 inb p kb hoff]
    have e1 : (⟨32 * p.val + r.val % 32, by omega⟩ : Fin 512) = r := Fin.ext (by show 32 * p.val + r.val % 32 = r.val; omega)
    have e2 : kb = kbOf j := Fin.ext h.2.symm
    have e3 : (⟨128 * kb.val + j.val % 128, by omega⟩ : Fin 7168) = j := Fin.ext (by show 128 * kb.val + j.val % 128 = j.val; omega)
    show clip (xrow arg1 X1 _ ⟨128 * kb.val + j.val % 128, _⟩) _ = _
    rw [e1, e3, e2]; rfl
  · rw [if_neg h, read_w2_out arg7.view f7 inb _ _ hoff r j (by omega)]; rfl

omit hoff in
/-- A tile of codes scaled back written into slot `s`. -/
theorem read_xq (hoff : off = ![32 * p.val, 128 * kb.val]) (K : Ideal .bf16) (hK : K = ((448 : ℝ) : EReal)) (f13 : BufTy.Contents (Elt Ideal) arg13.view.ty) {off3 : Fin 3 → ℕ}
    (inb3 : ∀ a : Fin 3, off3 a + (![1, 32, 128] : Fin 3 → ℕ) a ≤ (![2, 512, 256] : Fin 3 → ℕ) a) (s : Fin 2)
    (hoff3 : off3 = ![s.val, 32 * p.val, 128 * (kb.val % 2)]) (s' : Fin 2) (r : Fin 512) (q : Fin 256) :
    arg13.view.read (Elt Ideal) (arg13.view.writes (Elt Ideal) f13 [⟨Rect.unit (s := S2x512x256) off3 ![1, 32, 128] inb3, xqT (tileAt arg1 X1 inb) K⟩]) (ix3 s' r q)
      = if s' = s ∧ r.val / 32 = p.val ∧ q.val / 128 = kb.val % 2 then xq (xrow arg1 X1 r) ⟨256 * (kb.val / 2) + q.val, by omega⟩ else arg13.view.read (Elt Ideal) f13 (ix3 s' r q) := by
  by_cases h : s' = s ∧ r.val / 32 = p.val ∧ q.val / 128 = kb.val % 2
  · obtain ⟨rfl, h⟩ := h
    rw [if_pos ⟨rfl, h⟩, read_w3_in arg13.view f13 inb3 _ _ hoff3 s' r q 0 ⟨r.val % 32, by omega⟩ ⟨q.val % 128, by omega⟩ rfl (by show r.val = 32 * p.val + r.val % 32; omega) (by show q.val = 128 * (kb.val % 2) + q.val % 128; omega)]
    rw [xqT, pay46_at K hK, amax_tileAt arg1 X1 inb p kb hoff, tileAt_apply arg1 X1 inb p kb hoff]
    have e1 : (⟨32 * p.val + r.val % 32, by omega⟩ : Fin 512) = r := Fin.ext (by show 32 * p.val + r.val % 32 = r.val; omega)
    have e2 : kb = kbOf ⟨256 * (kb.val / 2) + q.val, by omega⟩ := Fin.ext (by show kb.val = (256 * (kb.val / 2) + q.val) / 128; omega)
    have e3 : (⟨128 * kb.val + q.val % 128, by omega⟩ : Fin 7168) = ⟨256 * (kb.val / 2) + q.val, by omega⟩ := Fin.ext (by show 128 * kb.val + q.val % 128 = 256 * (kb.val / 2) + q.val; omega)
    show clip (xrow arg1 X1 _ ⟨128 * kb.val + q.val % 128, _⟩) _ * _ = _
    rw [e1, e3]; unfold xq code sc; rw [← e2]
  · rw [if_neg h, read_w3_out arg13.view f13 inb3 _ _ hoff3 s' r q (by
      by_cases hs : s' = s
      · subst hs; omega
      · left; have : s'.val ≠ s.val := fun e => hs (Fin.ext e); omega)]; rfl

/-- The scale words of a tile: column `kb` of sixteen rows, in two masked stores of eight. -/
theorem read_words (v0 : IVec S8x128 32) (hv0 : ∀ (a : Fin 8) (b : Fin 128), v0 (ix2 a b) = BitVec.ofNat 32 b.val) (n : BitVec 32) (hn : n = BitVec.ofNat 32 kb.val)
    (f12 : BufTy.Contents (Elt Ideal) arg12.view.ty) {offa offb : Fin 2 → ℕ}
    (inba : ∀ a : Fin 2, offa a + (![8, 128] : Fin 2 → ℕ) a ≤ (![256, 128] : Fin 2 → ℕ) a) (inbb : ∀ a : Fin 2, offb a + (![8, 128] : Fin 2 → ℕ) a ≤ (![256, 128] : Fin 2 → ℕ) a)
    (hoffa : offa = ![16 * p.val + 8 * 0, 0]) (hoffb : offb = ![16 * p.val + 8 * 1, 0]) (R : Fin 256) (kb' : Fin 56) :
    arg12.view.read (Elt Ideal) (View.write (Elt Ideal) (arg12.access (Rect.unit (s := S256x128) offb ![8, 128] inbb))
      (View.write (Elt Ideal) (arg12.access (Rect.unit (s := S256x128) offa ![8, 128] inba)) f12 (k0_pay48 (bitsT (tileAt arg1 X1 inb))) (IVec.on (k0_pay49 v0 n)))
      (k0_pay50 (bitsT (tileAt arg1 X1 inb))) (IVec.on (k0_pay51 v0 n))) (ix2 R ⟨kb'.val, by omega⟩)
      = if R.val / 16 = p.val ∧ kb' = kb then word arg1 X1 R kb else arg12.view.read (Elt Ideal) f12 (ix2 R ⟨kb'.val, by omega⟩) := by
  have hon : ∀ (a : Fin 8) (M : IVec S8x128 1), (∀ b : Fin 128, M (ix2 a b) = IntOp.cmpi .eq (v0 (ix2 a b)) n) → (ix2 a ⟨kb'.val, by omega⟩ ∈ IVec.on M ↔ kb' = kb) := fun a M hM => by
    rw [mem_on_iff, hM, hv0, hn, cmpi_eq_one]
    constructor
    · intro h
      have := congrArg BitVec.toNat h
      simp only [BitVec.toNat_ofNat] at this
      exact Fin.ext (by have := kb.isLt; have := kb'.isLt; omega)
    · rintro rfl; rfl
  have hpay : ∀ (a : Fin 16) (b : Fin 128) (R : Fin 256), R.val = 16 * p.val + a.val →
      k0_pay47 (bitsT (tileAt arg1 X1 inb)) (ix2 a b) = word arg1 X1 R kb := fun a b R hR => by
    rw [pay47_at, bitsT, pay19_at, pay19_at, amax_tileAt arg1 X1 inb p kb hoff, amax_tileAt arg1 X1 inb p kb hoff]
    unfold word
    have e1 : (⟨32 * p.val + (2 * a.val + 1), by omega⟩ : Fin 512) = ⟨2 * R.val + 1, by omega⟩ := Fin.ext (by show 32 * p.val + (2 * a.val + 1) = 2 * R.val + 1; omega)
    have e2 : (⟨32 * p.val + (2 * a.val), by omega⟩ : Fin 512) = ⟨2 * R.val, by omega⟩ := Fin.ext (by show 32 * p.val + (2 * a.val) = 2 * R.val; omega)
    rw [e1, e2]
  have hk : kb' = kb ∨ kb' ≠ kb := em _
  by_cases h1 : R.val / 16 = p.val
  · by_cases h2 : R.val % 16 < 8
    · rw [read_m2_out arg12 _ inbb _ _ hoffb R _ (by omega)]
      have hM := hon ⟨R.val % 16, h2⟩ (k0_pay49 v0 n) (fun b => by pointwise [k0_pay49])
      rcases hk with hk | hk
      · rw [if_pos ⟨h1, hk⟩, ← hpay ⟨R.val % 16, by omega⟩ ⟨kb'.val, by omega⟩ R (by show R.val = 16 * p.val + R.val % 16; omega)]
        refine (read_m2_on arg12 f12 inba _ _ hoffa R ⟨kb'.val, by omega⟩ ⟨R.val % 16, h2⟩ ⟨kb'.val, by omega⟩ (by show R.val = 16 * p.val + 8 * 0 + R.val % 16; omega) (Nat.zero_add _).symm (hM.mpr hk)).trans ?_
        pointwise [k0_pay48]
      · rw [if_neg (fun h => hk h.2)]
        exact read_m2_off arg12 f12 inba _ _ hoffa R ⟨kb'.val, by omega⟩ ⟨R.val % 16, h2⟩ ⟨kb'.val, by omega⟩ (by show R.val = 16 * p.val + 8 * 0 + R.val % 16; omega) (Nat.zero_add _).symm (fun h => hk (hM.mp h))
    · have hM := hon ⟨R.val % 16 - 8, by omega⟩ (k0_pay51 v0 n) (fun b => by pointwise [k0_pay51])
      rcases hk with hk | hk
      · rw [if_pos ⟨h1, hk⟩, ← hpay ⟨R.val % 16, by omega⟩ ⟨kb'.val, by omega⟩ R (by show R.val = 16 * p.val + R.val % 16; omega)]
        refine (read_m2_on arg12 _ inbb _ _ hoffb R ⟨kb'.val, by omega⟩ ⟨R.val % 16 - 8, by omega⟩ ⟨kb'.val, by omega⟩ (by show R.val = 16 * p.val + 8 * 1 + (R.val % 16 - 8); omega) (Nat.zero_add _).symm (hM.mpr hk)).trans ?_
        pointwise [k0_pay50]
        congr 2
        apply Fin.ext; show 8 + (R.val % 16 - 8) = R.val % 16; omega
      · rw [if_neg (fun h => hk h.2)]
        refine (read_m2_off arg12 _ inbb _ _ hoffb R ⟨kb'.val, by omega⟩ ⟨R.val % 16 - 8, by omega⟩ ⟨kb'.val, by omega⟩ (by show R.val = 16 * p.val + 8 * 1 + (R.val % 16 - 8); omega) (Nat.zero_add _).symm (fun h => hk (hM.mp h))).trans ?_
        rw [read_m2_out arg12 _ inba _ _ hoffa R _ (by omega)]
  · rw [read_m2_out arg12 _ inbb _ _ hoffb R _ (by omega), read_m2_out arg12 _ inba _ _ hoffa R _ (by omega), if_neg (fun h => h1 h.1)]
end

theorem k448 (x : Ideal .bf16) (h : x = Ideal.ofBits .bf16 0x43E0#16) : x = ((448 : ℝ) : EReal) := h.trans ofBits_448

section
variable (v0 : IVec S8x128 32) (hv0 : ∀ (a : Fin 8) (b : Fin 128), v0 (ix2 a b) = BitVec.ofNat 32 b.val) (h2 : k0_cond2 i = 1#1) (X1 : BufTy.Contents (Elt Ideal) arg1.view.ty)

theorem q3_n : ∀ k : Fin k0_t3_loop.trips, qtrip3.sl.v77 k = BitVec.ofNat 32 (0 + k.val % 2) := by decide +kernel

theorem off22 (k : Fin k0_t3_loop.trips) (p : Fin 16) (kb : Fin 56) (hp : p.val = k.val / 2) (hk : kb.val = 0 + k.val % 2) : k0_off22 k = ![32 * p.val, 128 * kb.val] := by
  rw [k0_off22_eq, hp, hk, Nat.zero_add]

theorem q3_7 (k : Fin k0_t3_loop.trips) (p : Fin 16) (kb : Fin 56) (hp : p.val = k.val / 2) (hk : kb.val = 0 + k.val % 2) (f7) (r : Fin 512) (j : Fin 7168) :
    arg7.view.read (Elt Ideal) ((qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.1 f7) (ix2 r j)
      = if r.val / 32 = p.val ∧ j.val / 128 = kb.val then code (xrow arg1 X1 r) j else arg7.view.read (Elt Ideal) f7 (ix2 r j) := by
  unfold qtrip3; dsimp only
  exact read_codes arg1 arg7 X1 _ p kb (off22 k p kb hp hk) _ ofBits_448 f7 r j

include hv0 in
theorem q3_12 (k : Fin k0_t3_loop.trips) (p : Fin 16) (kb : Fin 56) (hp : p.val = k.val / 2) (hk : kb.val = 0 + k.val % 2) (f12) (R : Fin 256) (kb' : Fin 56) :
    arg12.view.read (Elt Ideal) ((qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.1 f12) (ix2 R ⟨kb'.val, by omega⟩)
      = if R.val / 16 = p.val ∧ kb' = kb then word arg1 X1 R kb else arg12.view.read (Elt Ideal) f12 (ix2 R ⟨kb'.val, by omega⟩) := by
  unfold qtrip3; dsimp only
  exact read_words arg1 arg12 X1 _ p kb (off22 k p kb hp hk) v0 hv0 _ ((q3_n k).trans (by rw [hk])) f12 _ _ (by rw [hp]; exact k0_off24_eq k 0) (by rw [hp]; exact k0_off24_eq k 1) R kb'

theorem q3_13 (k : Fin k0_t3_loop.trips) (p : Fin 16) (kb : Fin 56) (hp : p.val = k.val / 2) (hk : kb.val = 0 + k.val % 2) (f13) (s : Fin 2) (r : Fin 512) (q : Fin 256) :
    arg13.view.read (Elt Ideal) ((qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2 f13) (ix3 s r q)
      = if s = 0 ∧ r.val / 32 = p.val ∧ q.val / 128 = kb.val % 2 then xq (xrow arg1 X1 r) ⟨256 * (kb.val / 2) + q.val, by omega⟩ else arg13.view.read (Elt Ideal) f13 (ix3 s r q) := by
  unfold qtrip3; dsimp only
  exact read_xq arg1 arg13 X1 _ p kb (off22 k p kb hp hk) _ ofBits_448 f13 _ 0 ((k0_off23_eq k).trans (by rw [hp, hk]; simp)) s r q
variable (v23 : FVec Ideal S1x256 .f32) (v26 : FVec Ideal S8x256 .f32) (v32 : FVec Ideal S64x256 .bf16)

theorem q7_n : ∀ k : Fin k0_t7_loop.trips, qtrip7.sl.v77 k = BitVec.ofNat 32 (2 + k.val % 2) := by decide +kernel

theorem off35 (k : Fin k0_t7_loop.trips) (p : Fin 16) (kb : Fin 56) (hp : p.val = k.val / 2) (hk : kb.val = 2 + k.val % 2) : k0_off35 k = ![32 * p.val, 128 * kb.val] := by
  rw [k0_off35_eq, hp, hk, show 128 * (k.val % 2) + 256 = 128 * (2 + k.val % 2) by omega]

theorem q7_7 (k : Fin k0_t7_loop.trips) (p : Fin 16) (kb : Fin 56) (hp : p.val = k.val / 2) (hk : kb.val = 2 + k.val % 2) (f7) (r : Fin 512) (j : Fin 7168) :
    arg7.view.read (Elt Ideal) ((qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.1 f7) (ix2 r j)
      = if r.val / 32 = p.val ∧ j.val / 128 = kb.val then code (xrow arg1 X1 r) j else arg7.view.read (Elt Ideal) f7 (ix2 r j) := by
  unfold qtrip7; dsimp only
  exact read_codes arg1 arg7 X1 _ p kb (off35 k p kb hp hk) _ ofBits_448 f7 r j

include hv0 in
theorem q7_12 (k : Fin k0_t7_loop.trips) (p : Fin 16) (kb : Fin 56) (hp : p.val = k.val / 2) (hk : kb.val = 2 + k.val % 2) (f12) (R : Fin 256) (kb' : Fin 56) :
    arg12.view.read (Elt Ideal) ((qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.1 f12) (ix2 R ⟨kb'.val, by omega⟩)
      = if R.val / 16 = p.val ∧ kb' = kb then word arg1 X1 R kb else arg12.view.read (Elt Ideal) f12 (ix2 R ⟨kb'.val, by omega⟩) := by
  unfold qtrip7; dsimp only
  exact read_words arg1 arg12 X1 _ p kb (off35 k p kb hp hk) v0 hv0 _ ((q7_n k).trans (by rw [hk])) f12 _ _ (by rw [hp]; exact k0_off37_eq k 0) (by rw [hp]; exact k0_off37_eq k 1) R kb'

theorem q7_13 (k : Fin k0_t7_loop.trips) (p : Fin 16) (kb : Fin 56) (hp : p.val = k.val / 2) (hk : kb.val = 2 + k.val % 2) (f13) (s : Fin 2) (r : Fin 512) (q : Fin 256) :
    arg13.view.read (Elt Ideal) ((qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2 f13) (ix3 s r q)
      = if s = 1 ∧ r.val / 32 = p.val ∧ q.val / 128 = kb.val % 2 then xq (xrow arg1 X1 r) ⟨256 * (kb.val / 2) + q.val, by omega⟩ else arg13.view.read (Elt Ideal) f13 (ix3 s r q) := by
  unfold qtrip7; dsimp only
  exact read_xq arg1 arg13 X1 _ p kb (off35 k p kb hp hk) _ ofBits_448 f13 _ 1 ((k0_off36_eq k).trans (by rw [hp, hk]; simp)) s r q

variable (arg15 : BitVec 32)

theorem p36 : @k0_pay36 Ideal _ = k0_pay16 := rfl
theorem p37 : @k0_pay37 Ideal _ = k0_pay17 := rfl
theorem p39 (a : FVec Ideal S32x128 .bf16) (b : IVec S32x128 16) : k0_pay39 (F := Ideal) a b k0_pay38 = k0_pay19 a b (ori b (broadcast S32x128 2048#16)) := rfl
theorem p39' (v : Vec Ideal S32x128 .bf16) : k0_pay39 (F := Ideal) (k0_pay36 v) (k0_pay37 v) k0_pay38 = bitsT v := by
  rw [p39, p36, p37]; rfl
theorem p40 (v : Vec Ideal S32x128 .bf16) : k0_pay40 (F := Ideal) (k0_pay36 v) (k0_pay37 v) k0_pay38 = k0_pay20 (k0_pay16 v) (k0_pay17 v) (k0_pay18 v) := by
  unfold k0_pay40; rw [p39']; rfl
theorem p41 (v : Vec Ideal S32x128 .bf16) : k0_pay41 (F := Ideal) (k0_pay35 v) (k0_pay36 v) (k0_pay37 v) k0_pay38 = k0_pay21 (k0_pay15 v) (k0_pay16 v) (k0_pay17 v) (k0_pay18 v) := by
  unfold k0_pay41; rw [p39']; rfl
theorem p80 (x : FVec Ideal S32x128 .bf16) (K : Ideal .bf16) : k0_pay80 (F := Ideal) x (Ideal.ofBits .bf16 0xC3E0#16) K = k0_pay45 x K k0_pay22 := rfl
theorem p81 (x y : FVec Ideal S32x128 .bf16) (K : Ideal .bf16) : k0_pay81 (F := Ideal) x y (Ideal.ofBits .bf16 0xC3E0#16) K = k0_pay46 x y K k0_pay22 := rfl

theorem q11_r5 (t : Fin k0_t9_loop.trips) (k : Fin k0_t11_loop.trips) (inb) :
    k0_pay80 (F := Ideal) (qtrip11.sl.r_5 i arg1 h2 t X1 k) qtrip11.sl.cst_81 qtrip11.sl.cst_82 = codesT (tileAt arg1 X1 (off := k0_off53 t k) inb) (Ideal.ofBits .bf16 0x43E0#16) := by
  unfold qtrip11.sl.r_5 qtrip11.sl.r qtrip11.sl.r_1 qtrip11.sl.r_2 qtrip11.sl.cst_81 qtrip11.sl.cst_82
  rw [p41]; exact p80 _ _

theorem q11_r4 (t : Fin k0_t9_loop.trips) (k : Fin k0_t11_loop.trips) (inb) :
    k0_pay81 (F := Ideal) (qtrip11.sl.r_4 i arg1 h2 t X1 k) (qtrip11.sl.r_5 i arg1 h2 t X1 k) qtrip11.sl.cst_81 qtrip11.sl.cst_82 = xqT (tileAt arg1 X1 (off := k0_off53 t k) inb) (Ideal.ofBits .bf16 0x43E0#16) := by
  unfold qtrip11.sl.r_4 qtrip11.sl.r_5 qtrip11.sl.r qtrip11.sl.r_1 qtrip11.sl.r_2 qtrip11.sl.cst_81 qtrip11.sl.cst_82
  rw [p41, p40]; exact p81 _ _ _

theorem q11_r3 (t : Fin k0_t9_loop.trips) (k : Fin k0_t11_loop.trips) (inb) :
    qtrip11.sl.r_3 (F := Ideal) i arg1 h2 t X1 k = bitsT (tileAt arg1 X1 (off := k0_off53 t k) inb) := by
  unfold qtrip11.sl.r_3 qtrip11.sl.r_1 qtrip11.sl.r_2
  exact p39' _

theorem q11_n : ∀ (t : Fin k0_t9_loop.trips) (k : Fin k0_t11_loop.trips), qtrip11.sl.v81 (BitVec.ofNat 32 (t.val + 2)) k = BitVec.ofNat 32 (2 * (t.val + 2) + k.val % 2) := by decide +kernel

theorem off53 (t : Fin k0_t9_loop.trips) (k : Fin k0_t11_loop.trips) (p : Fin 16) (kb : Fin 56) (hp : p.val = k.val / 2) (hk : kb.val = 2 * (t.val + 2) + k.val % 2) : k0_off53 t k = ![32 * p.val, 128 * kb.val] := by
  rw [k0_off53_eq, hp, hk, show 256 * t.val + 128 * (k.val % 2) + 512 = 128 * (2 * (t.val + 2) + k.val % 2) by omega]

theorem q11_7 (t : Fin k0_t9_loop.trips) (k : Fin k0_t11_loop.trips) (p : Fin 16) (kb : Fin 56) (hp : p.val = k.val / 2) (hk : kb.val = 2 * (t.val + 2) + k.val % 2) (f7) (r : Fin 512) (j : Fin 7168) :
    arg7.view.read (Elt Ideal) ((qtrip11 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t arg15 X1 k).1.1 f7) (ix2 r j)
      = if r.val / 32 = p.val ∧ j.val / 128 = kb.val then code (xrow arg1 X1 r) j else arg7.view.read (Elt Ideal) f7 (ix2 r j) := by
  unfold qtrip11; dsimp only
  rw [q11_r5 (inb := k0_off53_inb i t k h2)]
  exact read_codes arg1 arg7 X1 _ p kb (off53 t k p kb hp hk) _ ofBits_448 f7 r j

include hv0 in
theorem q11_12 (t : Fin k0_t9_loop.trips) (k : Fin k0_t11_loop.trips) (p : Fin 16) (kb : Fin 56) (hp : p.val = k.val / 2) (hk : kb.val = 2 * (t.val + 2) + k.val % 2) (f12) (harg : arg15 = BitVec.ofNat 32 (t.val + 2)) (R : Fin 256) (kb' : Fin 56) :
    arg12.view.read (Elt Ideal) ((qtrip11 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t arg15 X1 k).1.2.1 f12) (ix2 R ⟨kb'.val, by omega⟩)
      = if R.val / 16 = p.val ∧ kb' = kb then word arg1 X1 R kb else arg12.view.read (Elt Ideal) f12 (ix2 R ⟨kb'.val, by omega⟩) := by
  unfold qtrip11; dsimp only
  subst harg
  unfold qtrip11.sl.H12_w2 qtrip11.sl.H12_w1
  rw [q11_r3 (inb := k0_off53_inb i t k h2)]
  exact read_words arg1 arg12 X1 _ p kb (off53 t k p kb hp hk) v0 hv0 _ ((q11_n t k).trans (by rw [hk])) f12 _ _ (by rw [hp]; exact k0_off55_eq k 0) (by rw [hp]; exact k0_off55_eq k 1) R kb'

theorem q11_13 (t : Fin k0_t9_loop.trips) (k : Fin k0_t11_loop.trips) (p : Fin 16) (kb : Fin 56) (hp : p.val = k.val / 2) (hk : kb.val = 2 * (t.val + 2) + k.val % 2) (f13) (s : Fin 2) (r : Fin 512) (q : Fin 256) :
    arg13.view.read (Elt Ideal) ((qtrip11 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t arg15 X1 k).1.2.2 f13) (ix3 s r q)
      = if s.val = t.val % 2 ∧ r.val / 32 = p.val ∧ q.val / 128 = kb.val % 2 then xq (xrow arg1 X1 r) ⟨256 * (kb.val / 2) + q.val, by omega⟩ else arg13.view.read (Elt Ideal) f13 (ix3 s r q) := by
  unfold qtrip11; dsimp only
  rw [q11_r4 (inb := k0_off53_inb i t k h2)]
  have hs : s.val = t.val % 2 ↔ s = ⟨t.val % 2, by omega⟩ := ⟨fun h => Fin.ext h, fun h => congrArg Fin.val h⟩
  simp only [hs]
  exact read_xq arg1 arg13 X1 _ p kb (off53 t k p kb hp hk) _ ofBits_448 f13 _ ⟨t.val % 2, by omega⟩ ((k0_off54_eq t k).trans (by rw [hp, hk]; simp)) s r q
end
-- ==== Proof.QLoops.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Quant

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-- Thirty-two trips, of which at most one changes what is read, and then to `V`. -/
theorem iterN_sel {α β : Type} {T : ℕ} (hT : T = 32) (rd : α → β) (step : Fin T → α → α) (g : α) (V : β) (P : Prop) [Decidable P] (p q : ℕ) (hp : p < 16) (hq : q < 2)
    (h : ∀ k f, rd (step k f) = if p = k.val / 2 ∧ (P ∧ q = k.val % 2) then V else rd f) : rd (iterN step g T) = if P then V else rd g := by
  subst hT
  by_cases hP : P
  · rw [if_pos hP, iterN_at rd step g ⟨2 * p + q, by omega⟩ (fun _ => V) (fun f => by
      rw [h, if_pos]; exact ⟨by show p = (2 * p + q) / 2; omega, hP, by show q = (2 * p + q) % 2; omega⟩) (fun k hk f => by
      rw [h, if_neg]; rintro ⟨h1, -, h2⟩; exact hk (Fin.ext (by show k.val = 2 * p + q; omega))), if_pos (by show 2 * p + q < 32; omega)]
  · rw [if_neg hP]
    exact iterN_const rd step g (fun k f => by rw [h, if_neg (fun hh => hP hh.2.1)]) 32

section
variable (v0 : IVec S8x128 32) (hv0 : ∀ (a : Fin 8) (b : Fin 128), v0 (ix2 a b) = BitVec.ofNat 32 b.val) (h2 : k0_cond2 i = 1#1) (X1 : BufTy.Contents (Elt Ideal) arg1.view.ty)
  {T : ℕ} (hT : T = 32) (kt : Fin 28)

include hT in
/-- The thirty-two trips of a quantising loop as one: of the codes, -/
theorem loop_7 (step : Fin T → BufTy.Contents (Elt Ideal) arg7.view.ty → BufTy.Contents (Elt Ideal) arg7.view.ty)
    (h : ∀ (k : Fin T) (p : Fin 16) (kb : Fin 56) (hp : p.val = k.val / 2) (hk : kb.val = 2 * kt.val + k.val % 2) f (r : Fin 512) (j : Fin 7168),
      arg7.view.read (Elt Ideal) (step k f) (ix2 r j) = if r.val / 32 = p.val ∧ j.val / 128 = kb.val then code (xrow arg1 X1 r) j else arg7.view.read (Elt Ideal) f (ix2 r j))
    (f) (r : Fin 512) (j : Fin 7168) :
    arg7.view.read (Elt Ideal) (iterN step f T) (ix2 r j) = if j.val / 256 = kt.val then code (xrow arg1 X1 r) j else arg7.view.read (Elt Ideal) f (ix2 r j) :=
  iterN_sel hT (fun f => arg7.view.read (Elt Ideal) f (ix2 r j)) step f _ (j.val / 256 = kt.val) (r.val / 32) (j.val / 128 % 2) (by omega) (by omega) fun k f => by
    show arg7.view.read (Elt Ideal) (step k f) (ix2 r j) = _
    have hk := k.isLt
    rw [h k ⟨k.val / 2, by omega⟩ ⟨2 * kt.val + k.val % 2, by omega⟩ rfl rfl]
    refine if_congr ?_ rfl rfl
    show r.val / 32 = k.val / 2 ∧ j.val / 128 = 2 * kt.val + k.val % 2 ↔ _
    omega

include hT in
/-- of the scale words, -/
theorem loop_12 (step : Fin T → BufTy.Contents (Elt Ideal) arg12.view.ty → BufTy.Contents (Elt Ideal) arg12.view.ty)
    (h : ∀ (k : Fin T) (p : Fin 16) (kb : Fin 56) (hp : p.val = k.val / 2) (hk : kb.val = 2 * kt.val + k.val % 2) f (R : Fin 256) (kb' : Fin 56),
      arg12.view.read (Elt Ideal) (step k f) (ix2 R ⟨kb'.val, by omega⟩) = if R.val / 16 = p.val ∧ kb' = kb then word arg1 X1 R kb else arg12.view.read (Elt Ideal) f (ix2 R ⟨kb'.val, by omega⟩))
    (f) (R : Fin 256) (kb' : Fin 56) :
    arg12.view.read (Elt Ideal) (iterN step f T) (ix2 R ⟨kb'.val, by omega⟩) = if kb'.val / 2 = kt.val then word arg1 X1 R kb' else arg12.view.read (Elt Ideal) f (ix2 R ⟨kb'.val, by omega⟩) :=
  iterN_sel hT (fun f => arg12.view.read (Elt Ideal) f (ix2 R ⟨kb'.val, by omega⟩)) step f _ (kb'.val / 2 = kt.val) (R.val / 16) (kb'.val % 2) (by omega) (by omega) fun k f => by
    show arg12.view.read (Elt Ideal) (step k f) _ = _
    have hk := k.isLt
    rw [h k ⟨k.val / 2, by omega⟩ ⟨2 * kt.val + k.val % 2, by omega⟩ rfl rfl]
    by_cases e : kb' = ⟨2 * kt.val + k.val % 2, by omega⟩
    · have e' : kb'.val = 2 * kt.val + k.val % 2 := congrArg Fin.val e
      rw [← e]
      refine if_congr ?_ rfl rfl
      simp only [and_true]
      omega
    · have e' : kb'.val ≠ 2 * kt.val + k.val % 2 := fun h => e (Fin.ext h)
      rw [if_neg (fun h => e h.2), if_neg (by omega)]

include hT in
/-- and of the tile pushed into slot `sl`. -/
theorem loop_13 (sl : Fin 2) (step : Fin T → BufTy.Contents (Elt Ideal) arg13.view.ty → BufTy.Contents (Elt Ideal) arg13.view.ty)
    (h : ∀ (k : Fin T) (p : Fin 16) (kb : Fin 56) (hp : p.val = k.val / 2) (hk : kb.val = 2 * kt.val + k.val % 2) f (s : Fin 2) (r : Fin 512) (q : Fin 256),
      arg13.view.read (Elt Ideal) (step k f) (ix3 s r q) = if s = sl ∧ r.val / 32 = p.val ∧ q.val / 128 = kb.val % 2 then xq (xrow arg1 X1 r) ⟨256 * (kb.val / 2) + q.val, by omega⟩ else arg13.view.read (Elt Ideal) f (ix3 s r q))
    (f) (s : Fin 2) (r : Fin 512) (q : Fin 256) :
    arg13.view.read (Elt Ideal) (iterN step f T) (ix3 s r q) = if s = sl then xq (xrow arg1 X1 r) ⟨256 * kt.val + q.val, by omega⟩ else arg13.view.read (Elt Ideal) f (ix3 s r q) :=
  iterN_sel hT (fun f => arg13.view.read (Elt Ideal) f (ix3 s r q)) step f _ (s = sl) (r.val / 32) (q.val / 128) (by omega) (by omega) fun k f => by
    show arg13.view.read (Elt Ideal) (step k f) _ = _
    have hk := k.isLt
    rw [h k ⟨k.val / 2, by omega⟩ ⟨2 * kt.val + k.val % 2, by omega⟩ rfl rfl]
    have e : (⟨256 * ((2 * kt.val + k.val % 2) / 2) + q.val, by omega⟩ : Fin 7168) = ⟨256 * kt.val + q.val, by omega⟩ := Fin.ext (by show 256 * ((2 * kt.val + k.val % 2) / 2) + q.val = 256 * kt.val + q.val; omega)
    show (if s = sl ∧ r.val / 32 = k.val / 2 ∧ q.val / 128 = (2 * kt.val + k.val % 2) % 2 then xq (xrow arg1 X1 r) ⟨256 * ((2 * kt.val + k.val % 2) / 2) + q.val, by omega⟩ else _) = _
    rw [e]
    refine if_congr ?_ rfl rfl
    have : (2 * kt.val + k.val % 2) % 2 = k.val % 2 := by omega
    rw [this]; tauto

theorem t3_32 : k0_t3_loop.trips = 32 := by decide +kernel
theorem t7_32 : k0_t7_loop.trips = 32 := by decide +kernel
theorem t11_32 : k0_t11_loop.trips = 32 := by decide +kernel
theorem t9_26 : k0_t9_loop.trips = 26 := by decide +kernel
end
-- ==== Proof.Acc.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.QLoops

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

theorem pay42_at (A B : Vec Ideal S1x64x128 .bf16) (a : Fin 64) (q : Fin 256) :
    k0_pay42 (F := Ideal) A B (ix2 a q) = if h : q.val < 128 then A (ix3 0 a ⟨q.val, h⟩) else B (ix3 0 a ⟨q.val - 128, by omega⟩) := by
  pointwise [k0_pay42]

theorem pay43_at (A B : Vec Ideal S1x64x128 .bf16) (R : Vec Ideal S1x256x256 .bf16) (C : Vec Ideal S64x256 .f32) (a : Fin 64) (b : Fin 256) :
    k0_pay43 (F := Ideal) A B R C (ix2 a b) = C (ix2 a b) + ∑ q : Fin 256, k0_pay42 (F := Ideal) A B (ix2 a q) * R (ix3 0 b q) := by
  pointwise [k0_pay43]
theorem p44 : @k0_pay44 Ideal _ = k0_pay43 := rfl
theorem p66 : @k0_pay66 Ideal _ = k0_pay43 := rfl
theorem p67 : @k0_pay67 Ideal _ = k0_pay43 := rfl
theorem p78 : @k0_pay78 Ideal _ = k0_pay43 := rfl
theorem p79 : @k0_pay79 Ideal _ = k0_pay43 := rfl
theorem p94 : @k0_pay94 Ideal _ = k0_pay43 := rfl
theorem p95 : @k0_pay95 Ideal _ = k0_pay43 := rfl

/-- Tile `kt` of the weights' row `o` against row `r` of the tile pushed in slot `s`. -/
def dotT (X9 : BufTy.Contents (Elt Ideal) arg9.view.ty) (X13 : BufTy.Contents (Elt Ideal) arg13.view.ty) (kt : Fin 28) (s : Fin 2) (o : Fin 576) (r : Fin 512) : EReal :=
  ∑ q : Fin 256, arg9.view.read (Elt Ideal) X9 (ix3 ⟨2 * kt.val + q.val / 128, by omega⟩ o ⟨q.val % 128, by omega⟩) * arg13.view.read (Elt Ideal) X13 (ix3 s r q)

section
variable (X9 : BufTy.Contents (Elt Ideal) arg9.view.ty) (X13 : BufTy.Contents (Elt Ideal) arg13.view.ty) (kt : Fin 28) (s : Fin 2) (m : Fin 9)

/-- One half of the tokens: what is stored is the sum so far and the tile's product. -/
theorem acc_half {offA offB offR : Fin 3 → ℕ} {off : Fin 2 → ℕ} (hh : ℕ) (hh2 : hh = 0 ∨ hh = 256)
    (inbA : ∀ a : Fin 3, offA a + (![1, 64, 128] : Fin 3 → ℕ) a ≤ (![56, 576, 128] : Fin 3 → ℕ) a)
    (inbB : ∀ a : Fin 3, offB a + (![1, 64, 128] : Fin 3 → ℕ) a ≤ (![56, 576, 128] : Fin 3 → ℕ) a)
    (inbR : ∀ a : Fin 3, offR a + (![1, 256, 256] : Fin 3 → ℕ) a ≤ (![2, 512, 256] : Fin 3 → ℕ) a)
    (inb : ∀ a : Fin 2, off a + (![64, 256] : Fin 2 → ℕ) a ≤ (![576, 512] : Fin 2 → ℕ) a)
    (hA : offA = ![2 * kt.val, 64 * m.val, 0]) (hB : offB = ![2 * kt.val + 1, 64 * m.val, 0]) (hR : offR = ![s.val, hh, 0]) (ho : off = ![64 * m.val, hh])
    (f : BufTy.Contents (Elt Ideal) arg14.view.ty) (a : Fin 64) (b : Fin 256) (o : Fin 576) (r : Fin 512) (hoo : o.val = 64 * m.val + a.val) (hr : r.val = hh + b.val) :
    k0_pay43 (F := Ideal) (arg9.view.readAt (Elt Ideal) (Rect.unit (s := S56x576x128) offA ![1, 64, 128] inbA).toLoadRect X9) (arg9.view.readAt (Elt Ideal) (Rect.unit (s := S56x576x128) offB ![1, 64, 128] inbB).toLoadRect X9)
      (arg13.view.readAt (Elt Ideal) (Rect.unit (s := S2x512x256) offR ![1, 256, 256] inbR).toLoadRect X13) (arg14.view.readAt (Elt Ideal) (Rect.unit (s := S576x512) off ![64, 256] inb).toLoadRect f) (ix2 a b)
      = arg14.view.read (Elt Ideal) f (ix2 o r) + dotT arg9 arg13 X9 X13 kt s o r := by
  rw [pay43_at, readAt2 arg14.view f inb ho a b o r hoo hr]
  congr 1
  refine Finset.sum_congr rfl fun q _ => ?_
  rw [readAt3 arg13.view X13 inbR hR 0 b q s r q rfl hr (Nat.zero_add _).symm, pay42_at]
  congr 1
  by_cases h : q.val < 128
  · rw [dif_pos h, readAt3 arg9.view X9 inbA hA 0 a ⟨q.val, h⟩ ⟨2 * kt.val + q.val / 128, by omega⟩ o ⟨q.val % 128, by omega⟩ (by show 2 * kt.val + q.val / 128 = 2 * kt.val + 0; omega) hoo (by show q.val % 128 = 0 + q.val; omega)]
  · rw [dif_neg h, readAt3 arg9.view X9 inbB hB 0 a ⟨q.val - 128, by omega⟩ ⟨2 * kt.val + q.val / 128, by omega⟩ o ⟨q.val % 128, by omega⟩ (by show 2 * kt.val + q.val / 128 = 2 * kt.val + 1 + 0; omega) hoo (by show q.val % 128 = 0 + (q.val - 128); omega)]

/-- One trip: the rows of block `m` get the tile's product added. -/
theorem acc_trip {offA offB offR0 offR1 : Fin 3 → ℕ} {off0 off1 : Fin 2 → ℕ}
    (inbA : ∀ a : Fin 3, offA a + (![1, 64, 128] : Fin 3 → ℕ) a ≤ (![56, 576, 128] : Fin 3 → ℕ) a)
    (inbB : ∀ a : Fin 3, offB a + (![1, 64, 128] : Fin 3 → ℕ) a ≤ (![56, 576, 128] : Fin 3 → ℕ) a)
    (inbR0 : ∀ a : Fin 3, offR0 a + (![1, 256, 256] : Fin 3 → ℕ) a ≤ (![2, 512, 256] : Fin 3 → ℕ) a)
    (inbR1 : ∀ a : Fin 3, offR1 a + (![1, 256, 256] : Fin 3 → ℕ) a ≤ (![2, 512, 256] : Fin 3 → ℕ) a)
    (inb0 : ∀ a : Fin 2, off0 a + (![64, 256] : Fin 2 → ℕ) a ≤ (![576, 512] : Fin 2 → ℕ) a)
    (inb1 : ∀ a : Fin 2, off1 a + (![64, 256] : Fin 2 → ℕ) a ≤ (![576, 512] : Fin 2 → ℕ) a)
    (hA : offA = ![2 * kt.val, 64 * m.val, 0]) (hB : offB = ![2 * kt.val + 1, 64 * m.val, 0]) (hR0 : offR0 = ![s.val, 0, 0]) (hR1 : offR1 = ![s.val, 256, 0])
    (ho0 : off0 = ![64 * m.val, 0]) (ho1 : off1 = ![64 * m.val, 256])
    (f : BufTy.Contents (Elt Ideal) arg14.view.ty) (o : Fin 576) (r : Fin 512) :
    arg14.view.read (Elt Ideal) (arg14.view.writes (Elt Ideal) f
      [⟨Rect.unit (s := S576x512) off1 ![64, 256] inb1, k0_pay43 (F := Ideal) (arg9.view.readAt (Elt Ideal) (Rect.unit (s := S56x576x128) offA ![1, 64, 128] inbA).toLoadRect X9) (arg9.view.readAt (Elt Ideal) (Rect.unit (s := S56x576x128) offB ![1, 64, 128] inbB).toLoadRect X9)
        (arg13.view.readAt (Elt Ideal) (Rect.unit (s := S2x512x256) offR1 ![1, 256, 256] inbR1).toLoadRect X13) (arg14.view.readAt (Elt Ideal) (Rect.unit (s := S576x512) off1 ![64, 256] inb1).toLoadRect f)⟩,
       ⟨Rect.unit (s := S576x512) off0 ![64, 256] inb0, k0_pay43 (F := Ideal) (arg9.view.readAt (Elt Ideal) (Rect.unit (s := S56x576x128) offA ![1, 64, 128] inbA).toLoadRect X9) (arg9.view.readAt (Elt Ideal) (Rect.unit (s := S56x576x128) offB ![1, 64, 128] inbB).toLoadRect X9)
        (arg13.view.readAt (Elt Ideal) (Rect.unit (s := S2x512x256) offR0 ![1, 256, 256] inbR0).toLoadRect X13) (arg14.view.readAt (Elt Ideal) (Rect.unit (s := S576x512) off0 ![64, 256] inb0).toLoadRect f)⟩]) (ix2 o r)
      = if o.val / 64 = m.val then arg14.view.read (Elt Ideal) f (ix2 o r) + dotT arg9 arg13 X9 X13 kt s o r else arg14.view.read (Elt Ideal) f (ix2 o r) := by
  by_cases h : o.val / 64 = m.val
  · rw [if_pos h]
    have hoo : o.val = 64 * m.val + o.val % 64 := by omega
    by_cases h1 : r.val < 256
    · rw [read_w2_out arg14.view f inb1 _ _ ho1 o r (by omega), read_w2_in arg14.view f inb0 _ _ ho0 o r ⟨o.val % 64, by omega⟩ ⟨r.val, h1⟩ hoo (Nat.zero_add _).symm]
      exact acc_half arg9 arg13 arg14 X9 X13 kt s m 0 (Or.inl rfl) inbA inbB inbR0 inb0 hA hB hR0 ho0 f ⟨o.val % 64, by omega⟩ ⟨r.val, h1⟩ o r hoo (Nat.zero_add _).symm
    · rw [read_w2_in arg14.view f inb1 _ _ ho1 o r ⟨o.val % 64, by omega⟩ ⟨r.val - 256, by omega⟩ hoo (by show r.val = 256 + (r.val - 256); omega)]
      exact acc_half arg9 arg13 arg14 X9 X13 kt s m 256 (Or.inr rfl) inbA inbB inbR1 inb1 hA hB hR1 ho1 f ⟨o.val % 64, by omega⟩ ⟨r.val - 256, by omega⟩ o r hoo (by show r.val = 256 + (r.val - 256); omega)
  · rw [if_neg h, read_w2_out arg14.view f inb1 _ _ ho1 o r (by omega), read_w2_out arg14.view f inb0 _ _ ho0 o r (by omega)]; rfl

/-- The nine trips: every row gets the tile's product added. -/
theorem acc_loop {T : ℕ} (hT : T = 9) (pb : ℕ → List (View.Piece (Elt Ideal) S576x512 .f32)) (tr : Fin T → BufTy.Contents (Elt Ideal) arg14.view.ty → List (View.Piece (Elt Ideal) S576x512 .f32))
    (G : BufTy.Contents (Elt Ideal) arg14.view.ty) (h0 : pb 0 = []) (hs : ∀ k : Fin T, pb (k.val + 1) = tr k (arg14.view.writes (Elt Ideal) G (pb k.val)) ++ pb k.val)
    (htr : ∀ (k : Fin T) f (o : Fin 576) (r : Fin 512), arg14.view.read (Elt Ideal) (arg14.view.writes (Elt Ideal) f (tr k f)) (ix2 o r)
      = if o.val / 64 = k.val then arg14.view.read (Elt Ideal) f (ix2 o r) + dotT arg9 arg13 X9 X13 kt s o r else arg14.view.read (Elt Ideal) f (ix2 o r)) (o : Fin 576) (r : Fin 512) :
    arg14.view.read (Elt Ideal) (arg14.view.writes (Elt Ideal) G (pb 9)) (ix2 o r) = arg14.view.read (Elt Ideal) G (ix2 o r) + dotT arg9 arg13 X9 X13 kt s o r := by
  subst hT
  rw [writes_iterN arg14.view pb tr G h0 hs 9 le_rfl,
    iterN_at (fun f => arg14.view.read (Elt Ideal) f (ix2 o r)) _ G ⟨o.val / 64, by omega⟩ (fun x => x + dotT arg9 arg13 X9 X13 kt s o r) (fun f => by rw [htr, if_pos rfl])
      (fun k hk f => by rw [htr, if_neg (fun h => hk (Fin.ext h.symm))]), if_pos (by show o.val / 64 < 9; omega)]
end

section
variable (v0 : IVec S8x128 32) (h2 : k0_cond2 i = 1#1) (v23 : FVec Ideal S1x256 .f32) (v26 : FVec Ideal S8x256 .f32) (v32 : FVec Ideal S64x256 .bf16)
  (X9 : BufTy.Contents (Elt Ideal) arg9.view.ty) (X13 : BufTy.Contents (Elt Ideal) arg13.view.ty) (G : BufTy.Contents (Elt Ideal) arg14.view.ty) (o : Fin 576) (r : Fin 512)

theorem t2_9 : k0_t2_loop.trips = 9 := by decide +kernel
theorem t6_9 : k0_t6_loop.trips = 9 := by decide +kernel
theorem t10_9 : k0_t10_loop.trips = 9 := by decide +kernel
theorem t12_9 : k0_t12_loop.trips = 9 := by decide +kernel

theorem acc2 : arg14.view.read (Elt Ideal) (arg14.view.writes (Elt Ideal) G (pb_k0_t2 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X9 X13 G 9)) (ix2 o r)
    = arg14.view.read (Elt Ideal) G (ix2 o r) + dotT arg9 arg13 X9 X13 27 1 o r :=
  acc_loop arg9 arg13 arg14 X9 X13 27 1 t2_9 _ (fun k f => tripL_k0_t2 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X9 X13 k f) G rfl (fun k => pb_k0_t2_succ ..) (fun k f o r => by
    have hk := Nat.lt_of_lt_of_eq k.isLt t2_9
    unfold tripL_k0_t2 trip_k0_t2; dsimp only
    exact acc_trip arg9 arg13 arg14 X9 X13 27 1 ⟨k.val, hk⟩ _ _ _ _ _ _ (k0_off16_eq k) (k0_off17_eq k) k0_off18_eq k0_off20_eq (k0_off19_eq k) (k0_off21_eq k) f o r) o r

theorem acc6 : arg14.view.read (Elt Ideal) (arg14.view.writes (Elt Ideal) G (pb_k0_t6 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X9 X13 G 9)) (ix2 o r)
    = arg14.view.read (Elt Ideal) G (ix2 o r) + dotT arg9 arg13 X9 X13 0 0 o r :=
  acc_loop arg9 arg13 arg14 X9 X13 0 0 t6_9 _ (fun k f => tripL_k0_t6 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X9 X13 k f) G rfl (fun k => pb_k0_t6_succ ..) (fun k f o r => by
    have hk := Nat.lt_of_lt_of_eq k.isLt t6_9
    unfold tripL_k0_t6 trip_k0_t6; dsimp only
    exact acc_trip arg9 arg13 arg14 X9 X13 0 0 ⟨k.val, hk⟩ _ _ _ _ _ _ (k0_off29_eq k) (k0_off30_eq k) k0_off31_eq k0_off33_eq (k0_off32_eq k) (k0_off34_eq k) f o r) o r

theorem acc10 (t : Fin k0_t9_loop.trips) (kt : Fin 28) (hkt : kt.val = t.val + 1) : arg14.view.read (Elt Ideal) (arg14.view.writes (Elt Ideal) G (pb_k0_t10 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t X9 X13 G 9)) (ix2 o r)
    = arg14.view.read (Elt Ideal) G (ix2 o r) + dotT arg9 arg13 X9 X13 kt ⟨kt.val % 2, by omega⟩ o r :=
  acc_loop arg9 arg13 arg14 X9 X13 kt ⟨kt.val % 2, by omega⟩ t10_9 _ (fun k f => tripL_k0_t10 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t X9 X13 k f) G rfl (fun k => pb_k0_t10_succ ..) (fun k f o r => by
    have hk := Nat.lt_of_lt_of_eq k.isLt t10_9
    unfold tripL_k0_t10 trip_k0_t10; dsimp only
    exact acc_trip arg9 arg13 arg14 X9 X13 kt ⟨kt.val % 2, by omega⟩ ⟨k.val, hk⟩ _ _ _ _ _ _ ((k0_off47_eq t k).trans (by rw [hkt]; rfl)) ((k0_off48_eq t k).trans (by rw [hkt]; rfl)) ((k0_off49_eq t).trans (by show _ = ![kt.val % 2, 0, 0]; rw [hkt])) ((k0_off51_eq t).trans (by show _ = ![kt.val % 2, 256, 0]; rw [hkt])) (k0_off50_eq k) (k0_off52_eq k) f o r) o r

theorem acc12 (h3 : k0_cond3 i = 1#1) : arg14.view.read (Elt Ideal) (arg14.view.writes (Elt Ideal) G (pb_k0_t12 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 X9 X13 G 9)) (ix2 o r)
    = arg14.view.read (Elt Ideal) G (ix2 o r) + dotT arg9 arg13 X9 X13 27 1 o r :=
  acc_loop arg9 arg13 arg14 X9 X13 27 1 t12_9 _ (fun k f => tripL_k0_t12 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 X9 X13 k f) G rfl (fun k => pb_k0_t12_succ ..) (fun k f o r => by
    have hk := Nat.lt_of_lt_of_eq k.isLt t12_9
    unfold tripL_k0_t12 trip_k0_t12; dsimp only
    exact acc_trip arg9 arg13 arg14 X9 X13 27 1 ⟨k.val, hk⟩ _ _ _ _ _ _ (k0_off56_eq k) (k0_off57_eq k) k0_off58_eq k0_off60_eq (k0_off59_eq k) (k0_off61_eq k) f o r) o r
end
-- ==== Proof.Drain.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Acc

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

theorem ofBits_0_32 : Ideal.ofBits .f32 0x00000000#32 = 0 := by
  simp [Ideal.ofBits, Ideal.ieee, -EReal.coe_mul]

theorem pay53_at (x : S64x256.Idx) : k0_pay53 (F := Ideal) x = 0 := by
  rw [← ix2_eta x]; pointwise [k0_pay53]
theorem pay54_at (v : Vec Ideal S64x256 .f32) (a : Fin 64) (b : Fin 256) : k0_pay54 (F := Ideal) v (ix2 a b) = v (ix2 a b) := by
  pointwise [k0_pay54]
theorem pay55_at (acc : FVec Ideal S8x256 .f32) (v : Vec Ideal S64x256 .f32) (a : Fin 8) (b : Fin 256) :
    k0_pay55 (F := Ideal) acc v (ix2 a b) = acc (ix2 a b) + ∑ j : Fin 8, v (ix2 ⟨8 * j.val + a.val, by omega⟩ b) * v (ix2 ⟨8 * j.val + a.val, by omega⟩ b) := by
  rw [Fin.sum_univ_eight]
  pointwise [k0_pay55]
  simp only [add_assoc]
theorem pay58_at (v : FVec Ideal S8x256 .f32) (b : Fin 256) : k0_pay58 (F := Ideal) v (ix2 0 b) = ∑ a : Fin 8, v (ix2 a b) := by
  pointwise [k0_pay58]
theorem pay57_at (v : Vec Ideal S64x256 .f32) (a : Fin 64) (b : Fin 256) : k0_pay57 (F := Ideal) v (ix2 a b) = v (ix2 a b) := by
  pointwise [k0_pay57]

theorem p60 : @k0_pay60 Ideal _ = k0_pay53 := rfl
theorem p61 (v : Vec Ideal S64x256 .f32) : k0_pay61 (F := Ideal) v = k0_pay54 v := rfl
theorem p62 : @k0_pay62 Ideal _ = k0_pay55 := rfl

/-- A sum over `m * n` positions as `m` sums of `n`. -/
theorem sum_split {m n : ℕ} (f : Fin (m * n) → EReal) : ∑ p, f p = ∑ x : Fin m, ∑ y : Fin n, f ⟨y.val + n * x.val, by
    have := x.isLt; have := y.isLt; calc y.val + n * x.val < n + n * x.val := by omega
      _ = n * (x.val + 1) := by ring
      _ ≤ n * m := Nat.mul_le_mul_left n x.isLt
      _ = m * n := Nat.mul_comm n m⟩ := by
  rw [← Fintype.sum_equiv finProdFinEquiv (fun x => f (finProdFinEquiv x)) f (fun _ => rfl), Fintype.sum_prod_type]
  rfl

section
variable (hh : ℕ) (hh2 : hh = 0 ∨ hh = 256) {T : ℕ} (hT : T = 8) (off off11 : Fin T → Fin 2 → ℕ)
  (inb : ∀ k, ∀ a : Fin 2, off k a + (![64, 256] : Fin 2 → ℕ) a ≤ (![576, 512] : Fin 2 → ℕ) a)
  (inb11 : ∀ k, ∀ a : Fin 2, off11 k a + (![64, 256] : Fin 2 → ℕ) a ≤ (![512, 512] : Fin 2 → ℕ) a)
  (ho : ∀ k, off k = ![64 * k.val, hh]) (ho11 : ∀ k, off11 k = ![64 * k.val, hh])
  (G11 : BufTy.Contents (Elt Ideal) arg11.view.ty) (G14 : BufTy.Contents (Elt Ideal) arg14.view.ty)
  (st : ℕ → FVec Ideal S8x256 .f32 × List (View.Piece (Elt Ideal) S512x512 .f32) × List (View.Piece (Elt Ideal) S576x512 .f32))
  (init : FVec Ideal S8x256 .f32) (h0 : st 0 = (init, [], []))
  (hs : ∀ k : Fin T, st (k.val + 1) =
    (k0_pay55 (F := Ideal) (st k.val).1 (arg14.view.readAt (Elt Ideal) (Rect.unit (s := S576x512) (off k) ![64, 256] (inb k)).toLoadRect (arg14.view.writes (Elt Ideal) G14 (st k.val).2.2)),
     [⟨Rect.unit (s := S512x512) (off11 k) ![64, 256] (inb11 k), k0_pay54 (F := Ideal) (arg14.view.readAt (Elt Ideal) (Rect.unit (s := S576x512) (off k) ![64, 256] (inb k)).toLoadRect (arg14.view.writes (Elt Ideal) G14 (st k.val).2.2))⟩] ++ (st k.val).2.1,
     [⟨Rect.unit (s := S576x512) (off k) ![64, 256] (inb k), k0_pay53 (F := Ideal)⟩] ++ (st k.val).2.2))
  (Y : ℕ → ℕ → EReal) (hY : ∀ (o : Fin 576) (r : Fin 512), arg14.view.read (Elt Ideal) G14 (ix2 o r) = Y o.val r.val)

include G11 hh2 hT ho ho11 h0 hs hY

/-- Draining one half of the tokens, after `n` trips: the rows taken out, those rows zeroed, and the squares summed. -/
theorem drain_inv (n : ℕ) (hn : n ≤ 8) :
    (∀ (p : Fin 512) (r : Fin 512), arg11.view.read (Elt Ideal) (arg11.view.writes (Elt Ideal) G11 (st n).2.1) (ix2 p r) = if p.val / 64 < n ∧ r.val / 256 = hh / 256 then Y p.val r.val else arg11.view.read (Elt Ideal) G11 (ix2 p r))
    ∧ (∀ (o : Fin 576) (r : Fin 512), arg14.view.read (Elt Ideal) (arg14.view.writes (Elt Ideal) G14 (st n).2.2) (ix2 o r) = if o.val / 64 < n ∧ r.val / 256 = hh / 256 then 0 else Y o.val r.val)
    ∧ (∀ (a : Fin 8) (b : Fin 256), (st n).1 (ix2 a b) = init (ix2 a b) + ∑ k ∈ Finset.range n, ∑ j : Fin 8, Y (64 * k + (8 * j.val + a.val)) (hh + b.val) * Y (64 * k + (8 * j.val + a.val)) (hh + b.val)) := by
  induction n with
  | zero =>
    rw [h0]
    refine ⟨fun p r => ?_, fun o r => ?_, fun a b => ?_⟩
    · rw [if_neg (by omega)]; rfl
    · rw [if_neg (by omega), ← hY]; rfl
    · simp
  | succ n ih =>
    obtain ⟨i1, i2, i3⟩ := ih (by omega)
    have hs' := hs ⟨n, by omega⟩
    simp only at hs'
    have hread : ∀ (a : Fin 64) (b : Fin 256), arg14.view.readAt (Elt Ideal) (Rect.unit (s := S576x512) (off ⟨n, by omega⟩) ![64, 256] (inb ⟨n, by omega⟩)).toLoadRect (arg14.view.writes (Elt Ideal) G14 (st n).2.2) (ix2 a b) = Y (64 * n + a.val) (hh + b.val) := fun a b => by
      rw [readAt2 arg14.view _ (inb ⟨n, by omega⟩) (ho ⟨n, by omega⟩) a b ⟨64 * n + a.val, by omega⟩ ⟨hh + b.val, by omega⟩ rfl rfl, i2, if_neg (by
        rintro ⟨h, -⟩
        have h' : (64 * n + a.val) / 64 < n := h
        omega)]
    refine ⟨fun p r => ?_, fun o r => ?_, fun a b => ?_⟩
    · rw [hs']
      by_cases h : p.val / 64 = n ∧ r.val / 256 = hh / 256
      · show arg11.view.read (Elt Ideal) (arg11.view.writes (Elt Ideal) G11 (_ :: (st n).2.1)) _ = _
        rw [if_pos ⟨by omega, h.2⟩, read_w2_in arg11.view G11 (inb11 ⟨n, by omega⟩) _ _ (ho11 ⟨n, by omega⟩) p r ⟨p.val % 64, by omega⟩ ⟨r.val % 256, by omega⟩
          (by show p.val = 64 * n + p.val % 64; omega) (by show r.val = hh + r.val % 256; omega), pay54_at, hread]
        congr 1
        · show 64 * n + p.val % 64 = p.val; omega
        · show hh + r.val % 256 = r.val; omega
      · show arg11.view.read (Elt Ideal) (arg11.view.writes (Elt Ideal) G11 (_ :: (st n).2.1)) _ = _
        rw [read_w2_out arg11.view G11 (inb11 ⟨n, by omega⟩) _ _ (ho11 ⟨n, by omega⟩) p r (by show (p.val < 64 * n ∨ 64 * n + 64 ≤ p.val) ∨ (r.val < hh ∨ hh + 256 ≤ r.val); omega), i1]
        exact if_congr (by omega) rfl rfl
    · rw [hs']
      by_cases h : o.val / 64 = n ∧ r.val / 256 = hh / 256
      · show arg14.view.read (Elt Ideal) (arg14.view.writes (Elt Ideal) G14 (_ :: (st n).2.2)) _ = _
        rw [if_pos ⟨by omega, h.2⟩, read_w2_in arg14.view G14 (inb ⟨n, by omega⟩) _ _ (ho ⟨n, by omega⟩) o r ⟨o.val % 64, by omega⟩ ⟨r.val % 256, by omega⟩
          (by show o.val = 64 * n + o.val % 64; omega) (by show r.val = hh + r.val % 256; omega), pay53_at]
      · show arg14.view.read (Elt Ideal) (arg14.view.writes (Elt Ideal) G14 (_ :: (st n).2.2)) _ = _
        rw [read_w2_out arg14.view G14 (inb ⟨n, by omega⟩) _ _ (ho ⟨n, by omega⟩) o r (by show (o.val < 64 * n ∨ 64 * n + 64 ≤ o.val) ∨ (r.val < hh ∨ hh + 256 ≤ r.val); omega), i2]
        exact if_congr (by omega) rfl rfl
    · rw [hs']
      show k0_pay55 (F := Ideal) (st n).1 _ (ix2 a b) = _
      rw [pay55_at, i3, Finset.sum_range_succ, ← add_assoc]
      congr 1
      refine Finset.sum_congr rfl fun j _ => ?_
      rw [hread]

/-- The whole half: with no squares before, their sum over the eight lanes is the sum over all rows. -/
theorem drain_sum (hinit : ∀ x, init x = 0) (b : Fin 256) :
    ∑ a : Fin 8, (st 8).1 (ix2 a b) = ∑ p : Fin 512, Y p.val (hh + b.val) * Y p.val (hh + b.val) := by
  have h := (drain_inv arg11 arg14 hh hh2 hT off off11 inb inb11 ho ho11 G11 G14 st init h0 hs Y hY 8 le_rfl).2.2
  rw [sum_split (m := 8) (n := 64) (fun p => Y p.val (hh + b.val) * Y p.val (hh + b.val))]
  have e : ∀ k : Fin 8, (∑ y : Fin 64, Y (y.val + 64 * k.val) (hh + b.val) * Y (y.val + 64 * k.val) (hh + b.val)) = ∑ a : Fin 8, ∑ j : Fin 8, Y (64 * k.val + (8 * j.val + a.val)) (hh + b.val) * Y (64 * k.val + (8 * j.val + a.val)) (hh + b.val) := fun k => by
    rw [sum_split (m := 8) (n := 8) (fun y => Y (y.val + 64 * k.val) (hh + b.val) * Y (y.val + 64 * k.val) (hh + b.val)), Finset.sum_comm]
    refine Finset.sum_congr rfl fun a _ => Finset.sum_congr rfl fun j _ => ?_
    rw [show a.val + 8 * j.val + 64 * k.val = 64 * k.val + (8 * j.val + a.val) by omega]
  show _ = ∑ k : Fin 8, (∑ y : Fin 64, Y (y.val + 64 * k.val) (hh + b.val) * Y (y.val + 64 * k.val) (hh + b.val))
  simp only [e]
  rw [Finset.sum_comm]
  refine Finset.sum_congr rfl fun a _ => ?_
  rw [h, hinit, zero_add, Finset.sum_range]
end
-- ==== Proof.Latent.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Drain

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

/-! The latent result out of the drained sums, the scales out of the packed words, and the weights and gamma set up in the first step. -/

theorem pay31_at (x : FVec Ideal S1x512 .f32) (y g : Vec Ideal S128x128 .f32) (a b : Fin 128) :
    k0_pay31 x y g (ix2 a b) = y (ix2 b a) * x (ix2 0 ⟨0 + a.val, by omega⟩) * g (ix2 b a) := by
  pointwise [k0_pay31]
theorem pay32_at (x : FVec Ideal S1x512 .f32) (y g : Vec Ideal S128x128 .f32) (a b : Fin 128) :
    k0_pay32 x y g (ix2 a b) = y (ix2 b a) * x (ix2 0 ⟨128 + a.val, by omega⟩) * g (ix2 b a) := by
  pointwise [k0_pay32]
theorem pay33_at (x : FVec Ideal S1x512 .f32) (y g : Vec Ideal S128x128 .f32) (a b : Fin 128) :
    k0_pay33 x y g (ix2 a b) = y (ix2 b a) * x (ix2 0 ⟨256 + a.val, by omega⟩) * g (ix2 b a) := by
  pointwise [k0_pay33]
theorem pay76_at (x : FVec Ideal S1x512 .f32) (y g : Vec Ideal S128x128 .f32) (a b : Fin 128) :
    k0_pay76 (k0_pay34 x y) g (ix2 a b) = y (ix2 b a) * x (ix2 0 ⟨384 + a.val, by omega⟩) * g (ix2 b a) := by
  pointwise [k0_pay76, k0_pay34]

theorem p10 : @k0_pay10 Ideal _ = k0_pay76 := rfl
theorem p89 : @k0_pay89 Ideal _ = k0_pay31 := rfl
theorem p90 : @k0_pay90 Ideal _ = k0_pay32 := rfl
theorem p91 : @k0_pay91 Ideal _ = k0_pay33 := rfl
theorem p92 : @k0_pay92 Ideal _ = k0_pay34 := rfl

/-- The inverse root mean square out of a sum of squares. -/
def inv (ss : EReal) : EReal := Ideal.rsqrt (ss * Ideal.ofBits .f32 0x3B000000#32 + Ideal.ofBits .f32 0x358637BD#32)

theorem pay75_at (v23 : FVec Ideal S1x256 .f32) (v26 : FVec Ideal S8x256 .f32) (r : Fin 512) :
    k0_pay75 v23 v26 (ix2 0 r) = inv (if h : r.val < 256 then v23 (ix2 0 ⟨r.val, h⟩) else ∑ a : Fin 8, v26 (ix2 a ⟨r.val - 256, by omega⟩)) := by
  pointwise [k0_pay75]
  simp only [inv]

theorem pay9_at (v22 v34 : FVec Ideal S1x256 .f32) (r : Fin 512) :
    k0_pay9 v22 v34 (ix2 0 r) = inv (if h : r.val < 256 then v22 (ix2 0 ⟨r.val, h⟩) else v34 (ix2 0 ⟨r.val - 256, by omega⟩)) := by
  pointwise [k0_pay9]
  simp only [inv]

section
variable (x : FVec Ideal S1x512 .f32) (X10 : BufTy.Contents (Elt Ideal) arg10.view.ty) (X11 : BufTy.Contents (Elt Ideal) arg11.view.ty)

/-- One entry of the latent result: the sum, times the inverse of its token, times gamma. -/
def lat (r : Fin 512) (p : Fin 512) : EReal :=
  arg11.view.read (Elt Ideal) X11 (ix2 p r) * x (ix2 0 r) * arg10.view.read (Elt Ideal) X10 (ix2 p ⟨r.val % 128, by omega⟩)

/-- One trip: 128 columns of the latent result. -/
theorem lat_trip (k : Fin 4) (w0 w1 w2 w3 : Fin 2 → ℕ) (y0 y1 y2 y3 g : Fin 2 → ℕ)
    (iw0 iw1 iw2 iw3) (iy0 iy1 iy2 iy3 ig) (hw0 : w0 = ![0, 128 * k.val]) (hw1 : w1 = ![128, 128 * k.val]) (hw2 : w2 = ![256, 128 * k.val]) (hw3 : w3 = ![384, 128 * k.val])
    (hy0 : y0 = ![128 * k.val, 0]) (hy1 : y1 = ![128 * k.val, 128]) (hy2 : y2 = ![128 * k.val, 256]) (hy3 : y3 = ![128 * k.val, 384]) (hg : g = ![128 * k.val, 0])
    (f : BufTy.Contents (Elt Ideal) arg5.view.ty) (r : Fin 512) (p : Fin 512) :
    arg5.view.read (Elt Ideal) (arg5.view.writes (Elt Ideal) f
      [⟨Rect.unit (s := S512x512) w3 ![128, 128] iw3, k0_pay76 (k0_pay34 x (arg11.view.readAt (Elt Ideal) (Rect.unit (s := S512x512) y3 ![128, 128] iy3).toLoadRect X11)) (arg10.view.readAt (Elt Ideal) (Rect.unit (s := S512x128) g ![128, 128] ig).toLoadRect X10)⟩,
       ⟨Rect.unit (s := S512x512) w2 ![128, 128] iw2, k0_pay33 x (arg11.view.readAt (Elt Ideal) (Rect.unit (s := S512x512) y2 ![128, 128] iy2).toLoadRect X11) (arg10.view.readAt (Elt Ideal) (Rect.unit (s := S512x128) g ![128, 128] ig).toLoadRect X10)⟩,
       ⟨Rect.unit (s := S512x512) w1 ![128, 128] iw1, k0_pay32 x (arg11.view.readAt (Elt Ideal) (Rect.unit (s := S512x512) y1 ![128, 128] iy1).toLoadRect X11) (arg10.view.readAt (Elt Ideal) (Rect.unit (s := S512x128) g ![128, 128] ig).toLoadRect X10)⟩,
       ⟨Rect.unit (s := S512x512) w0 ![128, 128] iw0, k0_pay31 x (arg11.view.readAt (Elt Ideal) (Rect.unit (s := S512x512) y0 ![128, 128] iy0).toLoadRect X11) (arg10.view.readAt (Elt Ideal) (Rect.unit (s := S512x128) g ![128, 128] ig).toLoadRect X10)⟩]) (ix2 r p)
      = if p.val / 128 = k.val then lat arg10 arg11 x X10 X11 r p else arg5.view.read (Elt Ideal) f (ix2 r p) := by
  have hk := k.isLt
  by_cases h : p.val / 128 = k.val
  · rw [if_pos h]
    have out : ∀ (off : Fin 2 → ℕ) (inb) (w) (L) (q : ℕ) (hoff : off = ![128 * q, 128 * k.val]), r.val / 128 ≠ q →
        arg5.view.read (Elt Ideal) (arg5.view.writes (Elt Ideal) f (⟨Rect.unit (s := S512x512) off ![128, 128] inb, w⟩ :: L)) (ix2 r p) = arg5.view.read (Elt Ideal) (arg5.view.writes (Elt Ideal) f L) (ix2 r p) :=
      fun off inb w L q hoff hne => read_w2_out arg5.view f inb w L hoff r p (by left; show r.val < 128 * q ∨ 128 * q + 128 ≤ r.val; omega)
    have e2 : ∀ (off : Fin 2 → ℕ) (inb) (q : ℕ), off = ![128 * k.val, 128 * q] → r.val / 128 = q →
        arg11.view.readAt (Elt Ideal) (Rect.unit (s := S512x512) off ![128, 128] inb).toLoadRect X11 (ix2 ⟨p.val % 128, by omega⟩ ⟨r.val % 128, by omega⟩) = arg11.view.read (Elt Ideal) X11 (ix2 p r) :=
      fun off inb q hoff hq => readAt2 arg11.view X11 inb hoff _ _ p r (by show p.val = 128 * k.val + p.val % 128; omega) (by show r.val = 128 * q + r.val % 128; omega)
    have e3 : arg10.view.readAt (Elt Ideal) (Rect.unit (s := S512x128) g ![128, 128] ig).toLoadRect X10 (ix2 ⟨p.val % 128, by omega⟩ ⟨r.val % 128, by omega⟩) = arg10.view.read (Elt Ideal) X10 (ix2 p ⟨r.val % 128, by omega⟩) :=
      readAt2 arg10.view X10 ig hg _ _ p ⟨r.val % 128, by omega⟩ (by show p.val = 128 * k.val + p.val % 128; omega) (by show r.val % 128 = 0 + r.val % 128; omega)
    have hp : p.val = 128 * k.val + p.val % 128 := by omega
    have hr : r.val / 128 = 0 ∨ r.val / 128 = 1 ∨ r.val / 128 = 2 ∨ r.val / 128 = 3 := by have := r.isLt; omega
    unfold lat
    rcases hr with hr | hr | hr | hr
    · rw [out w3 _ _ _ 3 hw3 (by omega), out w2 _ _ _ 2 hw2 (by omega), out w1 _ _ _ 1 hw1 (by omega),
        read_w2_in arg5.view f iw0 _ _ hw0 r p ⟨r.val % 128, by omega⟩ ⟨p.val % 128, by omega⟩ (by show r.val = 0 + r.val % 128; omega) hp,
        pay31_at, e2 y0 iy0 0 hy0 hr, e3]
      congr 4; exact Fin.ext (by show 0 + r.val % 128 = r.val; omega)
    · rw [out w3 _ _ _ 3 hw3 (by omega), out w2 _ _ _ 2 hw2 (by omega),
        read_w2_in arg5.view f iw1 _ _ hw1 r p ⟨r.val % 128, by omega⟩ ⟨p.val % 128, by omega⟩ (by show r.val = 128 + r.val % 128; omega) hp,
        pay32_at, e2 y1 iy1 1 hy1 hr, e3]
      congr 4; exact Fin.ext (by show 128 + r.val % 128 = r.val; omega)
    · rw [out w3 _ _ _ 3 hw3 (by omega),
        read_w2_in arg5.view f iw2 _ _ hw2 r p ⟨r.val % 128, by omega⟩ ⟨p.val % 128, by omega⟩ (by show r.val = 256 + r.val % 128; omega) hp,
        pay33_at, e2 y2 iy2 2 hy2 hr, e3]
      congr 4; exact Fin.ext (by show 256 + r.val % 128 = r.val; omega)
    · rw [read_w2_in arg5.view f iw3 _ _ hw3 r p ⟨r.val % 128, by omega⟩ ⟨p.val % 128, by omega⟩ (by show r.val = 384 + r.val % 128; omega) hp,
        pay76_at, e2 y3 iy3 3 hy3 hr, e3]
      congr 4; exact Fin.ext (by show 384 + r.val % 128 = r.val; omega)
  · rw [if_neg h, read_w2_out arg5.view f iw3 _ _ hw3 r p (by right; show p.val < 128 * k.val ∨ 128 * k.val + 128 ≤ p.val; omega),
      read_w2_out arg5.view f iw2 _ _ hw2 r p (by right; show p.val < 128 * k.val ∨ 128 * k.val + 128 ≤ p.val; omega),
      read_w2_out arg5.view f iw1 _ _ hw1 r p (by right; show p.val < 128 * k.val ∨ 128 * k.val + 128 ≤ p.val; omega),
      read_w2_out arg5.view f iw0 _ _ hw0 r p (by right; show p.val < 128 * k.val ∨ 128 * k.val + 128 ≤ p.val; omega)]
    rfl

/-- All four trips. -/
theorem lat_loop {T : ℕ} (hT : T = 4) (pb : ℕ → List (View.Piece (Elt Ideal) S512x512 .bf16)) (tr : Fin T → List (View.Piece (Elt Ideal) S512x512 .bf16))
    (f : BufTy.Contents (Elt Ideal) arg5.view.ty) (h0 : pb 0 = []) (hs : ∀ k : Fin T, pb (k.val + 1) = tr k ++ pb k.val)
    (htr : ∀ (k : Fin T) f (r : Fin 512) (p : Fin 512), arg5.view.read (Elt Ideal) (arg5.view.writes (Elt Ideal) f (tr k)) (ix2 r p)
      = if p.val / 128 = k.val then lat arg10 arg11 x X10 X11 r p else arg5.view.read (Elt Ideal) f (ix2 r p)) (r : Fin 512) (p : Fin 512) :
    arg5.view.read (Elt Ideal) (arg5.view.writes (Elt Ideal) f (pb 4)) (ix2 r p) = lat arg10 arg11 x X10 X11 r p := by
  subst hT
  rw [writes_iterN arg5.view pb (fun k _ => tr k) f h0 hs 4 le_rfl,
    iterN_at (fun f => arg5.view.read (Elt Ideal) f (ix2 r p)) _ f ⟨p.val / 128, by omega⟩ (fun _ => lat arg10 arg11 x X10 X11 r p) (fun f => by rw [htr, if_pos rfl])
      (fun k hk f => by rw [htr, if_neg (fun h => hk (Fin.ext h.symm))]), if_pos (by show p.val / 128 < 4; omega)]
end

theorem t8_4 : k0_t8_loop.trips = 4 := by decide +kernel
theorem t15_4 : k0_t15_loop.trips = 4 := by decide +kernel

section
variable (X10 : BufTy.Contents (Elt Ideal) arg10.view.ty) (X11 : BufTy.Contents (Elt Ideal) arg11.view.ty) (f : BufTy.Contents (Elt Ideal) arg5.view.ty) (r p : Fin 512)

theorem lat8 (v0 : IVec S8x128 32) (h2 : k0_cond2 i = 1#1) (v23 : FVec Ideal S1x256 .f32) (v26 : FVec Ideal S8x256 .f32) (v32 : FVec Ideal S64x256 .bf16) :
    arg5.view.read (Elt Ideal) (arg5.view.writes (Elt Ideal) f (pb_k0_t8 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X10 X11 4)) (ix2 r p)
      = lat arg10 arg11 (k0_pay75 v23 v26) X10 X11 r p :=
  lat_loop arg5 arg10 arg11 _ X10 X11 t8_4 _ (fun k => tripL_k0_t8 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X10 X11 k) f rfl (fun k => pb_k0_t8_succ ..) (fun k f r p => by
    have hk := Nat.lt_of_lt_of_eq k.isLt t8_4
    unfold tripL_k0_t8 trip_k0_t8 trip_k0_t8.sl.r; dsimp only
    exact lat_trip arg5 arg10 arg11 (k0_pay75 v23 v26) X10 X11 ⟨k.val, hk⟩ _ _ _ _ _ _ _ _ _ _ _ _ _ _ _ _ _ _ (k0_off40_eq k) (k0_off42_eq k) (k0_off44_eq k) (k0_off46_eq k) (k0_off38_eq k) (k0_off41_eq k) (k0_off43_eq k) (k0_off45_eq k) (k0_off39_eq k) f r p) r p

theorem lat15 (h3 : k0_cond3 i = 1#1) (v22 v34 : FVec Ideal S1x256 .f32) :
    arg5.view.read (Elt Ideal) (arg5.view.writes (Elt Ideal) f (pb_k0_t15 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 v22 v34 X10 X11 4)) (ix2 r p)
      = lat arg10 arg11 (k0_pay9 v22 v34) X10 X11 r p :=
  lat_loop arg5 arg10 arg11 _ X10 X11 t15_4 _ (fun k => tripL_k0_t15 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 v22 v34 X10 X11 k) f rfl (fun k => pb_k0_t15_succ ..) (fun k f r p => by
    have hk := Nat.lt_of_lt_of_eq k.isLt t15_4
    unfold tripL_k0_t15 trip_k0_t15 trip_k0_t15.sl.r; dsimp only
    rw [p10, p89, p90, p91, p92]
    exact lat_trip arg5 arg10 arg11 (k0_pay9 v22 v34) X10 X11 ⟨k.val, hk⟩ _ _ _ _ _ _ _ _ _ _ _ _ _ _ _ _ _ _ (k0_off68_eq k) (k0_off70_eq k) (k0_off72_eq k) (k0_off74_eq k) (k0_off66_eq k) (k0_off69_eq k) (k0_off71_eq k) (k0_off73_eq k) (k0_off67_eq k) f r p) r p
end
-- ==== Proof.Setup.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Drain

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

/-! The scales out of the packed words, and the weights and gamma set up in the first step. -/

theorem pay87_at (v : Vec Ideal S64x128 .i32) (a : Fin 56) (b : Fin 128) :
    k0_pay87 (F := Ideal) v (ix2 a b) = Ideal.ofBits .bf16 (BitVec.extractLsb' (16 * (b.val % 2)) 16 (v (ix2 ⟨b.val / 2, by omega⟩ ⟨a.val, by omega⟩))) := by
  pointwise [k0_pay87]
  rw [bitcast_32_16]
  congr 2
  exact congrArg v (ix2_val _ _ _ _ _ (Shape.Bitcasts.srcIdx_row _ _ _ _ _ rfl) (Shape.Bitcasts.srcIdx_other _ _ _ _ _ (by decide)))

theorem p7 : @k0_pay7 Ideal _ = k0_pay87 := rfl
theorem p8 : @k0_pay8 Ideal _ = k0_pay87 := rfl
theorem p88 : @k0_pay88 Ideal _ = k0_pay87 := rfl

theorem pay11_at (s : Elt Ideal .f32) (w : Vec Ideal S128x128 .fp8e4m3) (a b : Fin 128) :
    k0_pay11 (F := Ideal) s w (ix3 0 a b) = w (ix2 a b) * s := by
  pointwise [k0_pay11]
theorem pay1_at (s : Elt Ideal .f32) (w : Vec Ideal S128x128 .fp8e4m3) (a b : Fin 128) :
    k0_pay1 (F := Ideal) (k0_pay14 (F := Ideal) s) w (ix3 0 a b) = w (ix2 a b) * s := by
  pointwise [k0_pay1, k0_pay14]
theorem pay2_at (s : Elt Ideal .f32) (w : Vec Ideal S64x128 .fp8e4m3) (a : Fin 64) (b : Fin 128) :
    k0_pay2 (F := Ideal) s w (ix3 0 a b) = w (ix2 a b) * s := by
  pointwise [k0_pay2]
theorem p12 : @k0_pay12 Ideal _ = k0_pay11 := rfl
theorem p13 : @k0_pay13 Ideal _ = k0_pay11 := rfl

theorem pay3_at (g : Vec Ideal S1x512 .f32) (p : Fin 512) (l : Fin 128) : k0_pay3 (F := Ideal) g (ix2 p l) = g (ix2 0 p) := by
  pointwise [k0_pay3]
theorem pay6_at (o : Fin 576) (r : Fin 512) : k0_pay6 (F := Ideal) (ix2 o r) = 0 := by
  pointwise [k0_pay6]

/-- One scale out of the weight scales. -/
theorem scalar3 (X3 : BufTy.Contents (Elt Ideal) arg3.view.ty) {off : Fin 2 → ℕ} (inb) (x : S1x1.Idx) (g : Fin 5) (k : Fin 56) (hoff : off = ![g.val, k.val]) :
    arg3.view.readAt (Elt Ideal) (Rect.unit (s := S5x56) off S1x1.size inb).toLoadRect X3 x = arg3.view.read (Elt Ideal) X3 (ix2 g k) := by
  rw [← ix2_eta x]
  exact readAt2 arg3.view X3 (A := 1) (B := 1) inb hoff _ _ g k (by have := (x 0).isLt; show g.val = g.val + (x 0).val; have : (x 0).val < 1 := (x 0).isLt; omega) (by have : (x 1).val < 1 := (x 1).isLt; show k.val = k.val + (x 1).val; omega)

section
variable (h1 : k0_cond1 i = 1#1) (X2 : BufTy.Contents (Elt Ideal) arg2.view.ty) (X3 : BufTy.Contents (Elt Ideal) arg3.view.ty)
theorem t1_56 : k0_t1_loop.trips = 56 := by decide +kernel

/-- One trip: a block of 128 columns of the weights, scaled. -/
theorem wb_trip (k : Fin k0_t1_loop.trips) (f : BufTy.Contents (Elt Ideal) arg9.view.ty) (kb : Fin 56) (o : Fin 576) (l : Fin 128) :
    arg9.view.read (Elt Ideal) (arg9.view.writes (Elt Ideal) f (tripL_k0_t1 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h1 X2 X3 k)) (ix3 kb o l)
      = if kb.val = k.val then arg2.view.read (Elt Ideal) X2 (ix2 o ⟨128 * kb.val + l.val, by omega⟩) * arg3.view.read (Elt Ideal) X3 (ix2 ⟨o.val / 128, by omega⟩ kb)
        else arg9.view.read (Elt Ideal) f (ix3 kb o l) := by
  have hk := Nat.lt_of_lt_of_eq k.isLt t1_56
  unfold tripL_k0_t1 trip_k0_t1; dsimp only
  unfold trip_k0_t1.sl.r trip_k0_t1.sl.r_1 trip_k0_t1.sl.r_2 trip_k0_t1.sl.r_4 trip_k0_t1.sl.r_5 trip_k0_t1.sl.r_3
  rw [p12, p13]
  by_cases h : kb.val = k.val
  · rw [if_pos h]
    have out : ∀ (off : Fin 3 → ℕ) (B : ℕ) (inb) (w) (L) (q : ℕ) (hoff : off = ![k.val, q, 0]), (o.val < q ∨ q + B ≤ o.val) →
        arg9.view.read (Elt Ideal) (arg9.view.writes (Elt Ideal) f (⟨Rect.unit (s := S56x576x128) off ![1, B, 128] inb, w⟩ :: L)) (ix3 kb o l) = arg9.view.read (Elt Ideal) (arg9.view.writes (Elt Ideal) f L) (ix3 kb o l) :=
      fun off B inb w L q hoff hne => read_w3_out arg9.view f inb w L hoff kb o l (.inr (.inl hne))
    have e : ∀ (off : Fin 2 → ℕ) (B : ℕ) (inb) (q : ℕ) (a : Fin B) (hoff : off = ![q, 128 * k.val]), o.val = q + a.val →
        arg2.view.readAt (Elt Ideal) (Rect.unit (s := S576x7168) off ![B, 128] inb).toLoadRect X2 (ix2 a l) = arg2.view.read (Elt Ideal) X2 (ix2 o ⟨128 * kb.val + l.val, by omega⟩) :=
      fun off B inb q a hoff hq => readAt2 arg2.view X2 inb hoff a l o _ hq (by show 128 * kb.val + l.val = 128 * k.val + l.val; omega)
    have ho : o.val / 128 = 0 ∨ o.val / 128 = 1 ∨ o.val / 128 = 2 ∨ o.val / 128 = 3 ∨ o.val / 128 = 4 := by have := o.isLt; omega
    have kin : kb.val = k.val + (0 : Fin 1).val := h
    have hl : l.val = 0 + l.val := by omega
    rcases ho with ho | ho | ho | ho | ho
    · rw [out _ 64 _ _ _ 512 (k0_off15_eq k) (by omega), out _ 128 _ _ _ 384 (k0_off12_eq k) (by omega), out _ 128 _ _ _ 256 (k0_off9_eq k) (by omega), out _ 128 _ _ _ 128 (k0_off6_eq k) (by omega),
        read_w3_in arg9.view f _ _ _ (k0_off3_eq k) kb o l 0 ⟨o.val % 128, by omega⟩ l kin (by show o.val = 0 + o.val % 128; omega) hl, pay11_at,
        scalar3 arg3 X3 _ _ ⟨o.val / 128, by omega⟩ kb ((k0_off1_eq k).trans (by show _ = ![o.val / 128, kb.val]; rw [ho, h])), e _ 128 _ 0 ⟨o.val % 128, by omega⟩ (k0_off2_eq k) (by show o.val = 0 + o.val % 128; omega)]
    · rw [out _ 64 _ _ _ 512 (k0_off15_eq k) (by omega), out _ 128 _ _ _ 384 (k0_off12_eq k) (by omega), out _ 128 _ _ _ 256 (k0_off9_eq k) (by omega),
        read_w3_in arg9.view f _ _ _ (k0_off6_eq k) kb o l 0 ⟨o.val % 128, by omega⟩ l kin (by show o.val = 128 + o.val % 128; omega) hl, pay11_at,
        scalar3 arg3 X3 _ _ ⟨o.val / 128, by omega⟩ kb ((k0_off4_eq k).trans (by show _ = ![o.val / 128, kb.val]; rw [ho, h])), e _ 128 _ 128 ⟨o.val % 128, by omega⟩ (k0_off5_eq k) (by show o.val = 128 + o.val % 128; omega)]
    · rw [out _ 64 _ _ _ 512 (k0_off15_eq k) (by omega), out _ 128 _ _ _ 384 (k0_off12_eq k) (by omega),
        read_w3_in arg9.view f _ _ _ (k0_off9_eq k) kb o l 0 ⟨o.val % 128, by omega⟩ l kin (by show o.val = 256 + o.val % 128; omega) hl, pay11_at,
        scalar3 arg3 X3 _ _ ⟨o.val / 128, by omega⟩ kb ((k0_off7_eq k).trans (by show _ = ![o.val / 128, kb.val]; rw [ho, h])), e _ 128 _ 256 ⟨o.val % 128, by omega⟩ (k0_off8_eq k) (by show o.val = 256 + o.val % 128; omega)]
    · rw [out _ 64 _ _ _ 512 (k0_off15_eq k) (by omega),
        read_w3_in arg9.view f _ _ _ (k0_off12_eq k) kb o l 0 ⟨o.val % 128, by omega⟩ l kin (by show o.val = 384 + o.val % 128; omega) hl, pay1_at,
        scalar3 arg3 X3 _ _ ⟨o.val / 128, by omega⟩ kb ((k0_off10_eq k).trans (by show _ = ![o.val / 128, kb.val]; rw [ho, h])), e _ 128 _ 384 ⟨o.val % 128, by omega⟩ (k0_off11_eq k) (by show o.val = 384 + o.val % 128; omega)]
    · rw [read_w3_in arg9.view f _ _ _ (k0_off15_eq k) kb o l 0 ⟨o.val % 128, by omega⟩ l kin (by show o.val = 512 + o.val % 128; omega) hl, pay2_at,
        scalar3 arg3 X3 _ _ ⟨o.val / 128, by omega⟩ kb ((k0_off13_eq k).trans (by show _ = ![o.val / 128, kb.val]; rw [ho, h])), e _ 64 _ 512 ⟨o.val % 128, by omega⟩ (k0_off14_eq k) (by show o.val = 512 + o.val % 128; omega)]
  · have kout : kb.val < k.val ∨ k.val + 1 ≤ kb.val := by omega
    rw [if_neg h, read_w3_out arg9.view f _ _ _ (k0_off15_eq k) kb o l (.inl kout), read_w3_out arg9.view f _ _ _ (k0_off12_eq k) kb o l (.inl kout), read_w3_out arg9.view f _ _ _ (k0_off9_eq k) kb o l (.inl kout),
      read_w3_out arg9.view f _ _ _ (k0_off6_eq k) kb o l (.inl kout), read_w3_out arg9.view f _ _ _ (k0_off3_eq k) kb o l (.inl kout)]
    rfl

/-- The weights set up. -/
theorem wb_loop (f : BufTy.Contents (Elt Ideal) arg9.view.ty) (kb : Fin 56) (o : Fin 576) (l : Fin 128) :
    arg9.view.read (Elt Ideal) (arg9.view.writes (Elt Ideal) f (pb_k0_t1 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h1 X2 X3 56)) (ix3 kb o l)
      = arg2.view.read (Elt Ideal) X2 (ix2 o ⟨128 * kb.val + l.val, by omega⟩) * arg3.view.read (Elt Ideal) X3 (ix2 ⟨o.val / 128, by omega⟩ kb) := by
  rw [writes_iterN arg9.view (pb_k0_t1 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h1 X2 X3) (fun k _ => tripL_k0_t1 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h1 X2 X3 k) f rfl (fun k => pb_k0_t1_succ ..) 56 (by rw [t1_56]),
    iterN_at (fun f => arg9.view.read (Elt Ideal) f (ix3 kb o l)) _ f ⟨kb.val, by rw [t1_56]; exact kb.isLt⟩ (fun _ => _) (fun f => by rw [wb_trip, if_pos rfl])
      (fun k hk f => by rw [wb_trip, if_neg (fun h => hk (Fin.ext h.symm))]), if_pos kb.isLt]
end
-- ==== Proof.Tiles.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Latent
public import proofs.«01_k».proof.Proof.Setup

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-! All twenty-eight tiles of a step: two pushed before the loop over the rest, the codes, the scale words, and the sums so far. -/

section
variable (v0 : IVec S8x128 32) (hv0 : ∀ (a : Fin 8) (b : Fin 128), v0 (ix2 a b) = BitVec.ofNat 32 b.val) (h2 : k0_cond2 i = 1#1)
  (X1 : BufTy.Contents (Elt Ideal) arg1.view.ty) (X9 : BufTy.Contents (Elt Ideal) arg9.view.ty)
  (v23 : FVec Ideal S1x256 .f32) (v26 : FVec Ideal S8x256 .f32) (v32 : FVec Ideal S64x256 .bf16)

theorem k_arg15 : ∀ t : Fin k0_t9_loop.trips, ktrip.sl.arg15 t = BitVec.ofNat 32 (t.val + 2) := by decide +kernel

theorem lp3_7 (f) (r : Fin 512) (j : Fin 7168) :
    arg7.view.read (Elt Ideal) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.1) f 32) (ix2 r j)
      = if j.val / 256 = 0 then code (xrow arg1 X1 r) j else arg7.view.read (Elt Ideal) f (ix2 r j) :=
  loop_7 arg1 arg7 X1 t3_32 0 (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.1) (fun k p kb hp hk f r j => q3_7 (hk := hk) (hp := hp) ..) f r j

theorem lp7_7 (f) (r : Fin 512) (j : Fin 7168) :
    arg7.view.read (Elt Ideal) (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.1) f 32) (ix2 r j)
      = if j.val / 256 = 1 then code (xrow arg1 X1 r) j else arg7.view.read (Elt Ideal) f (ix2 r j) :=
  loop_7 arg1 arg7 X1 t7_32 1 (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.1) (fun k p kb hp hk f r j => q7_7 (hk := hk) (hp := hp) ..) f r j

theorem kt_7 (t : Fin k0_t9_loop.trips) (f) (r : Fin 512) (j : Fin 7168) :
    arg7.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 t).1.1 f) (ix2 r j)
      = if j.val / 256 = t.val + 2 then code (xrow arg1 X1 r) j else arg7.view.read (Elt Ideal) f (ix2 r j) := by
  have ht := Nat.lt_of_lt_of_eq t.isLt t9_26
  unfold ktrip; dsimp only
  exact loop_7 arg1 arg7 X1 t11_32 ⟨t.val + 2, by omega⟩ (fun k => (qtrip11 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t (ktrip.sl.arg15 t) X1 k).1.1) (fun k p kb hp hk f r j => q11_7 (hk := hk) (hp := hp) ..) f r j

include hv0

theorem lp3_12 (f) (R : Fin 256) (kb : Fin 56) :
    arg12.view.read (Elt Ideal) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.1) f 32) (ix2 R ⟨kb.val, by omega⟩)
      = if kb.val / 2 = 0 then word arg1 X1 R kb else arg12.view.read (Elt Ideal) f (ix2 R ⟨kb.val, by omega⟩) :=
  loop_12 arg1 arg12 X1 t3_32 0 (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.1) (fun k p kb hp hk f R kb' => q3_12 (hv0 := hv0) (hk := hk) (hp := hp) ..) f R kb

theorem lp7_12 (f) (R : Fin 256) (kb : Fin 56) :
    arg12.view.read (Elt Ideal) (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.1) f 32) (ix2 R ⟨kb.val, by omega⟩)
      = if kb.val / 2 = 1 then word arg1 X1 R kb else arg12.view.read (Elt Ideal) f (ix2 R ⟨kb.val, by omega⟩) :=
  loop_12 arg1 arg12 X1 t7_32 1 (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.1) (fun k p kb hp hk f R kb' => q7_12 (hv0 := hv0) (hk := hk) (hp := hp) ..) f R kb

theorem kt_12 (t : Fin k0_t9_loop.trips) (f) (R : Fin 256) (kb : Fin 56) :
    arg12.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 t).1.2.1 f) (ix2 R ⟨kb.val, by omega⟩)
      = if kb.val / 2 = t.val + 2 then word arg1 X1 R kb else arg12.view.read (Elt Ideal) f (ix2 R ⟨kb.val, by omega⟩) := by
  have ht := Nat.lt_of_lt_of_eq t.isLt t9_26
  unfold ktrip; dsimp only
  exact loop_12 arg1 arg12 X1 t11_32 ⟨t.val + 2, by omega⟩ (fun k => (qtrip11 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t (ktrip.sl.arg15 t) X1 k).1.2.1) (fun k p kb hp hk f R kb' => q11_12 (hv0 := hv0) (harg := k_arg15 t) (hk := hk) (hp := hp) ..) f R kb

/-- The codes of a step. -/
theorem codes_all (f) (r : Fin 512) (j : Fin 7168) :
    arg7.view.read (Elt Ideal) (iterN (fun k => (ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 k).1.1)
      (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.1)
        (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.1) f 32) 32) 26) (ix2 r j) = code (xrow arg1 X1 r) j := by
  have hj := j.isLt
  by_cases h2' : 2 ≤ j.val / 256
  · refine (iterN_at (fun f => arg7.view.read (Elt Ideal) f (ix2 r j)) _ _ ⟨j.val / 256 - 2, by rw [t9_26]; omega⟩ (fun _ => code (xrow arg1 X1 r) j) (fun f => ?_) (fun k hk f => ?_) 26).trans (if_pos (by show j.val / 256 - 2 < 26; omega))
    · show arg7.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 _).1.1 f) (ix2 r j) = _
      rw [kt_7, if_pos (by show j.val / 256 = j.val / 256 - 2 + 2; omega)]
    · show arg7.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 k).1.1 f) (ix2 r j) = _
      rw [kt_7, if_neg (fun h => hk (Fin.ext (by show k.val = j.val / 256 - 2; omega)))]
  · refine (iterN_const (fun f => arg7.view.read (Elt Ideal) f (ix2 r j)) _ _ (fun k f => ?_) 26).trans ?_
    · show arg7.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 k).1.1 f) (ix2 r j) = _
      rw [kt_7, if_neg (by omega)]
    · show arg7.view.read (Elt Ideal) (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.1) _ 32) (ix2 r j) = _
      rw [lp7_7, lp3_7]
      by_cases h1 : j.val / 256 = 1
      · rw [if_pos h1]
      · rw [if_neg h1, if_pos (by omega)]

/-- The scale words of a step. -/
theorem words_all (f) (R : Fin 256) (kb : Fin 56) :
    arg12.view.read (Elt Ideal) (iterN (fun k => (ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 k).1.2.1)
      (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.1)
        (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.1) f 32) 32) 26) (ix2 R ⟨kb.val, by omega⟩) = word arg1 X1 R kb := by
  have hj := kb.isLt
  by_cases h2' : 2 ≤ kb.val / 2
  · refine (iterN_at (fun f => arg12.view.read (Elt Ideal) f (ix2 R ⟨kb.val, by omega⟩)) _ _ ⟨kb.val / 2 - 2, by rw [t9_26]; omega⟩ (fun _ => word arg1 X1 R kb) (fun f => ?_) (fun k hk f => ?_) 26).trans (if_pos (by show kb.val / 2 - 2 < 26; omega))
    · show arg12.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 _).1.2.1 f) _ = _
      rw [kt_12 (hv0 := hv0), if_pos (by show kb.val / 2 = kb.val / 2 - 2 + 2; omega)]
    · show arg12.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 k).1.2.1 f) _ = _
      rw [kt_12 (hv0 := hv0), if_neg (fun h => hk (Fin.ext (by show k.val = kb.val / 2 - 2; omega)))]
  · refine (iterN_const (fun f => arg12.view.read (Elt Ideal) f (ix2 R ⟨kb.val, by omega⟩)) _ _ (fun k f => ?_) 26).trans ?_
    · show arg12.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 k).1.2.1 f) _ = _
      rw [kt_12 (hv0 := hv0), if_neg (by omega)]
    · show arg12.view.read (Elt Ideal) (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.1) _ 32) _ = _
      rw [lp7_12 (hv0 := hv0), lp3_12 (hv0 := hv0)]
      by_cases h1 : kb.val / 2 = 1
      · rw [if_pos h1]
      · rw [if_neg h1, if_pos (by omega)]
omit hv0

theorem lp3_13 (f) (s : Fin 2) (r : Fin 512) (q : Fin 256) :
    arg13.view.read (Elt Ideal) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) f 32) (ix3 s r q)
      = if s = 0 then xq (xrow arg1 X1 r) ⟨256 * 0 + q.val, by omega⟩ else arg13.view.read (Elt Ideal) f (ix3 s r q) :=
  loop_13 arg1 arg13 X1 t3_32 0 0 (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) (fun k p kb hp hk f s r q => q3_13 (hk := hk) (hp := hp) ..) f s r q

theorem lp7_13 (f) (s : Fin 2) (r : Fin 512) (q : Fin 256) :
    arg13.view.read (Elt Ideal) (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) f 32) (ix3 s r q)
      = if s = 1 then xq (xrow arg1 X1 r) ⟨256 * 1 + q.val, by omega⟩ else arg13.view.read (Elt Ideal) f (ix3 s r q) :=
  loop_13 arg1 arg13 X1 t7_32 1 1 (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) (fun k p kb hp hk f s r q => q7_13 (hk := hk) (hp := hp) ..) f s r q

theorem kt_13 (t : Fin k0_t9_loop.trips) (f) (s : Fin 2) (r : Fin 512) (q : Fin 256) :
    arg13.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 t).1.2.2.1 f) (ix3 s r q)
      = if s.val = t.val % 2 then xq (xrow arg1 X1 r) ⟨256 * (t.val + 2) + q.val, by have := Nat.lt_of_lt_of_eq t.isLt t9_26; omega⟩ else arg13.view.read (Elt Ideal) f (ix3 s r q) := by
  have ht := Nat.lt_of_lt_of_eq t.isLt t9_26
  unfold ktrip; dsimp only
  refine (loop_13 arg1 arg13 X1 t11_32 ⟨t.val + 2, by omega⟩ ⟨t.val % 2, by omega⟩ (fun k => (qtrip11 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 t (ktrip.sl.arg15 t) X1 k).1.2.2) (fun k p kb hp hk f s r q => ?_) f s r q).trans ?_
  · refine (q11_13 (hk := hk) (hp := hp) ..).trans (if_congr ?_ rfl rfl)
    rw [Fin.ext_iff]
  · exact if_congr Fin.ext_iff rfl rfl

/-- What tile `kt` adds to the sum of row `r` and output `o`. -/
def tileD (kt : Fin 28) (o : Fin 576) (r : Fin 512) : EReal :=
  ∑ q : Fin 256, arg9.view.read (Elt Ideal) X9 (ix3 ⟨2 * kt.val + q.val / 128, by omega⟩ o ⟨q.val % 128, by omega⟩) * xq (xrow arg1 X1 r) ⟨256 * kt.val + q.val, by omega⟩

/-- The same over the naturals. -/
def tileN (kt : ℕ) (o : Fin 576) (r : Fin 512) : EReal := if h : kt < 28 then tileD arg1 arg9 X1 X9 ⟨kt, h⟩ o r else 0

theorem dotT_tile (X13 : BufTy.Contents (Elt Ideal) arg13.view.ty) (kt : Fin 28) (s : Fin 2) (o : Fin 576) (r : Fin 512)
    (h : ∀ q : Fin 256, arg13.view.read (Elt Ideal) X13 (ix3 s r q) = xq (xrow arg1 X1 r) ⟨256 * kt.val + q.val, by omega⟩) :
    dotT arg9 arg13 X9 X13 kt s o r = tileN arg1 arg9 X1 X9 kt.val o r := by
  unfold tileN tileD dotT
  rw [dif_pos kt.isLt]
  refine Finset.sum_congr rfl fun q _ => ?_
  rw [h]

/-- After `n` trips over the tiles: tiles `n` and `n + 1` in their slots, and tiles up to `n` summed. -/
theorem kst_inv (G13 : BufTy.Contents (Elt Ideal) arg13.view.ty) (G14 : BufTy.Contents (Elt Ideal) arg14.view.ty)
    (h13 : ∀ (s : Fin 2) (r : Fin 512) (q : Fin 256), arg13.view.read (Elt Ideal) G13 (ix3 s r q) = xq (xrow arg1 X1 r) ⟨256 * s.val + q.val, by omega⟩)
    (h14 : ∀ (o : Fin 576) (r : Fin 512), arg14.view.read (Elt Ideal) G14 (ix2 o r) = tileN arg1 arg9 X1 X9 0 o r) (n : ℕ) (hn : n ≤ 26) :
    (∀ (kt : Fin 28) (s : Fin 2) (r : Fin 512) (q : Fin 256), s.val = kt.val % 2 → (kt.val = n ∨ kt.val = n + 1) →
      arg13.view.read (Elt Ideal) (kst (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 G13 G14 n).1 (ix3 s r q) = xq (xrow arg1 X1 r) ⟨256 * kt.val + q.val, by omega⟩)
    ∧ (∀ (o : Fin 576) (r : Fin 512), arg14.view.read (Elt Ideal) (kst (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 G13 G14 n).2 (ix2 o r)
      = ∑ kt ∈ Finset.range (n + 1), tileN arg1 arg9 X1 X9 kt o r) := by
  induction n with
  | zero =>
    refine ⟨fun kt s r q hs hkt => ?_, fun o r => ?_⟩
    · refine (h13 s r q).trans (congrArg _ (Fin.ext ?_))
      show 256 * s.val + q.val = 256 * kt.val + q.val
      omega
    · refine (h14 o r).trans ?_
      simp
  | succ n ih =>
    obtain ⟨i1, i2⟩ := ih (by omega)
    have hs := kst_succ (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 G13 G14 ⟨n, by rw [t9_26]; omega⟩
    simp only at hs
    rw [hs]
    refine ⟨fun kt s r q hs hkt => ?_, fun o r => ?_⟩
    · show arg13.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 ⟨n, _⟩).1.2.2.1 _) (ix3 s r q) = _
      rw [kt_13]
      by_cases h : kt.val = n + 2
      · rw [if_pos (by show s.val = n % 2; omega)]
        refine congrArg _ (Fin.ext ?_)
        show 256 * (n + 2) + q.val = 256 * kt.val + q.val
        rw [h]
      · rw [if_neg (by show ¬ s.val = n % 2; omega), i1 kt s r q hs (by omega)]
    · show arg14.view.read (Elt Ideal) ((ktrip (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9 ⟨n, _⟩).1.2.2.2 _ _) (ix2 o r) = _
      unfold ktrip; dsimp only
      refine (acc10 (t := ⟨n, by rw [t9_26]; omega⟩) (kt := ⟨n + 1, by omega⟩) (hkt := rfl) ..).trans ?_
      rw [Finset.sum_range_succ, i2, dotT_tile arg1 arg9 arg13 X1 X9 _ ⟨n + 1, by omega⟩ _ o r (fun q => i1 ⟨n + 1, by omega⟩ _ r q rfl (.inr rfl))]

/-- A whole row against a whole row of weights, tile by tile. -/
theorem tiles_sum (o : Fin 576) (r : Fin 512) : ∑ kt ∈ Finset.range 28, tileN arg1 arg9 X1 X9 kt o r
    = Spec.y (xrow arg1 X1 r) (fun j => arg9.view.read (Elt Ideal) X9 (ix3 (kbOf j) o ⟨j.val % 128, by omega⟩)) := by
  unfold Spec.y
  refine Eq.trans ?_ (sum_split (m := 28) (n := 256) (fun j : Fin 7168 => xq (xrow arg1 X1 r) j * arg9.view.read (Elt Ideal) X9 (ix3 (kbOf j) o ⟨j.val % 128, by omega⟩))).symm
  rw [Finset.sum_range]
  refine Finset.sum_congr rfl fun kt _ => ?_
  unfold tileN tileD
  rw [dif_pos kt.isLt]
  refine Finset.sum_congr rfl fun q _ => ?_
  rw [mul_comm]
  have e : (⟨q.val + 256 * kt.val, by omega⟩ : Fin 7168) = ⟨256 * kt.val + q.val, by omega⟩ := Fin.ext (Nat.add_comm _ _)
  rw [e]
  congr 3
  · exact Fin.ext (by show 2 * kt.val + q.val / 128 = (256 * kt.val + q.val) / 128; omega)
  · exact Fin.ext (by show q.val % 128 = (256 * kt.val + q.val) % 128; omega)
end
-- ==== Proof.Both.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Tiles

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-! Draining both halves of the tokens, and what the drained tile's results hold. -/

theorem pay59_0 (x : S8x256.Idx) : k0_pay59 (F := Ideal) x = 0 := by
  rw [← ix2_eta x]; pointwise [k0_pay59]
theorem pay52_0 (x : S8x256.Idx) : k0_pay52 (F := Ideal) x = 0 := by
  rw [← ix2_eta x]; pointwise [k0_pay52]
theorem pay56_0 (x : S64x256.Idx) : k0_pay56 (F := Ideal) x = 0 := by
  rw [← ix2_eta x]; pointwise [k0_pay56]
theorem p63 : @k0_pay63 Ideal _ = k0_pay56 := rfl
theorem p100 : @k0_pay100 Ideal _ = k0_pay56 := rfl
theorem p107 : @k0_pay107 Ideal _ = k0_pay56 := rfl
theorem p96 : @k0_pay96 Ideal _ = k0_pay52 := rfl
theorem p103 : @k0_pay103 Ideal _ = k0_pay52 := rfl
theorem p102 : @k0_pay102 Ideal _ = k0_pay58 := rfl
theorem pay109_at (v : FVec Ideal S8x256 .f32) (b : Fin 256) : k0_pay109 (F := Ideal) v (ix2 0 b) = ∑ a : Fin 8, v (ix2 a b) := by
  pointwise [k0_pay109]
theorem p97 : @k0_pay97 Ideal _ = k0_pay53 := rfl
theorem p98 (v : Vec Ideal S64x256 .f32) : k0_pay98 (F := Ideal) v = k0_pay54 v := rfl
theorem p99 : @k0_pay99 Ideal _ = k0_pay55 := rfl
theorem p104 : @k0_pay104 Ideal _ = k0_pay53 := rfl
theorem p105 (v : Vec Ideal S64x256 .f32) : k0_pay105 (F := Ideal) v = k0_pay54 v := rfl
theorem p106 : @k0_pay106 Ideal _ = k0_pay55 := rfl

section
variable {T4 T5 : ℕ} (hT4 : T4 = 8) (hT5 : T5 = 8) (off4 off4' : Fin T4 → Fin 2 → ℕ) (off5 off5' : Fin T5 → Fin 2 → ℕ)
  (inb4 : ∀ k, ∀ a : Fin 2, off4 k a + (![64, 256] : Fin 2 → ℕ) a ≤ (![576, 512] : Fin 2 → ℕ) a)
  (inb4' : ∀ k, ∀ a : Fin 2, off4' k a + (![64, 256] : Fin 2 → ℕ) a ≤ (![512, 512] : Fin 2 → ℕ) a)
  (inb5 : ∀ k, ∀ a : Fin 2, off5 k a + (![64, 256] : Fin 2 → ℕ) a ≤ (![576, 512] : Fin 2 → ℕ) a)
  (inb5' : ∀ k, ∀ a : Fin 2, off5' k a + (![64, 256] : Fin 2 → ℕ) a ≤ (![512, 512] : Fin 2 → ℕ) a)
  (ho4 : ∀ k, off4 k = ![64 * k.val, 0]) (ho4' : ∀ k, off4' k = ![64 * k.val, 0])
  (ho5 : ∀ k, off5 k = ![64 * k.val, 256]) (ho5' : ∀ k, off5' k = ![64 * k.val, 256])
  (G11 G11' : BufTy.Contents (Elt Ideal) arg11.view.ty) (G14 G14' : BufTy.Contents (Elt Ideal) arg14.view.ty)
  (st4 st5 : ℕ → FVec Ideal S8x256 .f32 × List (View.Piece (Elt Ideal) S512x512 .f32) × List (View.Piece (Elt Ideal) S576x512 .f32))
  (h4 : st4 0 = (k0_pay52, [], [])) (h5 : st5 0 = (k0_pay52, [], []))
  (hs4 : ∀ k : Fin T4, st4 (k.val + 1) =
    (k0_pay55 (F := Ideal) (st4 k.val).1 (arg14.view.readAt (Elt Ideal) (Rect.unit (s := S576x512) (off4 k) ![64, 256] (inb4 k)).toLoadRect (arg14.view.writes (Elt Ideal) G14 (st4 k.val).2.2)),
     [⟨Rect.unit (s := S512x512) (off4' k) ![64, 256] (inb4' k), k0_pay54 (F := Ideal) (arg14.view.readAt (Elt Ideal) (Rect.unit (s := S576x512) (off4 k) ![64, 256] (inb4 k)).toLoadRect (arg14.view.writes (Elt Ideal) G14 (st4 k.val).2.2))⟩] ++ (st4 k.val).2.1,
     [⟨Rect.unit (s := S576x512) (off4 k) ![64, 256] (inb4 k), k0_pay53 (F := Ideal)⟩] ++ (st4 k.val).2.2))
  (hs5 : ∀ k : Fin T5, st5 (k.val + 1) =
    (k0_pay55 (F := Ideal) (st5 k.val).1 (arg14.view.readAt (Elt Ideal) (Rect.unit (s := S576x512) (off5 k) ![64, 256] (inb5 k)).toLoadRect (arg14.view.writes (Elt Ideal) G14' (st5 k.val).2.2)),
     [⟨Rect.unit (s := S512x512) (off5' k) ![64, 256] (inb5' k), k0_pay54 (F := Ideal) (arg14.view.readAt (Elt Ideal) (Rect.unit (s := S576x512) (off5 k) ![64, 256] (inb5 k)).toLoadRect (arg14.view.writes (Elt Ideal) G14' (st5 k.val).2.2))⟩] ++ (st5 k.val).2.1,
     [⟨Rect.unit (s := S576x512) (off5 k) ![64, 256] (inb5 k), k0_pay53 (F := Ideal)⟩] ++ (st5 k.val).2.2))
  (inbz : ∀ a : Fin 2, (![512, 0] : Fin 2 → ℕ) a + (![64, 256] : Fin 2 → ℕ) a ≤ (![576, 512] : Fin 2 → ℕ) a) (inbz' : ∀ a : Fin 2, (![512, 256] : Fin 2 → ℕ) a + (![64, 256] : Fin 2 → ℕ) a ≤ (![576, 512] : Fin 2 → ℕ) a)
  (h11 : G11' = arg11.view.writes (Elt Ideal) G11 (st4 8).2.1)
  (h14 : G14' = arg14.view.writes (Elt Ideal) G14 (⟨Rect.unit (s := S576x512) ![512, 0] ![64, 256] inbz, k0_pay56 (F := Ideal)⟩ :: (st4 8).2.2))
  (Y : ℕ → ℕ → EReal) (hY : ∀ (o : Fin 576) (r : Fin 512), arg14.view.read (Elt Ideal) G14 (ix2 o r) = Y o.val r.val)

/-- What is known once both halves are drained: the rows taken out, the accumulators zeroed, the rotary rows read in
    between, and the sums of squares. -/
def Drained (arg11 : Memref sig .tc .vmem S512x512 .f32) (arg14 : Memref sig .tc .vmem S576x512 .f32)
    (G14 G14' : BufTy.Contents (Elt Ideal) arg14.view.ty) (G11' : BufTy.Contents (Elt Ideal) arg11.view.ty)
    (s4 s5 : FVec Ideal S8x256 .f32 × List (View.Piece (Elt Ideal) S512x512 .f32) × List (View.Piece (Elt Ideal) S576x512 .f32)) (inbz : ∀ a : Fin 2, (![512, 0] : Fin 2 → ℕ) a + (![64, 256] : Fin 2 → ℕ) a ≤ (![576, 512] : Fin 2 → ℕ) a) (inbz' : ∀ a : Fin 2, (![512, 256] : Fin 2 → ℕ) a + (![64, 256] : Fin 2 → ℕ) a ≤ (![576, 512] : Fin 2 → ℕ) a) (Y : ℕ → ℕ → EReal) : Prop :=
  (∀ (p r : Fin 512), arg11.view.read (Elt Ideal) (arg11.view.writes (Elt Ideal) G11' s5.2.1) (ix2 p r) = Y p.val r.val)
  ∧ (∀ (o : Fin 576) (r : Fin 512), arg14.view.read (Elt Ideal) (arg14.view.writes (Elt Ideal) G14' (⟨Rect.unit (s := S576x512) ![512, 256] ![64, 256] inbz', k0_pay56 (F := Ideal)⟩ :: s5.2.2)) (ix2 o r) = 0)
  ∧ (∀ (a : Fin 64) (b : Fin 256), arg14.view.readAt (Elt Ideal) (Rect.unit (s := S576x512) ![512, 0] ![64, 256] inbz).toLoadRect (arg14.view.writes (Elt Ideal) G14 s4.2.2) (ix2 a b) = Y (512 + a.val) b.val)
  ∧ (∀ (a : Fin 64) (b : Fin 256), arg14.view.readAt (Elt Ideal) (Rect.unit (s := S576x512) ![512, 256] ![64, 256] inbz').toLoadRect (arg14.view.writes (Elt Ideal) G14' s5.2.2) (ix2 a b) = Y (512 + a.val) (256 + b.val))
  ∧ (∀ b : Fin 256, ∑ a : Fin 8, s4.1 (ix2 a b) = ∑ p : Fin 512, Y p.val b.val * Y p.val b.val)
  ∧ (∀ b : Fin 256, ∑ a : Fin 8, s5.1 (ix2 a b) = ∑ p : Fin 512, Y p.val (256 + b.val) * Y p.val (256 + b.val))

include G11 hT4 hT5 ho4 ho4' ho5 ho5' h4 h5 hs4 hs5 h11 h14 hY in
theorem drain_both : Drained arg11 arg14 G14 G14' G11' (st4 8) (st5 8) inbz inbz' Y := by
  obtain ⟨a1, a2, -⟩ := drain_inv arg11 arg14 0 (.inl rfl) hT4 off4 off4' inb4 inb4' ho4 ho4' G11 G14 st4 _ h4 hs4 Y hY 8 le_rfl
  have a3 := drain_sum arg11 arg14 0 (.inl rfl) hT4 off4 off4' inb4 inb4' ho4 ho4' G11 G14 st4 _ h4 hs4 Y hY pay52_0
  have hY' : ∀ (o : Fin 576) (r : Fin 512), arg14.view.read (Elt Ideal) G14' (ix2 o r) = (fun o r => if r < 256 then 0 else Y o r) o.val r.val := fun o r => by
    rw [h14]
    show _ = if r.val < 256 then 0 else Y o.val r.val
    by_cases hr : r.val < 256
    · rw [if_pos hr]
      by_cases ho : o.val < 512
      · rw [read_w2_out arg14.view G14 inbz _ _ rfl o r (.inl (.inl ho)), a2, if_pos (by omega)]
      · rw [read_w2_in arg14.view G14 inbz _ _ rfl o r ⟨o.val - 512, by omega⟩ ⟨r.val, hr⟩ (by show o.val = 512 + (o.val - 512); omega) (by show r.val = 0 + r.val; omega), pay56_0]
    · rw [if_neg hr, read_w2_out arg14.view G14 inbz _ _ rfl o r (.inr (.inr (by show 0 + 256 ≤ r.val; omega))), a2, if_neg (by omega)]
  obtain ⟨b1, b2, -⟩ := drain_inv arg11 arg14 256 (.inr rfl) hT5 off5 off5' inb5 inb5' ho5 ho5' G11' G14' st5 _ h5 hs5 (fun o r => if r < 256 then 0 else Y o r) hY' 8 le_rfl
  have b3 := drain_sum arg11 arg14 256 (.inr rfl) hT5 off5 off5' inb5 inb5' ho5 ho5' G11' G14' st5 _ h5 hs5 (fun o r => if r < 256 then 0 else Y o r) hY' pay52_0
  refine ⟨fun p r => ?_, fun o r => ?_, fun a b => ?_, fun a b => ?_, fun b => ?_, fun b => ?_⟩
  · rw [b1]
    by_cases hr : r.val < 256
    · rw [if_neg (by omega), h11, a1, if_pos (by omega)]
    · rw [if_pos (by omega)]; exact if_neg hr
  · by_cases h : 512 ≤ o.val ∧ 256 ≤ r.val
    · rw [read_w2_in arg14.view G14' inbz' _ _ rfl o r ⟨o.val - 512, by omega⟩ ⟨r.val - 256, by omega⟩ (by show o.val = 512 + (o.val - 512); omega) (by show r.val = 256 + (r.val - 256); omega), pay56_0]
    · rw [read_w2_out arg14.view G14' inbz' _ _ rfl o r (by show (o.val < 512 ∨ 512 + 64 ≤ o.val) ∨ (r.val < 256 ∨ 256 + 256 ≤ r.val); omega), b2]
      by_cases hr : r.val < 256
      · rw [if_neg (by omega)]; exact if_pos hr
      · rw [if_pos (by omega)]
  · rw [readAt2 arg14.view _ inbz rfl a b ⟨512 + a.val, by omega⟩ ⟨b.val, by omega⟩ rfl (by show b.val = 0 + b.val; omega), a2, if_neg (by
      rintro ⟨h, -⟩
      have h' : (512 + a.val) / 64 < 8 := h
      omega)]
  · rw [readAt2 arg14.view _ inbz' rfl a b ⟨512 + a.val, by omega⟩ ⟨256 + b.val, by omega⟩ rfl rfl, b2, if_neg (by
      rintro ⟨h, -⟩
      have h' : (512 + a.val) / 64 < 8 := h
      omega)]
    exact if_neg (by show ¬ 256 + b.val < 256; omega)
  · refine (a3 b).trans ?_
    simp only [Nat.zero_add]
  · refine (b3 b).trans (Finset.sum_congr rfl fun p _ => ?_)
    have : ¬ 256 + b.val < 256 := by omega
    simp only [if_neg this]
end

theorem t4_8 : k0_t4_loop.trips = 8 := by decide +kernel
theorem t5_8 : k0_t5_loop.trips = 8 := by decide +kernel
theorem t13_8 : k0_t13_loop.trips = 8 := by decide +kernel
theorem t14_8 : k0_t14_loop.trips = 8 := by decide +kernel

section
variable (G11 G11' : BufTy.Contents (Elt Ideal) arg11.view.ty) (G14 G14' : BufTy.Contents (Elt Ideal) arg14.view.ty) (inbz : ∀ a : Fin 2, (![512, 0] : Fin 2 → ℕ) a + (![64, 256] : Fin 2 → ℕ) a ≤ (![576, 512] : Fin 2 → ℕ) a) (inbz' : ∀ a : Fin 2, (![512, 256] : Fin 2 → ℕ) a + (![64, 256] : Fin 2 → ℕ) a ≤ (![576, 512] : Fin 2 → ℕ) a)
  (Y : ℕ → ℕ → EReal) (hY : ∀ (o : Fin 576) (r : Fin 512), arg14.view.read (Elt Ideal) G14 (ix2 o r) = Y o.val r.val)

include hY

theorem drain45 (v0 : IVec S8x128 32) (h2 : k0_cond2 i = 1#1)
    (h11 : G11' = arg11.view.writes (Elt Ideal) G11 (st_k0_t4 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 G11 G14 k0_pay52 8).2.1)
    (h14 : G14' = arg14.view.writes (Elt Ideal) G14 (⟨Rect.unit (s := S576x512) ![512, 0] ![64, 256] inbz, k0_pay56 (F := Ideal)⟩ :: (st_k0_t4 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 G11 G14 k0_pay52 8).2.2)) :
    Drained arg11 arg14 G14 G14' G11' (st_k0_t4 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 G11 G14 k0_pay52 8) (st_k0_t5 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 G11' G14' k0_pay59 8) inbz inbz' Y :=
  drain_both arg11 arg14 t4_8 t5_8 _ _ _ _ _ _ _ _ k0_off25_eq k0_off26_eq k0_off27_eq k0_off28_eq G11 G11' G14 G14'
    (st_k0_t4 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 G11 G14 k0_pay52) (st_k0_t5 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 G11' G14' k0_pay59) rfl rfl
    (fun k => (st_k0_t4_succ ..).trans (by unfold tripR_k0_t4 tripL_k0_t4 trip_k0_t4; rfl))
    (fun k => (st_k0_t5_succ ..).trans (by unfold tripR_k0_t5 tripL_k0_t5 trip_k0_t5; rfl)) inbz inbz' h11 h14 Y hY

theorem drain1314 (h3 : k0_cond3 i = 1#1)
    (h11 : G11' = arg11.view.writes (Elt Ideal) G11 (st_k0_t13 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 G11 G14 k0_pay96 8).2.1)
    (h14 : G14' = arg14.view.writes (Elt Ideal) G14 (⟨Rect.unit (s := S576x512) ![512, 0] ![64, 256] inbz, k0_pay100 (F := Ideal)⟩ :: (st_k0_t13 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 G11 G14 k0_pay96 8).2.2)) :
    Drained arg11 arg14 G14 G14' G11' (st_k0_t13 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 G11 G14 k0_pay96 8) (st_k0_t14 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 G11' G14' k0_pay103 8) inbz inbz' Y :=
  drain_both arg11 arg14 t13_8 t14_8 _ _ _ _ _ _ _ _ k0_off62_eq k0_off63_eq k0_off64_eq k0_off65_eq G11 G11' G14 G14'
    (st_k0_t13 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 G11 G14 k0_pay96) (st_k0_t14 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 G11' G14' k0_pay103) rfl rfl
    (fun k => (st_k0_t13_succ ..).trans (by unfold tripR_k0_t13 tripL_k0_t13 trip_k0_t13; rfl))
    (fun k => (st_k0_t14_succ ..).trans (by unfold tripR_k0_t14 tripL_k0_t14 trip_k0_t14; rfl)) inbz inbz' h11 h14 Y hY
end
-- ==== Proof.Out.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Both

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-! The four results of a step, and what it leaves for the next. -/

section
variable (Y : ℕ → ℕ → EReal) {G11' : BufTy.Contents (Elt Ideal) arg11.view.ty} {G14 G14' : BufTy.Contents (Elt Ideal) arg14.view.ty}
  {s4 s5 : FVec Ideal S8x256 .f32 × List (View.Piece (Elt Ideal) S512x512 .f32) × List (View.Piece (Elt Ideal) S576x512 .f32)} {inbz} {inbz'}
  (D : Drained arg11 arg14 G14 G14' G11' s4 s5 inbz inbz' Y) (X10 : BufTy.Contents (Elt Ideal) arg10.view.ty) (γ : Fin 512 → EReal)
  (hγ : ∀ (p : Fin 512) (l : Fin 128), arg10.view.read (Elt Ideal) X10 (ix2 p l) = γ p) (r p : Fin 512)

include D hγ

/-- The latent result of the drained tile. -/
theorem out5 : lat arg10 arg11 (k0_pay75 (k0_pay58 s4.1) s5.1) X10 (arg11.view.writes (Elt Ideal) G11' s5.2.1) r p
    = latent (fun o => Y o.val r.val) γ p := by
  obtain ⟨d1, -, -, -, d5, d6⟩ := D
  unfold lat latent
  rw [d1, hγ, pay75_at]
  congr 2
  by_cases h : r.val < 256
  · rw [dif_pos h, pay58_at, d5]; rfl
  · rw [dif_neg h, d6, show 256 + (⟨r.val - 256, by omega⟩ : Fin 256).val = r.val from by show 256 + (r.val - 256) = r.val; omega]; rfl

theorem out5C : lat arg10 arg11 (k0_pay9 (k0_pay102 s4.1) (k0_pay109 s5.1)) X10 (arg11.view.writes (Elt Ideal) G11' s5.2.1) r p
    = latent (fun o => Y o.val r.val) γ p := by
  obtain ⟨d1, -, -, -, d5, d6⟩ := D
  unfold lat latent
  rw [d1, hγ, pay9_at]
  congr 2
  by_cases h : r.val < 256
  · rw [dif_pos h, p102, pay58_at, d5]; rfl
  · rw [dif_neg h, pay109_at, d6, show 256 + (⟨r.val - 256, by omega⟩ : Fin 256).val = r.val from by show 256 + (r.val - 256) = r.val; omega]; rfl
end

/-- The rotary result of the drained tile. -/
theorem out6 (Y : ℕ → ℕ → EReal) (f6 : BufTy.Contents (Elt Ideal) arg6.view.ty) (va vb : FVec Ideal S64x256 .bf16) (inb0 : ∀ a : Fin 2, (![0, 0] : Fin 2 → ℕ) a + (![64, 256] : Fin 2 → ℕ) a ≤ (![64, 512] : Fin 2 → ℕ) a)
    (inb1 : ∀ a : Fin 2, (![0, 256] : Fin 2 → ℕ) a + (![64, 256] : Fin 2 → ℕ) a ≤ (![64, 512] : Fin 2 → ℕ) a)
    (ha : ∀ (a : Fin 64) (b : Fin 256), va (ix2 a b) = Y (512 + a.val) b.val) (hb : ∀ (a : Fin 64) (b : Fin 256), vb (ix2 a b) = Y (512 + a.val) (256 + b.val)) (q : Fin 64) (r : Fin 512) :
    arg6.view.read (Elt Ideal) (arg6.view.writes (Elt Ideal) f6 [⟨Rect.unit (s := S64x512) ![0, 256] ![64, 256] inb1, vb⟩, ⟨Rect.unit (s := S64x512) ![0, 0] ![64, 256] inb0, va⟩]) (ix2 q r) = Y (512 + q.val) r.val := by
  by_cases h : r.val < 256
  · rw [read_w2_out arg6.view f6 inb1 _ _ rfl q r (.inr (.inl h)), read_w2_in arg6.view f6 inb0 _ _ rfl q r q ⟨r.val, h⟩ (by omega) (by show r.val = 0 + r.val; omega), ha]
  · rw [read_w2_in arg6.view f6 inb1 _ _ rfl q r q ⟨r.val - 256, by omega⟩ (by omega) (by show r.val = 256 + (r.val - 256); omega), hb]
    congr 1; show 256 + (r.val - 256) = r.val; omega

theorem pay64_at (v : Vec Ideal S64x256 .f32) (a : Fin 64) (b : Fin 256) : k0_pay64 (F := Ideal) v (ix2 a b) = v (ix2 a b) := by
  pointwise [k0_pay64]
theorem pay101_at (v : Vec Ideal S64x256 .f32) (a : Fin 64) (b : Fin 256) : k0_pay101 (F := Ideal) v (ix2 a b) = v (ix2 a b) := by
  pointwise [k0_pay101]
theorem pay108_at (v : Vec Ideal S64x256 .f32) (a : Fin 64) (b : Fin 256) : k0_pay108 (F := Ideal) v (ix2 a b) = v (ix2 a b) := by
  pointwise [k0_pay108]

section
variable (X1 : BufTy.Contents (Elt Ideal) arg1.view.ty) (F12 : BufTy.Contents (Elt Ideal) arg12.view.ty)

theorem low_half (x y : BitVec 16) : BitVec.extractLsb' (16 * 0) 16 (x ++ y) = y := by
  apply BitVec.eq_of_getLsbD_eq
  intro i hi
  rw [BitVec.getLsbD_extractLsb', BitVec.getLsbD_append, decide_eq_true hi, Bool.true_and, if_pos (by omega)]
  congr 1; omega

theorem high_half (x y : BitVec 16) : BitVec.extractLsb' (16 * 1) 16 (x ++ y) = x := by
  apply BitVec.eq_of_getLsbD_eq
  intro i hi
  rw [BitVec.getLsbD_extractLsb', BitVec.getLsbD_append, decide_eq_true hi, Bool.true_and, if_neg (by omega)]
  congr 1; omega

/-- One scale out of the words. -/
theorem out8_one (h12 : ∀ (R : Fin 256) (kb : Fin 56), arg12.view.read (Elt Ideal) F12 (ix2 R ⟨kb.val, by omega⟩) = word arg1 X1 R kb) {off : Fin 2 → ℕ} (inb : ∀ a : Fin 2, off a + (![64, 128] : Fin 2 → ℕ) a ≤ (![256, 128] : Fin 2 → ℕ) a) (d : ℕ) (hd : d < 4) (hoff : off = ![64 * d, 0]) (kb : Fin 56) (b : Fin 128) (r : Fin 512) (hr : r.val = 128 * d + b.val) :
    k0_pay87 (F := Ideal) (arg12.view.readAt (Elt Ideal) (Rect.unit (s := S256x128) off ![64, 128] inb).toLoadRect F12) (ix2 kb b) = Spec.sc (xrow arg1 X1 r) kb := by
  rw [pay87_at, readAt2 arg12.view F12 inb hoff _ _ ⟨r.val / 2, by omega⟩ ⟨kb.val, by omega⟩ (by show r.val / 2 = 64 * d + b.val / 2; omega) (by show kb.val = 0 + kb.val; omega), h12]
  unfold word
  rcases Nat.mod_two_eq_zero_or_one b.val with hb | hb
  · rw [hb]
    have e : (⟨2 * (⟨r.val / 2, by omega⟩ : Fin 256).val, by show 2 * (r.val / 2) < 512; omega⟩ : Fin 512) = r := Fin.ext (by show 2 * (r.val / 2) = r.val; omega)
    rw [e]
    rw [low_half, ofBits_sbits]
    rfl
  · rw [hb]
    have e : (⟨2 * (⟨r.val / 2, by omega⟩ : Fin 256).val + 1, by show 2 * (r.val / 2) + 1 < 512; omega⟩ : Fin 512) = r := Fin.ext (by show 2 * (r.val / 2) + 1 = r.val; omega)
    rw [e]
    rw [high_half, ofBits_sbits]
    rfl

/-- The scales of a step. -/
theorem out8 (h12 : ∀ (R : Fin 256) (kb : Fin 56), arg12.view.read (Elt Ideal) F12 (ix2 R ⟨kb.val, by omega⟩) = word arg1 X1 R kb) (f8 : BufTy.Contents (Elt Ideal) arg8.view.ty) (i0 : ∀ a : Fin 2, (![0, 0] : Fin 2 → ℕ) a + (![56, 128] : Fin 2 → ℕ) a ≤ (![56, 512] : Fin 2 → ℕ) a) (i1 : ∀ a : Fin 2, (![0, 128] : Fin 2 → ℕ) a + (![56, 128] : Fin 2 → ℕ) a ≤ (![56, 512] : Fin 2 → ℕ) a)
    (i2 : ∀ a : Fin 2, (![0, 256] : Fin 2 → ℕ) a + (![56, 128] : Fin 2 → ℕ) a ≤ (![56, 512] : Fin 2 → ℕ) a) (i3 : ∀ a : Fin 2, (![0, 384] : Fin 2 → ℕ) a + (![56, 128] : Fin 2 → ℕ) a ≤ (![56, 512] : Fin 2 → ℕ) a)
    (j0 : ∀ a : Fin 2, (![0, 0] : Fin 2 → ℕ) a + (![64, 128] : Fin 2 → ℕ) a ≤ (![256, 128] : Fin 2 → ℕ) a) (j1 : ∀ a : Fin 2, (![64, 0] : Fin 2 → ℕ) a + (![64, 128] : Fin 2 → ℕ) a ≤ (![256, 128] : Fin 2 → ℕ) a)
    (j2 : ∀ a : Fin 2, (![128, 0] : Fin 2 → ℕ) a + (![64, 128] : Fin 2 → ℕ) a ≤ (![256, 128] : Fin 2 → ℕ) a) (j3 : ∀ a : Fin 2, (![192, 0] : Fin 2 → ℕ) a + (![64, 128] : Fin 2 → ℕ) a ≤ (![256, 128] : Fin 2 → ℕ) a) (kb : Fin 56) (r : Fin 512) :
    arg8.view.read (Elt Ideal) (arg8.view.writes (Elt Ideal) f8
      [⟨Rect.unit (s := S56x512) ![0, 384] ![56, 128] i3, k0_pay8 (F := Ideal) (arg12.view.readAt (Elt Ideal) (Rect.unit (s := S256x128) ![192, 0] ![64, 128] j3).toLoadRect F12)⟩,
       ⟨Rect.unit (s := S56x512) ![0, 256] ![56, 128] i2, k0_pay7 (F := Ideal) (arg12.view.readAt (Elt Ideal) (Rect.unit (s := S256x128) ![128, 0] ![64, 128] j2).toLoadRect F12)⟩,
       ⟨Rect.unit (s := S56x512) ![0, 128] ![56, 128] i1, k0_pay88 (F := Ideal) (arg12.view.readAt (Elt Ideal) (Rect.unit (s := S256x128) ![64, 0] ![64, 128] j1).toLoadRect F12)⟩,
       ⟨Rect.unit (s := S56x512) ![0, 0] ![56, 128] i0, k0_pay87 (F := Ideal) (arg12.view.readAt (Elt Ideal) (Rect.unit (s := S256x128) ![0, 0] ![64, 128] j0).toLoadRect F12)⟩]) (ix2 kb r) = Spec.sc (xrow arg1 X1 r) kb := by
  rw [p7, p8, p88]
  have hr : r.val / 128 = 0 ∨ r.val / 128 = 1 ∨ r.val / 128 = 2 ∨ r.val / 128 = 3 := by have := r.isLt; omega
  have out : ∀ (off : Fin 2 → ℕ) (inb) (w) (L) (q : ℕ) (hoff : off = ![0, 128 * q]), r.val / 128 ≠ q →
      arg8.view.read (Elt Ideal) (arg8.view.writes (Elt Ideal) f8 (⟨Rect.unit (s := S56x512) off ![56, 128] inb, w⟩ :: L)) (ix2 kb r) = arg8.view.read (Elt Ideal) (arg8.view.writes (Elt Ideal) f8 L) (ix2 kb r) :=
    fun off inb w L q hoff hne => read_w2_out arg8.view f8 inb w L hoff kb r (by right; show r.val < 128 * q ∨ 128 * q + 128 ≤ r.val; omega)
  rcases hr with hr | hr | hr | hr
  · rw [out _ _ _ _ 3 rfl (by omega), out _ _ _ _ 2 rfl (by omega), out _ _ _ _ 1 rfl (by omega),
      read_w2_in arg8.view f8 _ _ _ rfl kb r kb ⟨r.val % 128, by omega⟩ (by omega) (by show r.val = 0 + r.val % 128; omega)]
    exact out8_one arg1 arg12 X1 F12 h12 _ 0 (by omega) rfl kb _ r (by show r.val = 0 + r.val % 128; omega)
  · rw [out _ _ _ _ 3 rfl (by omega), out _ _ _ _ 2 rfl (by omega),
      read_w2_in arg8.view f8 _ _ _ rfl kb r kb ⟨r.val % 128, by omega⟩ (by omega) (by show r.val = 128 + r.val % 128; omega)]
    exact out8_one arg1 arg12 X1 F12 h12 _ 1 (by omega) rfl kb _ r (by show r.val = 128 + r.val % 128; omega)
  · rw [out _ _ _ _ 3 rfl (by omega),
      read_w2_in arg8.view f8 _ _ _ rfl kb r kb ⟨r.val % 128, by omega⟩ (by omega) (by show r.val = 256 + r.val % 128; omega)]
    exact out8_one arg1 arg12 X1 F12 h12 _ 2 (by omega) rfl kb _ r (by show r.val = 256 + r.val % 128; omega)
  · rw [read_w2_in arg8.view f8 _ _ _ rfl kb r kb ⟨r.val % 128, by omega⟩ (by omega) (by show r.val = 384 + r.val % 128; omega)]
    exact out8_one arg1 arg12 X1 F12 h12 _ 3 (by omega) rfl kb _ r (by show r.val = 384 + r.val % 128; omega)
end

/-- What the first `n` tiles of a row come to against one output's weights. -/
def part (wr xr : Fin 7168 → EReal) (n : ℕ) : EReal :=
  ∑ kt ∈ Finset.range n, if h : kt < 28 then ∑ q : Fin 256, wr ⟨256 * kt + q.val, by omega⟩ * xq xr ⟨256 * kt + q.val, by omega⟩ else 0

section
variable (X1 : BufTy.Contents (Elt Ideal) arg1.view.ty) (X9 : BufTy.Contents (Elt Ideal) arg9.view.ty) (Wb : Fin 576 → Fin 7168 → EReal)

theorem tileN_eq (hw : ∀ (kb : Fin 56) (o : Fin 576) (l : Fin 128), arg9.view.read (Elt Ideal) X9 (ix3 kb o l) = Wb o ⟨128 * kb.val + l.val, by omega⟩) (kt : ℕ) (o : Fin 576) (r : Fin 512) :
    tileN arg1 arg9 X1 X9 kt o r = if h : kt < 28 then ∑ q : Fin 256, Wb o ⟨256 * kt + q.val, by omega⟩ * xq (xrow arg1 X1 r) ⟨256 * kt + q.val, by omega⟩ else 0 := by
  unfold tileN tileD
  by_cases h : kt < 28
  · rw [dif_pos h, dif_pos h]
    refine Finset.sum_congr rfl fun q _ => ?_
    rw [hw]
    congr 2
    exact Fin.ext (by show 128 * (2 * kt + q.val / 128) + q.val % 128 = 256 * kt + q.val; omega)
  · rw [dif_neg h, dif_neg h]

theorem dotT_eq (hw : ∀ (kb : Fin 56) (o : Fin 576) (l : Fin 128), arg9.view.read (Elt Ideal) X9 (ix3 kb o l) = Wb o ⟨128 * kb.val + l.val, by omega⟩) (X13 : BufTy.Contents (Elt Ideal) arg13.view.ty) (xr : Fin 7168 → EReal) (kt : Fin 28) (s : Fin 2) (o : Fin 576) (r : Fin 512)
    (h : ∀ q : Fin 256, arg13.view.read (Elt Ideal) X13 (ix3 s r q) = xq xr ⟨256 * kt.val + q.val, by omega⟩) :
    part (Wb o) xr kt.val + dotT arg9 arg13 X9 X13 kt s o r = part (Wb o) xr (kt.val + 1) := by
  unfold part dotT
  rw [Finset.sum_range_succ, dif_pos kt.isLt]
  congr 1
  refine Finset.sum_congr rfl fun q _ => ?_
  rw [h, hw]
  congr 2
  exact Fin.ext (by show 128 * (2 * kt.val + q.val / 128) + q.val % 128 = 256 * kt.val + q.val; omega)
end

theorem part_28 (wr xr : Fin 7168 → EReal) : part wr xr 28 = Spec.y xr wr := by
  unfold Spec.y part
  refine Eq.trans ?_ (sum_split (m := 28) (n := 256) (fun j : Fin 7168 => xq xr j * wr j)).symm
  rw [Finset.sum_range]
  refine Finset.sum_congr rfl fun kt _ => ?_
  rw [dif_pos kt.isLt]
  refine Finset.sum_congr rfl fun q _ => ?_
  rw [mul_comm]
  have e : (⟨q.val + 256 * kt.val, by omega⟩ : Fin 7168) = ⟨256 * kt.val + q.val, by omega⟩ := Fin.ext (Nat.add_comm _ _)
  rw [e]

section
variable (v0 : IVec S8x128 32) (h2 : k0_cond2 i = 1#1)
  (X1 : BufTy.Contents (Elt Ideal) arg1.view.ty) (X9 : BufTy.Contents (Elt Ideal) arg9.view.ty)
  (v23 : FVec Ideal S1x256 .f32) (v26 : FVec Ideal S8x256 .f32) (v32 : FVec Ideal S64x256 .bf16) (U13 : BufTy.Contents (Elt Ideal) arg13.view.ty)
  (Z F14 : BufTy.Contents (Elt Ideal) arg14.view.ty) (hZ : ∀ (o : Fin 576) (r : Fin 512), arg14.view.read (Elt Ideal) Z (ix2 o r) = 0)
  (Wb : Fin 576 → Fin 7168 → EReal)
include hZ

/-- The tile left in the second slot, and the sums over all tiles before it. -/
theorem mid
  (hw : ∀ (kb : Fin 56) (o : Fin 576) (l : Fin 128), arg9.view.read (Elt Ideal) X9 (ix3 kb o l) = Wb o ⟨128 * kb.val + l.val, by omega⟩)
  (hF : F14 = arg14.view.writes (Elt Ideal) Z (pb_k0_t6 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X9 (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) Z 9)) :
    (∀ (r : Fin 512) (q : Fin 256), arg13.view.read (Elt Ideal) (kst (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9
      (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) 32) F14 26).1 (ix3 1 r q)
      = xq (xrow arg1 X1 r) ⟨256 * 27 + q.val, by omega⟩)
    ∧ (∀ (o : Fin 576) (r : Fin 512), arg14.view.read (Elt Ideal) (kst (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9
      (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) 32) F14 26).2 (ix2 o r)
      = part (Wb o) (xrow arg1 X1 r) 27) := by
  have h0 : ∀ (r : Fin 512) (q : Fin 256), arg13.view.read (Elt Ideal) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) (ix3 0 r q)
      = xq (xrow arg1 X1 r) ⟨256 * 0 + q.val, by omega⟩ := fun r q => by rw [lp3_13, if_pos rfl]
  obtain ⟨k1, k2⟩ := kst_inv c i arg1 harg1 arg2 harg2 arg3 harg3 arg4 harg4 arg5 harg5 arg6 harg6 arg7 harg7 arg8 harg8 arg9 harg9 arg10 harg10 arg11 harg11 arg12 harg12 arg13 harg13 arg14 harg14 v0 h2 X1 X9 v23 v26 v32
    (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) 32) F14
    (fun s r q => by
      rw [lp7_13]
      rcases (by have := s.isLt; omega : s.val = 0 ∨ s.val = 1) with hs | hs
      · obtain rfl : s = 0 := Fin.ext hs
        rw [if_neg (by decide), h0]; rfl
      · obtain rfl : s = 1 := Fin.ext hs
        rw [if_pos rfl]; rfl)
    (fun o r => by
      rw [hF, acc6, hZ, zero_add, dotT_tile arg1 arg9 arg13 X1 X9 _ 0 0 o r (h0 r)]; rfl) 26 le_rfl
  refine ⟨fun r q => k1 27 1 r q rfl (.inr rfl), fun o r => ?_⟩
  rw [k2]
  unfold part
  exact Finset.sum_congr rfl fun kt _ => tileN_eq arg1 arg9 X1 X9 Wb hw kt o r
end
-- ==== Proof.Step.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Out

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-! A grid step that drains the tile before and takes in its own, over whatever the buffers hold at its start. -/

section
variable (v0 : IVec S8x128 32) (h2 : k0_cond2 i = 1#1)
  (X1 : BufTy.Contents (Elt Ideal) arg1.view.ty) (X9 : BufTy.Contents (Elt Ideal) arg9.view.ty) (X10 : BufTy.Contents (Elt Ideal) arg10.view.ty)
  (U5 : BufTy.Contents (Elt Ideal) arg5.view.ty) (U6 : BufTy.Contents (Elt Ideal) arg6.view.ty)
  (U11 : BufTy.Contents (Elt Ideal) arg11.view.ty) (U13 : BufTy.Contents (Elt Ideal) arg13.view.ty) (U14 : BufTy.Contents (Elt Ideal) arg14.view.ty)
  (P : List (View.Piece (Elt Ideal) S576x512 .f32))

/-- What draining the first half of the tokens leaves. -/
abbrev d4 := st_k0_t4 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 U11 (arg14.view.writes (Elt Ideal) U14 P) k0_pay52 8

/-- The accumulators' pieces once the first half is drained. -/
abbrev dQ : List (View.Piece (Elt Ideal) S576x512 .f32) :=
  ⟨Rect.unit (s := S576x512) ![512, 0] ![64, 256] inb_S576x512_S64x256_512_0, k0_pay56 (F := Ideal)⟩ :: ((d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.2 ++ P)

/-- What draining the second half leaves. -/
abbrev d5 := st_k0_t5 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 (arg11.view.writes (Elt Ideal) U11 (d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.1)
  (arg14.view.writes (Elt Ideal) U14 (dQ c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) k0_pay59 8

/-- The accumulators' pieces once both halves are drained. -/
abbrev dL : List (View.Piece (Elt Ideal) S576x512 .f32) :=
  ⟨Rect.unit (s := S576x512) ![512, 256] ![64, 256] inb_S576x512_S64x256_512_256, k0_pay63 (F := Ideal)⟩ :: ((d5 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.2 ++ dQ c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)

section
variable (Y : ℕ → ℕ → EReal) (hY : ∀ (o : Fin 576) (r : Fin 512), arg14.view.read (Elt Ideal) (arg14.view.writes (Elt Ideal) U14 P) (ix2 o r) = Y o.val r.val)
include hY

theorem abD : Drained arg11 arg14 (arg14.view.writes (Elt Ideal) U14 P) (arg14.view.writes (Elt Ideal) U14 (dQ c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) (arg11.view.writes (Elt Ideal) U11 (d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.1)
    (d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P) (d5 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P) inb_S576x512_S64x256_512_0 inb_S576x512_S64x256_512_256 Y :=
  drain45 c i arg1 harg1 arg2 harg2 arg3 harg3 arg4 harg4 arg5 harg5 arg6 harg6 arg7 harg7 arg8 harg8 arg9 harg9 arg10 harg10 arg11 harg11 arg12 harg12 arg13 harg13 arg14 harg14 U11 _ _ _ _ _ Y hY v0 h2 rfl (View.writes_append (L := _ :: _) (L' := P) ..)

theorem ab5 (v32 : FVec Ideal S64x256 .bf16) (γ : Fin 512 → EReal) (hγ : ∀ (p : Fin 512) (l : Fin 128), arg10.view.read (Elt Ideal) X10 (ix2 p l) = γ p) (r p : Fin 512) :
    arg5.view.read (Elt Ideal) (arg5.view.writes (Elt Ideal) U5 (pb_k0_t8 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 (k0_pay58 (d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).1) (d5 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).1 v32 X10
      (arg11.view.writes (Elt Ideal) U11 ((d5 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.1 ++ (d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.1)) 4)) (ix2 r p) = latent (fun o => Y o.val r.val) γ p := by
  rw [View.writes_append]
  exact (lat8 ..).trans (out5 arg10 arg11 arg14 Y (abD c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P Y hY) X10 γ hγ r p)

theorem ab6 (q : Fin 64) (r : Fin 512) :
    arg6.view.read (Elt Ideal) (arg6.view.writes (Elt Ideal) U6
      [⟨Rect.unit (s := S64x512) ![0, 256] ![64, 256] inb_S64x512_S64x256_0_256, k0_pay64 (F := Ideal) (arg14.view.readAt (Elt Ideal) (Rect.unit (s := S576x512) ![512, 256] ![64, 256] inb_S576x512_S64x256_512_256).toLoadRect (arg14.view.writes (Elt Ideal) U14 ((d5 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.2 ++ dQ c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)))⟩,
       ⟨Rect.unit (s := S64x512) ![0, 0] ![64, 256] inb_S64x512_S64x256_0_0, k0_pay57 (F := Ideal) (arg14.view.readAt (Elt Ideal) (Rect.unit (s := S576x512) ![512, 0] ![64, 256] inb_S576x512_S64x256_512_0).toLoadRect (arg14.view.writes (Elt Ideal) U14 ((d4 c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P).2.2 ++ P)))⟩])
      (ix2 q r) = Y (512 + q.val) r.val := by
  obtain ⟨-, -, d3, d4', -, -⟩ := abD c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P Y hY
  refine out6 arg6 Y U6 _ _ _ _ (fun a b => ?_) (fun a b => ?_) q r
  · rw [pay57_at, View.writes_append]; exact d3 a b
  · rw [pay64_at, View.writes_append]; exact d4' a b

theorem abZ (o : Fin 576) (r : Fin 512) : arg14.view.read (Elt Ideal) (arg14.view.writes (Elt Ideal) U14 (dL c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) (ix2 o r) = 0 := by
  obtain ⟨-, d2, -, -, -, -⟩ := abD c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P Y hY
  refine Eq.trans ?_ (d2 o r)
  rw [← View.writes_append]
  rfl

/-- What the step leaves for the next. -/
theorem abmid (v23 : FVec Ideal S1x256 .f32) (v26 : FVec Ideal S8x256 .f32) (v32 : FVec Ideal S64x256 .bf16) (Wb : Fin 576 → Fin 7168 → EReal)
  (hw : ∀ (kb : Fin 56) (o : Fin 576) (l : Fin 128), arg9.view.read (Elt Ideal) X9 (ix3 kb o l) = Wb o ⟨128 * kb.val + l.val, by omega⟩) :
    (∀ (r : Fin 512) (q : Fin 256), arg13.view.read (Elt Ideal) (kst (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9
      (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) 32)
        (arg14.view.writes (Elt Ideal) U14 (pb_k0_t6 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X9 (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) (arg14.view.writes (Elt Ideal) U14 (dL c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) 9 ++ dL c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) 26).1 (ix3 1 r q)
      = xq (xrow arg1 X1 r) ⟨256 * 27 + q.val, by omega⟩)
    ∧ (∀ (o : Fin 576) (r : Fin 512), arg14.view.read (Elt Ideal) (kst (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 X9
      (iterN (fun k => (qtrip7 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X1 k).1.2.2) (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) 32)
        (arg14.view.writes (Elt Ideal) U14 (pb_k0_t6 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 v23 v26 v32 X9 (iterN (fun k => (qtrip3 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 X1 k).1.2.2) U13 32) (arg14.view.writes (Elt Ideal) U14 (dL c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) 9 ++ dL c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P)) 26).2 (ix2 o r)
      = part (Wb o) (xrow arg1 X1 r) 27) :=
  mid c i arg1 harg1 arg2 harg2 arg3 harg3 arg4 harg4 arg5 harg5 arg6 harg6 arg7 harg7 arg8 harg8 arg9 harg9 arg10 harg10 arg11 harg11 arg12 harg12 arg13 harg13 arg14 harg14 v0 h2 X1 X9 v23 v26 v32 U13 _ _ (abZ c i arg1 harg1 arg2 harg2 arg3 harg3 arg4 harg4 arg5 harg5 arg6 harg6 arg7 harg7 arg8 harg8 arg9 harg9 arg10 harg10 arg11 harg11 arg12 harg12 arg13 harg13 arg14 harg14 v0 h2 U11 U14 P Y hY) Wb hw (View.writes_append ..)
end
end

/-- A row of a block. -/
abbrev row (x1 : Vec Ideal S512x7168 .bf16) (r : Fin 512) : Fin 7168 → EReal := fun j => x1 (ix2 r j)

theorem xrow_unread (x1 : Vec Ideal S512x7168 .bf16) (r : Fin 512) : xrow arg1 (harg1.unread x1) r = row x1 r := by
  funext j
  show arg1.view.read (Elt Ideal) (harg1.unread x1) (ix2 r j) = x1 (ix2 r j)
  rw [harg1.read_unread]

/-- What the scratch carries from step to step: the scaled weights, gamma, and of the tile `xp` of tokens the last tile of
    columns and the sums over all the others. -/
structure Carry (Wb : Fin 576 → Fin 7168 → EReal) (γ : Fin 512 → EReal) (xp : Fin 512 → Fin 7168 → EReal) (s : Sc Ideal) : Prop where
  w : ∀ (kb : Fin 56) (o : Fin 576) (l : Fin 128), s.x9 (ix3 kb o l) = Wb o ⟨128 * kb.val + l.val, by omega⟩
  g : ∀ (p : Fin 512) (l : Fin 128), s.x10 (ix2 p l) = γ p
  last : ∀ (r : Fin 512) (q : Fin 256), s.x13 (ix3 1 r q) = xq (xp r) ⟨256 * 27 + q.val, by omega⟩
  sum : ∀ (o : Fin 576) (r : Fin 512), s.x14 (ix2 o r) = part (Wb o) (xp r) 27

theorem iota_at (a : Fin 8) (b : Fin 128) : (iota Kind.tc S8x128 32 [1] iota_S8x128_d1_w32 : IVec S8x128 32) (ix2 a b) = BitVec.ofNat 32 b.val := by
  pointwise []
-- ==== Proof.RunB.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Step

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-! The three kinds of grid step: what each leaves in the result blocks, and what it carries on. -/

/-- The accumulators once the last tile is added, as a table over the naturals. -/
def tab (Wb : Fin 576 → Fin 7168 → EReal) (xp : Fin 512 → Fin 7168 → EReal) (o r : ℕ) : EReal :=
  if h : o < 576 ∧ r < 512 then Spec.y (xp ⟨r, h.2⟩) (Wb ⟨o, h.1⟩) else 0

theorem tab_at (Wb : Fin 576 → Fin 7168 → EReal) (xp : Fin 512 → Fin 7168 → EReal) (o : Fin 576) (r : Fin 512) :
    tab Wb xp o.val r.val = Spec.y (xp r) (Wb o) := dif_pos ⟨o.isLt, r.isLt⟩

section
variable (s : St Ideal) (Wb : Fin 576 → Fin 7168 → EReal) (γ : Fin 512 → EReal) (xp : Fin 512 → Fin 7168 → EReal)

theorem w_unread (hw : ∀ (kb : Fin 56) (o : Fin 576) (l : Fin 128), s.x9 (ix3 kb o l) = Wb o ⟨128 * kb.val + l.val, by omega⟩) (kb : Fin 56) (o : Fin 576) (l : Fin 128) :
    arg9.view.read (Elt Ideal) (harg9.unread s.x9) (ix3 kb o l) = Wb o ⟨128 * kb.val + l.val, by omega⟩ := by
  rw [harg9.read_unread]; exact hw kb o l

theorem g_unread (hg : ∀ (p : Fin 512) (l : Fin 128), s.x10 (ix2 p l) = γ p) (p : Fin 512) (l : Fin 128) :
    arg10.view.read (Elt Ideal) (harg10.unread s.x10) (ix2 p l) = γ p := by
  rw [harg10.read_unread]; exact hg p l

/-- The last tile added to the sums of the others. -/
theorem acc_tab (C : Carry Wb γ xp s.sc) (v0 : IVec S8x128 32) (h2 : k0_cond2 i = 1#1) (o : Fin 576) (r : Fin 512) :
    arg14.view.read (Elt Ideal) (arg14.view.writes (Elt Ideal) (harg14.unread s.x14) (pb_k0_t2 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v0 h2 (harg9.unread s.x9) (harg13.unread s.x13) (harg14.unread s.x14) 9)) (ix2 o r)
      = tab Wb xp o.val r.val := by
  rw [acc2, tab_at, ← part_28, harg14.read_unread]
  rw [show s.x14 (ix2 o r) = part (Wb o) (xp r) 27 from C.sum o r]
  exact dotT_eq arg9 arg13 _ Wb (w_unread arg9 harg9 s Wb C.w) _ (xp r) 27 1 o r (fun q => by
    rw [harg13.read_unread]; exact C.last r q)

theorem acc_tab3 (C : Carry Wb γ xp s.sc) (h3 : k0_cond3 i = 1#1) (o : Fin 576) (r : Fin 512) :
    arg14.view.read (Elt Ideal) (arg14.view.writes (Elt Ideal) (harg14.unread s.x14) (pb_k0_t12 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 (harg9.unread s.x9) (harg13.unread s.x13) (harg14.unread s.x14) 9)) (ix2 o r)
      = tab Wb xp o.val r.val := by
  rw [acc12, tab_at, ← part_28, harg14.read_unread]
  rw [show s.x14 (ix2 o r) = part (Wb o) (xp r) 27 from C.sum o r]
  exact dotT_eq arg9 arg13 _ Wb (w_unread arg9 harg9 s Wb C.w) _ (xp r) 27 1 o r (fun q => by
    rw [harg13.read_unread]; exact C.last r q)

section
variable (h1 : ¬ k0_cond1 i = 1#1) (h2 : k0_cond2 i = 1#1) (h3 : ¬ k0_cond3 i = 1#1) (C : Carry Wb γ xp s.sc)
include C

theorem B_x5 (r p : Fin 512) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x5 (ix2 r p) = latent (fun o => Spec.y (xp r) (Wb ⟨o.val, by omega⟩)) γ p := by
  unfold runB; dsimp only
  refine (ab5 (Y := tab Wb xp) (hY := fun o r => acc_tab (C := C) ..) (γ := γ) (hγ := g_unread arg10 harg10 s γ C.g) ..).trans ?_
  congr 1
  exact funext fun o => tab_at Wb xp ⟨o.val, by omega⟩ r

theorem B_x6 (q : Fin 64) (r : Fin 512) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x6 (ix2 q r) = Spec.y (xp r) (Wb ⟨512 + q.val, by omega⟩) := by
  unfold runB; dsimp only
  exact (ab6 (Y := tab Wb xp) (hY := fun o r => acc_tab (C := C) ..) ..).trans (tab_at Wb xp ⟨512 + q.val, by omega⟩ r)

omit C in
theorem B_x7 (r : Fin 512) (j : Fin 7168) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x7 (ix2 r j) = code (row s.x1 r) j := by
  unfold runB; dsimp only
  exact (codes_all (hv0 := iota_at) ..).trans (by rw [xrow_unread])

omit C in
theorem B_x8 (kb : Fin 56) (r : Fin 512) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x8 (ix2 kb r) = Spec.sc (row s.x1 r) kb := by
  unfold runB; dsimp only
  exact (out8 (X1 := harg1.unread s.x1) (h12 := fun R kb => words_all (hv0 := iota_at) ..) ..).trans (by rw [xrow_unread])

theorem B_carry : Carry Wb γ (row s.x1) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.sc := by
  constructor
  · intro kb o l
    unfold runB; dsimp only [St.sc]
    exact C.w kb o l
  · intro p l
    unfold runB; dsimp only [St.sc]
    exact C.g p l
  · intro r q
    unfold runB; dsimp only [St.sc]
    exact ((abmid (Y := tab Wb xp) (hY := fun o r => acc_tab (C := C) ..) (Wb := Wb) (hw := w_unread arg9 harg9 s Wb C.w) ..).1 r q).trans (by rw [xrow_unread])
  · intro o r
    unfold runB; dsimp only [St.sc]
    exact ((abmid (Y := tab Wb xp) (hY := fun o r => acc_tab (C := C) ..) (Wb := Wb) (hw := w_unread arg9 harg9 s Wb C.w) ..).2 o r).trans (by rw [xrow_unread])
end
end
-- ==== Proof.RunAC.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.RunB

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-! The first and the last grid step. -/

section
variable (s : St Ideal) (Wb : Fin 576 → Fin 7168 → EReal) (γ : Fin 512 → EReal) (xp : Fin 512 → Fin 7168 → EReal)

section
variable (h1 : ¬ k0_cond1 i = 1#1) (h2 : ¬ k0_cond2 i = 1#1) (h3 : k0_cond3 i = 1#1)

theorem C_x7 : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x7 = s.x7 := by
  unfold runC; rfl
theorem C_x8 : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x8 = s.x8 := by
  unfold runC; rfl

/-- The accumulators' pieces of the last tile's product. -/
abbrev fP := pb_k0_t12 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 (harg9.unread s.x9) (harg13.unread s.x13) (harg14.unread s.x14) 9

/-- What draining its first half leaves. -/
abbrev f4 := st_k0_t13 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 (harg11.unread s.x11) (arg14.view.writes (Elt Ideal) (harg14.unread s.x14) (fP c i arg1 harg1 arg2 harg2 arg3 harg3 arg4 harg4 arg5 harg5 arg6 harg6 arg7 harg7 arg8 harg8 arg9 harg9 arg10 harg10 arg11 harg11 arg12 harg12 arg13 harg13 arg14 harg14 s h3)) k0_pay96 8

/-- The accumulators' pieces then. -/
abbrev fQ : List (View.Piece (Elt Ideal) S576x512 .f32) :=
  ⟨Rect.unit (s := S576x512) ![512, 0] ![64, 256] inb_S576x512_S64x256_512_0, k0_pay100 (F := Ideal)⟩ :: ((f4 c i arg1 harg1 arg2 harg2 arg3 harg3 arg4 harg4 arg5 harg5 arg6 harg6 arg7 harg7 arg8 harg8 arg9 harg9 arg10 harg10 arg11 harg11 arg12 harg12 arg13 harg13 arg14 harg14 s h3).2.2 ++ fP c i arg1 harg1 arg2 harg2 arg3 harg3 arg4 harg4 arg5 harg5 arg6 harg6 arg7 harg7 arg8 harg8 arg9 harg9 arg10 harg10 arg11 harg11 arg12 harg12 arg13 harg13 arg14 harg14 s h3)

/-- What draining its second half leaves. -/
abbrev f5 := st_k0_t14 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h3 (arg11.view.writes (Elt Ideal) (harg11.unread s.x11) (f4 c i arg1 harg1 arg2 harg2 arg3 harg3 arg4 harg4 arg5 harg5 arg6 harg6 arg7 harg7 arg8 harg8 arg9 harg9 arg10 harg10 arg11 harg11 arg12 harg12 arg13 harg13 arg14 harg14 s h3).2.1)
  (arg14.view.writes (Elt Ideal) (harg14.unread s.x14) (fQ c i arg1 harg1 arg2 harg2 arg3 harg3 arg4 harg4 arg5 harg5 arg6 harg6 arg7 harg7 arg8 harg8 arg9 harg9 arg10 harg10 arg11 harg11 arg12 harg12 arg13 harg13 arg14 harg14 s h3)) k0_pay103 8

variable (C : Carry Wb γ xp s.sc)
include C

/-- The drained tile of the last step. -/
theorem C_D : Drained arg11 arg14 (arg14.view.writes (Elt Ideal) (harg14.unread s.x14) (fP c i arg1 harg1 arg2 harg2 arg3 harg3 arg4 harg4 arg5 harg5 arg6 harg6 arg7 harg7 arg8 harg8 arg9 harg9 arg10 harg10 arg11 harg11 arg12 harg12 arg13 harg13 arg14 harg14 s h3)) (arg14.view.writes (Elt Ideal) (harg14.unread s.x14) (fQ c i arg1 harg1 arg2 harg2 arg3 harg3 arg4 harg4 arg5 harg5 arg6 harg6 arg7 harg7 arg8 harg8 arg9 harg9 arg10 harg10 arg11 harg11 arg12 harg12 arg13 harg13 arg14 harg14 s h3))
    (arg11.view.writes (Elt Ideal) (harg11.unread s.x11) (f4 c i arg1 harg1 arg2 harg2 arg3 harg3 arg4 harg4 arg5 harg5 arg6 harg6 arg7 harg7 arg8 harg8 arg9 harg9 arg10 harg10 arg11 harg11 arg12 harg12 arg13 harg13 arg14 harg14 s h3).2.1) (f4 c i arg1 harg1 arg2 harg2 arg3 harg3 arg4 harg4 arg5 harg5 arg6 harg6 arg7 harg7 arg8 harg8 arg9 harg9 arg10 harg10 arg11 harg11 arg12 harg12 arg13 harg13 arg14 harg14 s h3) (f5 c i arg1 harg1 arg2 harg2 arg3 harg3 arg4 harg4 arg5 harg5 arg6 harg6 arg7 harg7 arg8 harg8 arg9 harg9 arg10 harg10 arg11 harg11 arg12 harg12 arg13 harg13 arg14 harg14 s h3) inb_S576x512_S64x256_512_0 inb_S576x512_S64x256_512_256 (tab Wb xp) :=
  drain1314 c i arg1 harg1 arg2 harg2 arg3 harg3 arg4 harg4 arg5 harg5 arg6 harg6 arg7 harg7 arg8 harg8 arg9 harg9 arg10 harg10 arg11 harg11 arg12 harg12 arg13 harg13 arg14 harg14 (harg11.unread s.x11) _ _ _ _ _ (tab Wb xp) (fun o r => acc_tab3 (C := C) ..) h3 rfl (View.writes_append (L := _ :: _) (L' := fP c i arg1 harg1 arg2 harg2 arg3 harg3 arg4 harg4 arg5 harg5 arg6 harg6 arg7 harg7 arg8 harg8 arg9 harg9 arg10 harg10 arg11 harg11 arg12 harg12 arg13 harg13 arg14 harg14 s h3) ..)

theorem C_x5 (r p : Fin 512) : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x5 (ix2 r p) = latent (fun o => Spec.y (xp r) (Wb ⟨o.val, by omega⟩)) γ p := by
  unfold runC; dsimp only
  refine Eq.trans ?_ ((out5C arg10 arg11 arg14 (tab Wb xp) (C_D c i arg1 harg1 arg2 harg2 arg3 harg3 arg4 harg4 arg5 harg5 arg6 harg6 arg7 harg7 arg8 harg8 arg9 harg9 arg10 harg10 arg11 harg11 arg12 harg12 arg13 harg13 arg14 harg14 s Wb γ xp h3 C) (harg10.unread s.x10) γ (g_unread arg10 harg10 s γ C.g) r p).trans ?_)
  · rw [← View.writes_append]
    exact lat15 ..
  · congr 1
    exact funext fun o => tab_at Wb xp ⟨o.val, by omega⟩ r

theorem C_x6 (q : Fin 64) (r : Fin 512) : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x6 (ix2 q r) = Spec.y (xp r) (Wb ⟨512 + q.val, by omega⟩) := by
  obtain ⟨-, -, d3, d4', -, -⟩ := C_D c i arg1 harg1 arg2 harg2 arg3 harg3 arg4 harg4 arg5 harg5 arg6 harg6 arg7 harg7 arg8 harg8 arg9 harg9 arg10 harg10 arg11 harg11 arg12 harg12 arg13 harg13 arg14 harg14 s Wb γ xp h3 C
  unfold runC; dsimp only
  refine (out6 arg6 (tab Wb xp) _ _ _ _ _ (fun a b => ?_) (fun a b => ?_) q r).trans (tab_at Wb xp ⟨512 + q.val, by omega⟩ r)
  · refine (pay101_at _ a b).trans ?_
    rw [← View.writes_append] at d3
    exact d3 a b
  · refine (pay108_at _ a b).trans ?_
    rw [← View.writes_append] at d4'
    exact d4' a b
end

section
variable (h1 : k0_cond1 i = 1#1) (h2 : k0_cond2 i = 1#1) (h3 : ¬ k0_cond3 i = 1#1)

theorem A_x7 (r : Fin 512) (j : Fin 7168) : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x7 (ix2 r j) = code (row s.x1 r) j := by
  unfold runA; dsimp only
  exact (codes_all (hv0 := iota_at) ..).trans (by rw [xrow_unread])

theorem A_x8 (kb : Fin 56) (r : Fin 512) : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.x8 (ix2 kb r) = Spec.sc (row s.x1 r) kb := by
  unfold runA; dsimp only
  exact (out8 (X1 := harg1.unread s.x1) (h12 := fun R kb => words_all (hv0 := iota_at) ..) ..).trans (by rw [xrow_unread])

/-- The weights as the first step scales them. -/
abbrev wbOf (x2 : Vec Ideal S576x7168 .fp8e4m3) (x3 : Vec Ideal S5x56 .f32) : Fin 576 → Fin 7168 → EReal :=
  wb (fun o j => x2 (ix2 o j)) (fun g k => x3 (ix2 g k))

theorem A_w (kb : Fin 56) (o : Fin 576) (l : Fin 128) :
    arg9.view.read (Elt Ideal) (arg9.view.writes (Elt Ideal) (harg9.unread s.x9) (pb_k0_t1 (F := Ideal) 𝒱₀ c none i arg1 harg1 arg2 harg2 arg3 harg3 arg4 harg4 arg5 harg5 arg6 harg6 arg7 harg7 arg8 harg8 arg9 harg9 arg10 harg10 arg11 harg11 arg12 harg12 arg13 harg13 arg14 harg14 h1 (harg2.unread s.x2) (harg3.unread s.x3) 56)) (ix3 kb o l)
      = wbOf s.x2 s.x3 o ⟨128 * kb.val + l.val, by omega⟩ := by
  rw [wb_loop, harg2.read_unread, harg3.read_unread]
  have e : kbOf ⟨128 * kb.val + l.val, by omega⟩ = kb := Fin.ext (by show (128 * kb.val + l.val) / 128 = kb.val; omega)
  show _ = s.x2 (ix2 o _) * s.x3 (ix2 _ (kbOf _))
  rw [e]

/-- A block's entries by two numbers. -/
def gridOf (f : Vec Ideal S576x512 .f32) (o r : ℕ) : EReal := if h : o < 576 ∧ r < 512 then f (ix2 ⟨o, h.1⟩ ⟨r, h.2⟩) else 0

theorem grid_at (f : Vec Ideal S576x512 .f32) (o : Fin 576) (r : Fin 512) : f (ix2 o r) = gridOf f o.val r.val := by
  unfold gridOf; rw [dif_pos ⟨o.isLt, r.isLt⟩]

theorem A_carry : Carry (wbOf s.x2 s.x3) (fun p => s.x4 (ix2 0 p)) (row s.x1) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 s).1.sc := by
  constructor
  · intro kb o l
    unfold runA; dsimp only [St.sc]
    exact A_w c i arg1 harg1 arg2 harg2 arg3 harg3 arg4 harg4 arg5 harg5 arg6 harg6 arg7 harg7 arg8 harg8 arg9 harg9 arg10 harg10 arg11 harg11 arg12 harg12 arg13 harg13 arg14 harg14 s h1 kb o l
  · intro p l
    unfold runA; dsimp only [St.sc]
    refine (read_w2_in arg10.view _ _ _ _ rfl p l p l (by omega) (by omega)).trans ?_
    rw [pay3_at, readAt2 arg4.view _ _ rfl 0 p 0 p rfl (by show p.val = 0 + p.val; omega), harg4.read_unread]
  · intro r q
    unfold runA; dsimp only [St.sc]
    exact ((abmid (hY := fun o r => grid_at ..) (Wb := wbOf s.x2 s.x3) (hw := A_w c i arg1 harg1 arg2 harg2 arg3 harg3 arg4 harg4 arg5 harg5 arg6 harg6 arg7 harg7 arg8 harg8 arg9 harg9 arg10 harg10 arg11 harg11 arg12 harg12 arg13 harg13 arg14 harg14 s h1) ..).1 r q).trans (by rw [xrow_unread])
  · intro o r
    unfold runA; dsimp only [St.sc]
    exact ((abmid (hY := fun o r => grid_at ..) (Wb := wbOf s.x2 s.x3) (hw := A_w c i arg1 harg1 arg2 harg2 arg3 harg3 arg4 harg4 arg5 harg5 arg6 harg6 arg7 harg7 arg8 harg8 arg9 harg9 arg10 harg10 arg11 harg11 arg12 harg12 arg13 harg13 arg14 harg14 s h1) ..).2 o r).trans (by rw [xrow_unread])
end
end
-- ==== Proof.Blocks.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.RunAC

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

theorem idx0 : ∀ t : Fin cfg0.N, win0_0.index t 0 = min t.val 31 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val - 1 ∧ win0_4.index t 1 = 0 := by decide +kernel
theorem idx5 : ∀ t : Fin cfg0.N, win0_5.index t 0 = 0 ∧ win0_5.index t 1 = t.val - 1 := by decide +kernel
theorem idx6 : ∀ t : Fin cfg0.N, win0_6.index t 0 = min t.val 31 ∧ win0_6.index t 1 = 0 := by decide +kernel
theorem idx7 : ∀ t : Fin cfg0.N, win0_7.index t 0 = 0 ∧ win0_7.index t 1 = min t.val 31 := by decide +kernel
theorem flush4 : ∀ t : Fin cfg0.N, (cfg0.win 4).flush t = true ↔ 1 ≤ t.val := by decide +kernel
theorem flush5 : ∀ t : Fin cfg0.N, (cfg0.win 5).flush t = true ↔ 1 ≤ t.val := by decide +kernel
theorem flush6 : ∀ t : Fin cfg0.N, (cfg0.win 6).flush t = true ↔ t.val ≠ 31 := by decide +kernel
theorem flush7 : ∀ t : Fin cfg0.N, (cfg0.win 7).flush t = true ↔ t.val ≠ 31 := by decide +kernel
theorem conds : ∀ t : Fin cfg0.N, (k0_cond1 (grid0.coords t) = 1#1 ↔ t.val = 0) ∧ (k0_cond2 (grid0.coords t) = 1#1 ↔ t.val ≠ 32) ∧ (k0_cond3 (grid0.coords t) = 1#1 ↔ t.val = 32) := by decide +kernel
theorem xsize4 : ∀ t : Fin cfg0.N, win0_4.xsize (grid0.coords t) 0 = 512 ∧ win0_4.xsize (grid0.coords t) 1 = 512 := by decide +kernel
theorem xsize5 : ∀ t : Fin cfg0.N, win0_5.xsize (grid0.coords t) 0 = 64 ∧ win0_5.xsize (grid0.coords t) 1 = 512 := by decide +kernel
theorem xsize6 : ∀ t : Fin cfg0.N, win0_6.xsize (grid0.coords t) 0 = 512 ∧ win0_6.xsize (grid0.coords t) 1 = 7168 := by decide +kernel
theorem xsize7 : ∀ t : Fin cfg0.N, win0_7.xsize (grid0.coords t) 0 = 56 ∧ win0_7.xsize (grid0.coords t) 1 = 512 := by decide +kernel

theorem t_lt (t : Fin cfg0.N) : t.val < 33 := Nat.lt_of_lt_of_eq t.isLt N_0

section
variable (m : (ℓ : Loc nD τ sig) → Buf (Elt Ideal) ℓ)

theorem blk0 (t : Fin cfg0.N) (r : Fin 512) (j : Fin 7168) :
    iblk m c 0 t (ix2 r j) = V m c main_v0 (ix2 ⟨512 * min t.val 31 + r.val, by omega⟩ j) := by
  unfold iblk
  rw [View.read_apply]
  refine congrArg (V m c main_v0) (funext fun a => ?_)
  match a with
  | ⟨0, _⟩ => exact Fin.ext (by show win0_0.index t 0 * 512 + 1 * r.val = _; rw [(idx0 t).1]; show _ = 512 * min t.val 31 + r.val; omega)
  | ⟨1, _⟩ => exact Fin.ext (by show win0_0.index t 1 * 7168 + 1 * j.val = _; rw [(idx0 t).2]; show _ = j.val; omega)

theorem blk1 (t : Fin cfg0.N) (o : Fin 576) (j : Fin 7168) : iblk m c 1 t (ix2 o j) = m ((c : Thread nD τ).loc main_arg1) (ix2 o j) := by
  rw [← V_main_arg1 m c]
  unfold iblk
  rw [View.read_apply]
  refine congrArg (V m c main_arg1) (funext fun a => ?_)
  match a with
  | ⟨0, _⟩ => exact Fin.ext (by show win0_1.index t 0 * 576 + 1 * o.val = _; rw [(idx1 t).1]; show _ = o.val; omega)
  | ⟨1, _⟩ => exact Fin.ext (by show win0_1.index t 1 * 7168 + 1 * j.val = _; rw [(idx1 t).2]; show _ = j.val; omega)

theorem blk2 (t : Fin cfg0.N) (g : Fin 5) (k : Fin 56) : iblk m c 2 t (ix2 g k) = m ((c : Thread nD τ).loc main_arg2) (ix2 g k) := by
  rw [← V_main_arg2 m c]
  unfold iblk
  rw [View.read_apply]
  refine congrArg (V m c main_arg2) (funext fun a => ?_)
  match a with
  | ⟨0, _⟩ => exact Fin.ext (by show win0_2.index t 0 * 5 + 1 * g.val = _; rw [(idx2 t).1]; show _ = g.val; omega)
  | ⟨1, _⟩ => exact Fin.ext (by show win0_2.index t 1 * 56 + 1 * k.val = _; rw [(idx2 t).2]; show _ = k.val; omega)

theorem blk3 (t : Fin cfg0.N) (p : Fin 512) : iblk m c 3 t (ix2 0 p) = V m c main_v1 (ix2 0 p) := by
  unfold iblk
  rw [View.read_apply]
  refine congrArg (V m c main_v1) (funext fun a => ?_)
  match a with
  | ⟨0, _⟩ => exact Fin.ext (by show win0_3.index t 0 * 1 + 1 * 0 = _; rw [(idx3 t).1]; rfl)
  | ⟨1, _⟩ => exact Fin.ext (by show win0_3.index t 1 * 512 + 1 * p.val = _; rw [(idx3 t).2]; show _ = p.val; omega)
end
-- ==== Proof.Track.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Blocks

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec

/-- Token `n`'s row of the activations. -/
def tok (X : Vec Ideal S16384x7168 .bf16) (n : ℕ) (j : Fin 7168) : EReal := if h : n < 16384 then X (ix2 ⟨n, h⟩ j) else 0

/-- The rows of tile `t`. -/
def tileRows (X : Vec Ideal S16384x7168 .bf16) (t : ℕ) (r : Fin 512) : Fin 7168 → EReal := tok X (512 * t + r.val)

section
variable (m : (ℓ : Loc nD τ sig) → Buf (Elt Ideal) ℓ)

/-- The activations as the grid finds them. -/
abbrev aX : Vec Ideal S16384x7168 .bf16 := V m c main_v0
/-- The scaled weights. -/
def aW : Fin 576 → Fin 7168 → EReal := wbOf (m ((c : Thread nD τ).loc main_arg1)) (m ((c : Thread nD τ).loc main_arg2))
/-- Gamma. -/
def aG (p : Fin 512) : EReal := (show Vec Ideal S1x512 .f32 from V m c main_v1) (ix2 0 p)

theorem row_blk (t : Fin cfg0.N) (ht : t.val ≠ 32) : row (iblk m c 0 t) = tileRows (aX c m) t.val := by
  funext r j
  have h := t_lt t
  refine (blk0 c m t r j).trans ?_
  unfold tileRows tok
  rw [dif_pos (by omega)]
  exact congrArg (fun q => V m c main_v0 (ix2 q j)) (Fin.ext (by show 512 * min t.val 31 + r.val = 512 * t.val + r.val; omega))

theorem wb_blk (t : Fin cfg0.N) : wbOf (iblk m c 1 t) (iblk m c 2 t) = aW c m := by
  funext o j
  exact congrArg₂ (fun a b : EReal => a * b) (blk1 c m t o j) (blk2 c m t _ _)

theorem gamma_blk (t : Fin cfg0.N) : (fun p => iblk m c 3 t (ix2 0 p)) = aG c m := funext fun p => blk3 c m t p

/-- What the grid carries and leaves: before step `t ≥ 1` the scratch is set up for tile `t - 1`; step `t` leaves tile
    `t - 1`'s latent and rope rows and tile `t`'s codes and scales, the last step these two as it finds them. -/
def track : Track m c where
  P t s := 1 ≤ t → t ≤ 32 → Carry (aW c m) (aG c m) (tileRows (aX c m) (t - 1)) s
  O5 t _ X := 1 ≤ t.val → ∀ r p : Fin 512, X (ix2 r p) = latent (fun o => Spec.y (tileRows (aX c m) (t.val - 1) r) (aW c m ⟨o.val, by omega⟩)) (aG c m) p
  O6 t _ X := 1 ≤ t.val → ∀ (q : Fin 64) (r : Fin 512), X (ix2 q r) = Spec.y (tileRows (aX c m) (t.val - 1) r) (aW c m ⟨512 + q.val, by omega⟩)
  O7 t Y X := (t.val ≠ 32 → ∀ (r : Fin 512) (j : Fin 7168), X (ix2 r j) = code (tileRows (aX c m) t.val r) j) ∧ (t.val = 32 → X = Y)
  O8 t Y X := (t.val ≠ 32 → ∀ (kb : Fin 56) (r : Fin 512), X (ix2 kb r) = Spec.sc (tileRows (aX c m) t.val r) kb) ∧ (t.val = 32 → X = Y)
  start s h := absurd h (by omega)
  next := by
    intro t arg1 harg1 arg2 harg2 arg3 harg3 arg4 harg4 arg5 harg5 arg6 harg6 arg7 harg7 arg8 harg8 arg9 harg9 arg10 harg10 arg11 harg11 arg12 harg12 arg13 harg13 arg14 harg14 s e1 e2 e3 e4 hP
    obtain ⟨k1, k2, k3⟩ := conds t
    have h33 := t_lt t
    by_cases h0 : t.val = 0
    · have H : k0_cond1 (grid0.coords t) = 1#1 ∧ k0_cond2 (grid0.coords t) = 1#1 ∧ ¬ k0_cond3 (grid0.coords t) = 1#1 := ⟨k1.2 h0, k2.2 (by omega), fun h => absurd (k3.1 h) (by omega)⟩
      have e : step c (grid0.coords t) arg1 harg1 arg2 harg2 arg3 harg3 arg4 harg4 arg5 harg5 arg6 harg6 arg7 harg7 arg8 harg8 arg9 harg9 arg10 harg10 arg11 harg11 arg12 harg12 arg13 harg13 arg14 harg14 s = (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 H.1 H.2.1 H.2.2 s).1 := by unfold step; rw [dif_pos H]
      rw [e]
      have er : row s.x1 = tileRows (aX c m) t.val := by rw [e1]; exact row_blk c m t (by omega)
      refine ⟨fun _ _ => ?_, fun h => absurd h (by omega), fun h => absurd h (by omega), ⟨fun _ r j => ?_, fun h => absurd h (by omega)⟩, ⟨fun _ kb r => ?_, fun h => absurd h (by omega)⟩⟩
      · have C := A_carry c (grid0.coords t) arg1 harg1 arg2 harg2 arg3 harg3 arg4 harg4 arg5 harg5 arg6 harg6 arg7 harg7 arg8 harg8 arg9 harg9 arg10 harg10 arg11 harg11 arg12 harg12 arg13 harg13 arg14 harg14 s H.1 H.2.1 H.2.2
        rw [er, e2, e3, e4, wb_blk, gamma_blk] at C
        exact C
      · rw [A_x7, er]
      · rw [A_x8, er]
    · by_cases h32 : t.val = 32
      · have H : ¬ k0_cond1 (grid0.coords t) = 1#1 ∧ ¬ k0_cond2 (grid0.coords t) = 1#1 ∧ k0_cond3 (grid0.coords t) = 1#1 := ⟨fun h => h0 (k1.1 h), fun h => absurd (k2.1 h) (by omega), k3.2 h32⟩
        have e : step c (grid0.coords t) arg1 harg1 arg2 harg2 arg3 harg3 arg4 harg4 arg5 harg5 arg6 harg6 arg7 harg7 arg8 harg8 arg9 harg9 arg10 harg10 arg11 harg11 arg12 harg12 arg13 harg13 arg14 harg14 s = (runC (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 H.1 H.2.1 H.2.2 s).1 := by
          unfold step; rw [dif_neg (fun h => H.1 h.1), dif_neg (fun h => H.2.1 h.2.1), dif_pos H]
        rw [e]
        have C := hP (by omega) (by omega)
        exact ⟨fun _ h => absurd h (by omega), fun _ r p => C_x5 (C := C) .., fun _ q r => C_x6 (C := C) .., ⟨fun h => absurd h32 h, fun _ => C_x7 ..⟩, ⟨fun h => absurd h32 h, fun _ => C_x8 ..⟩⟩
      · have H : ¬ k0_cond1 (grid0.coords t) = 1#1 ∧ k0_cond2 (grid0.coords t) = 1#1 ∧ ¬ k0_cond3 (grid0.coords t) = 1#1 := ⟨fun h => h0 (k1.1 h), k2.2 h32, fun h => h32 (k3.1 h)⟩
        have e : step c (grid0.coords t) arg1 harg1 arg2 harg2 arg3 harg3 arg4 harg4 arg5 harg5 arg6 harg6 arg7 harg7 arg8 harg8 arg9 harg9 arg10 harg10 arg11 harg11 arg12 harg12 arg13 harg13 arg14 harg14 s = (runB (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 H.1 H.2.1 H.2.2 s).1 := by
          unfold step; rw [dif_neg (fun h => H.1 h.1), dif_pos H]
        rw [e]
        have C := hP (by omega) (by omega)
        have er : row s.x1 = tileRows (aX c m) t.val := by rw [e1]; exact row_blk c m t (by omega)
        refine ⟨fun _ _ => ?_, fun _ r p => B_x5 (C := C) .., fun _ q r => B_x6 (C := C) .., ⟨fun _ r j => ?_, fun h => absurd h h32⟩, ⟨fun _ kb r => ?_, fun h => absurd h h32⟩⟩
        · have C' := B_carry (c := c) (i := grid0.coords t) (h1 := H.1) (h2 := H.2.1) (h3 := H.2.2) (C := C)
          rw [er] at C'
          exact C' ..
        · rw [B_x7, er]
        · rw [B_x8, er]
end
-- ==== Proof.Arrays.lean ====
module

public import proofs.«01_k».proof.Proof.KernelIdealFrame
public import Idealize.ShloMosaic.Lib.Pointwise
public import Idealize.ShloMosaic.Lib.Pipeline.ValueKit
public import Idealize.ShloMosaic.Lib.BitcastPair
public import Idealize.ShloMosaic.Lib.WritesUnit
public import Idealize.ShloMosaic.Lib.VecWindow
public import proofs.«01_k».proof.Proof.Track

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

variable (c : Dev nD) (i : grid0.Coords) (arg1 : Memref sig .tc .vmem S512x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S64x512 .bf16) (harg6 : arg6.IsWhole) (arg7 : Memref sig .tc .vmem S512x7168 .fp8e4m3) (harg7 : arg7.IsWhole) (arg8 : Memref sig .tc .vmem S56x512 .f32) (harg8 : arg8.IsWhole) (arg9 : Memref sig .tc .vmem S56x576x128 .bf16) (harg9 : arg9.IsWhole) (arg10 : Memref sig .tc .vmem S512x128 .f32) (harg10 : arg10.IsWhole) (arg11 : Memref sig .tc .vmem S512x512 .f32) (harg11 : arg11.IsWhole) (arg12 : Memref sig .tc .vmem S256x128 .i32) (harg12 : arg12.IsWhole) (arg13 : Memref sig .tc .vmem S2x512x256 .bf16) (harg13 : arg13.IsWhole) (arg14 : Memref sig .tc .vmem S576x512 .f32) (harg14 : arg14.IsWhole)

open Cert.Proof.Scale Cert.Proof.Spec
open Idealize.SL.Sem
open Idealize.ShloMosaic.Pipeline (RDat)

/-- The latent rows of all tokens. -/
def resC (X : Vec Ideal S16384x7168 .bf16) (Wb : Fin 576 → Fin 7168 → EReal) (γ : Fin 512 → EReal) : Vec Ideal S16384x512 .bf16 := fun x =>
  latent (fun o => Spec.y (tok X (x 0).val) (Wb ⟨o.val, by omega⟩)) γ (x 1)

/-- The rope rows of all tokens, tokens along the columns. -/
def resPe (X : Vec Ideal S16384x7168 .bf16) (Wb : Fin 576 → Fin 7168 → EReal) : Vec Ideal S64x16384 .bf16 := fun x =>
  Spec.y (tok X (x 1).val) (Wb ⟨512 + (show Fin 64 from x 0).val, by omega⟩)

/-- The codes of all tokens. -/
def resCodes (X : Vec Ideal S16384x7168 .bf16) : Vec Ideal S16384x7168 .fp8e4m3 := fun x => code (tok X (x 0).val) (x 1)

/-- The scales of all tokens, tokens along the columns. -/
def resScales (X : Vec Ideal S16384x7168 .bf16) : Vec Ideal S56x16384 .f32 := fun x => Spec.sc (tok X (x 1).val) (x 0)

section
variable (m : (ℓ : Loc nD τ sig) → Buf (Elt Ideal) ℓ)
  (after : (w' : Fin cfg0.W) → Fin cfg0.N → (cfg0.win w').block.Idx → Elt Ideal (cfg0.win w').elt)

theorem final4 (hL : ∀ u : Fin cfg0.N, (cfg0.win 4).flush u = true → (rdat (track · m) c).Leaves 4 u (after 4 u)) :
    ((rdat (track · m) c).withAfter after).arrAt 4 cfg0.N = resC (aX c m) (aW c m) (aG c m) := by
  refine Pipeline.Dat.arrAt_eq_of_cover _ 4 _ (fun t ht => ?_) fun x => ?_
  · obtain ⟨Y, -, hO⟩ := hL t ht
    have h1 := (flush4 t).1 ht
    have h33 := t_lt t
    funext x
    rw [View.read_apply]
    have l0 : (x 0).val < 512 := Nat.lt_of_lt_of_eq (x 0).isLt (xsize4 t).1
    have l1 : (x 1).val < 512 := Nat.lt_of_lt_of_eq (x 1).isLt (xsize4 t).2
    refine Eq.trans (b := after 4 t (ix2 ⟨(x 0).val, l0⟩ ⟨(x 1).val, l1⟩)) (congrArg (after 4 t) (funext fun a => match a with | ⟨0, _⟩ => rfl | ⟨1, _⟩ => rfl)) ?_
    refine (hO h1 _ _).trans ?_
    refine Eq.trans ?_ (congrArg (resC (aX c m) (aW c m) (aG c m)) (a₁ := ix2 ⟨512 * (t.val - 1) + (x 0).val, by omega⟩ ⟨(x 1).val, l1⟩) (funext fun a => match a with
      | ⟨0, _⟩ => Fin.ext (by show _ = win0_4.index t 0 * 512 + 1 * (x 0).val; rw [(idx4 t).1]; show 512 * (t.val - 1) + (x 0).val = _; omega)
      | ⟨1, _⟩ => Fin.ext (by show _ = win0_4.index t 1 * 512 + 1 * (x 1).val; rw [(idx4 t).2]; show (x 1).val = _; omega)))
    rfl
  · have l0 : (x 0).val < 16384 := (x 0).isLt
    have l1 : (x 1).val < 512 := (x 1).isLt
    have hN : cfg0.N = 33 := N_0
    let t : Fin cfg0.N := ⟨(x 0).val / 512 + 1, by omega⟩
    refine ⟨t, (flush4 t).2 (by show 1 ≤ (x 0).val / 512 + 1; omega), ?_⟩
    show x ∈ ((View.whole main_v2_0).slice (win0_4.rect t)).set
    rw [View.set_slice_whole, Rect.mem_set_unit]
    intro a
    match a with
    | ⟨0, _⟩ =>
      show win0_4.index t 0 * 512 ≤ (x 0).val ∧ (x 0).val < win0_4.index t 0 * 512 + win0_4.xsize (grid0.coords t) 0
      rw [(idx4 t).1, (xsize4 t).1]; show ((x 0).val / 512 + 1 - 1) * 512 ≤ _ ∧ _ < ((x 0).val / 512 + 1 - 1) * 512 + 512; omega
    | ⟨1, _⟩ =>
      show win0_4.index t 1 * 512 ≤ (x 1).val ∧ (x 1).val < win0_4.index t 1 * 512 + win0_4.xsize (grid0.coords t) 1
      rw [(idx4 t).2, (xsize4 t).2]; omega

theorem final5 (hL : ∀ u : Fin cfg0.N, (cfg0.win 5).flush u = true → (rdat (track · m) c).Leaves 5 u (after 5 u)) :
    ((rdat (track · m) c).withAfter after).arrAt 5 cfg0.N = resPe (aX c m) (aW c m) := by
  refine Pipeline.Dat.arrAt_eq_of_cover _ 5 _ (fun t ht => ?_) fun x => ?_
  · obtain ⟨Y, -, hO⟩ := hL t ht
    have h1 := (flush5 t).1 ht
    have h33 := t_lt t
    funext x
    rw [View.read_apply]
    have l0 : (x 0).val < 64 := Nat.lt_of_lt_of_eq (x 0).isLt (xsize5 t).1
    have l1 : (x 1).val < 512 := Nat.lt_of_lt_of_eq (x 1).isLt (xsize5 t).2
    refine Eq.trans (b := after 5 t (ix2 ⟨(x 0).val, l0⟩ ⟨(x 1).val, l1⟩)) (congrArg (after 5 t) (funext fun a => match a with | ⟨0, _⟩ => rfl | ⟨1, _⟩ => rfl)) ?_
    refine (hO h1 _ _).trans ?_
    refine Eq.trans ?_ (congrArg (resPe (aX c m) (aW c m)) (a₁ := ix2 ⟨(x 0).val, l0⟩ ⟨512 * (t.val - 1) + (x 1).val, by omega⟩) (funext fun a => match a with
      | ⟨0, _⟩ => Fin.ext (by show _ = win0_5.index t 0 * 64 + 1 * (x 0).val; rw [(idx5 t).1]; show (x 0).val = _; omega)
      | ⟨1, _⟩ => Fin.ext (by show _ = win0_5.index t 1 * 512 + 1 * (x 1).val; rw [(idx5 t).2]; show 512 * (t.val - 1) + (x 1).val = _; omega)))
    rfl
  · have l0 : (x 0).val < 64 := (x 0).isLt
    have l1 : (x 1).val < 16384 := (x 1).isLt
    have hN : cfg0.N = 33 := N_0
    let t : Fin cfg0.N := ⟨(x 1).val / 512 + 1, by omega⟩
    refine ⟨t, (flush5 t).2 (by show 1 ≤ (x 1).val / 512 + 1; omega), ?_⟩
    show x ∈ ((View.whole main_v2_1).slice (win0_5.rect t)).set
    rw [View.set_slice_whole, Rect.mem_set_unit]
    intro a
    match a with
    | ⟨0, _⟩ =>
      show win0_5.index t 0 * 64 ≤ (x 0).val ∧ (x 0).val < win0_5.index t 0 * 64 + win0_5.xsize (grid0.coords t) 0
      rw [(idx5 t).1, (xsize5 t).1]; omega
    | ⟨1, _⟩ =>
      show win0_5.index t 1 * 512 ≤ (x 1).val ∧ (x 1).val < win0_5.index t 1 * 512 + win0_5.xsize (grid0.coords t) 1
      rw [(idx5 t).2, (xsize5 t).2]; show ((x 1).val / 512 + 1 - 1) * 512 ≤ _ ∧ _ < ((x 1).val / 512 + 1 - 1) * 512 + 512; omega

theorem nofetch6 : ∀ t : Fin cfg0.N, (cfg0.win 6).fetch t = false := by decide +kernel
theorem nofetch7 : ∀ t : Fin cfg0.N, (cfg0.win 7).fetch t = false := by decide +kernel

/-- What the codes' block is left at is the codes of its tile: the last step leaves it as the step before did. -/
theorem left6 (t : Fin cfg0.N) (X : Vec Ideal S512x7168 .fp8e4m3) (h : (rdat (track · m) c).Leaves 6 t X) (r : Fin 512) (j : Fin 7168) :
    X (ix2 r j) = code (tileRows (aX c m) (min t.val 31) r) j := by
  have h33 := t_lt t
  obtain ⟨Y, hY, hO⟩ := h
  by_cases h32 : t.val = 32
  · have e : X = Y := hO.2 h32
    rcases (RDat.finds_of_pos _ (nofetch6 t) (by omega) Y).1 hY with hf | hl
    · exact absurd (show t.val - 1 = 31 by omega) ((flush6 _).1 hf)
    · obtain ⟨Y', -, hO'⟩ := hl
      rw [e]
      refine ((hO' : (track c m).O7 _ Y' Y).1 (by show t.val - 1 ≠ 32; omega) r j).trans ?_
      rw [show min t.val 31 = t.val - 1 by omega]
  · refine ((hO : (track c m).O7 _ Y X).1 h32 r j).trans ?_
    rw [show min t.val 31 = t.val by omega]

/-- The same of the scales' block. -/
theorem left7 (t : Fin cfg0.N) (X : Vec Ideal S56x512 .f32) (h : (rdat (track · m) c).Leaves 7 t X) (kb : Fin 56) (r : Fin 512) :
    X (ix2 kb r) = Spec.sc (tileRows (aX c m) (min t.val 31) r) kb := by
  have h33 := t_lt t
  obtain ⟨Y, hY, hO⟩ := h
  by_cases h32 : t.val = 32
  · have e : X = Y := hO.2 h32
    rcases (RDat.finds_of_pos _ (nofetch7 t) (by omega) Y).1 hY with hf | hl
    · exact absurd (show t.val - 1 = 31 by omega) ((flush7 _).1 hf)
    · obtain ⟨Y', -, hO'⟩ := hl
      rw [e]
      refine ((hO' : (track c m).O8 _ Y' Y).1 (by show t.val - 1 ≠ 32; omega) kb r).trans ?_
      rw [show min t.val 31 = t.val - 1 by omega]
  · refine ((hO : (track c m).O8 _ Y X).1 h32 kb r).trans ?_
    rw [show min t.val 31 = t.val by omega]

theorem final6 (hL : ∀ u : Fin cfg0.N, (cfg0.win 6).flush u = true → (rdat (track · m) c).Leaves 6 u (after 6 u)) :
    ((rdat (track · m) c).withAfter after).arrAt 6 cfg0.N = resCodes (aX c m) := by
  refine Pipeline.Dat.arrAt_eq_of_cover _ 6 _ (fun t ht => ?_) fun x => ?_
  · have hO := left6 c m t _ (hL t ht)
    have h33 := t_lt t
    funext x
    rw [View.read_apply]
    have l0 : (x 0).val < 512 := Nat.lt_of_lt_of_eq (x 0).isLt (xsize6 t).1
    have l1 : (x 1).val < 7168 := Nat.lt_of_lt_of_eq (x 1).isLt (xsize6 t).2
    refine Eq.trans (b := after 6 t (ix2 ⟨(x 0).val, l0⟩ ⟨(x 1).val, l1⟩)) (congrArg (after 6 t) (funext fun a => match a with | ⟨0, _⟩ => rfl | ⟨1, _⟩ => rfl)) ?_
    refine (hO _ _).trans ?_
    refine Eq.trans ?_ (congrArg (resCodes (aX c m)) (a₁ := ix2 ⟨512 * min t.val 31 + (x 0).val, by omega⟩ ⟨(x 1).val, l1⟩) (funext fun a => match a with
      | ⟨0, _⟩ => Fin.ext (by show _ = win0_6.index t 0 * 512 + 1 * (x 0).val; rw [(idx6 t).1]; show 512 * min t.val 31 + (x 0).val = _; omega)
      | ⟨1, _⟩ => Fin.ext (by show _ = win0_6.index t 1 * 7168 + 1 * (x 1).val; rw [(idx6 t).2]; show (x 1).val = _; omega)))
    rfl
  · have l0 : (x 0).val < 16384 := (x 0).isLt
    have l1 : (x 1).val < 7168 := (x 1).isLt
    have hN : cfg0.N = 33 := N_0
    by_cases h31 : (x 0).val / 512 = 31
    · have h32 : 32 < cfg0.N := by omega
      refine ⟨⟨32, h32⟩, (flush6 _).2 (by show 32 ≠ 31; omega), ?_⟩
      show x ∈ ((View.whole main_v2_2).slice (win0_6.rect ⟨32, h32⟩)).set
      rw [View.set_slice_whole, Rect.mem_set_unit]
      intro a
      match a with
      | ⟨0, _⟩ =>
        show win0_6.index ⟨32, h32⟩ 0 * 512 ≤ (x 0).val ∧ (x 0).val < win0_6.index ⟨32, h32⟩ 0 * 512 + win0_6.xsize (grid0.coords ⟨32, h32⟩) 0
        rw [(idx6 _).1, (xsize6 _).1]; show min 32 31 * 512 ≤ _ ∧ _ < min 32 31 * 512 + 512; omega
      | ⟨1, _⟩ =>
        show win0_6.index ⟨32, h32⟩ 1 * 7168 ≤ (x 1).val ∧ (x 1).val < win0_6.index ⟨32, h32⟩ 1 * 7168 + win0_6.xsize (grid0.coords ⟨32, h32⟩) 1
        rw [(idx6 _).2, (xsize6 _).2]; omega
    · let t : Fin cfg0.N := ⟨(x 0).val / 512, by omega⟩
      refine ⟨t, (flush6 t).2 h31, ?_⟩
      show x ∈ ((View.whole main_v2_2).slice (win0_6.rect t)).set
      rw [View.set_slice_whole, Rect.mem_set_unit]
      intro a
      match a with
      | ⟨0, _⟩ =>
        show win0_6.index t 0 * 512 ≤ (x 0).val ∧ (x 0).val < win0_6.index t 0 * 512 + win0_6.xsize (grid0.coords t) 0
        rw [(idx6 t).1, (xsize6 t).1]; show min ((x 0).val / 512) 31 * 512 ≤ _ ∧ _ < min ((x 0).val / 512) 31 * 512 + 512; omega
      | ⟨1, _⟩ =>
        show win0_6.index t 1 * 7168 ≤ (x 1).val ∧ (x 1).val < win0_6.index t 1 * 7168 + win0_6.xsize (grid0.coords t) 1
        rw [(idx6 t).2, (xsize6 t).2]; omega

theorem final7 (hL : ∀ u : Fin cfg0.N, (cfg0.win 7).flush u = true → (rdat (track · m) c).Leaves 7 u (after 7 u)) :
    ((rdat (track · m) c).withAfter after).arrAt 7 cfg0.N = resScales (aX c m) := by
  refine Pipeline.Dat.arrAt_eq_of_cover _ 7 _ (fun t ht => ?_) fun x => ?_
  · have hO := left7 c m t _ (hL t ht)
    have h33 := t_lt t
    funext x
    rw [View.read_apply]
    have l0 : (x 0).val < 56 := Nat.lt_of_lt_of_eq (x 0).isLt (xsize7 t).1
    have l1 : (x 1).val < 512 := Nat.lt_of_lt_of_eq (x 1).isLt (xsize7 t).2
    refine Eq.trans (b := after 7 t (ix2 ⟨(x 0).val, l0⟩ ⟨(x 1).val, l1⟩)) (congrArg (after 7 t) (funext fun a => match a with | ⟨0, _⟩ => rfl | ⟨1, _⟩ => rfl)) ?_
    refine (hO _ _).trans ?_
    refine Eq.trans ?_ (congrArg (resScales (aX c m)) (a₁ := ix2 ⟨(x 0).val, l0⟩ ⟨512 * min t.val 31 + (x 1).val, by omega⟩) (funext fun a => match a with
      | ⟨0, _⟩ => Fin.ext (by show _ = win0_7.index t 0 * 56 + 1 * (x 0).val; rw [(idx7 t).1]; show (x 0).val = _; omega)
      | ⟨1, _⟩ => Fin.ext (by show _ = win0_7.index t 1 * 512 + 1 * (x 1).val; rw [(idx7 t).2]; show 512 * min t.val 31 + (x 1).val = _; omega)))
    rfl
  · have l0 : (x 0).val < 56 := (x 0).isLt
    have l1 : (x 1).val < 16384 := (x 1).isLt
    have hN : cfg0.N = 33 := N_0
    by_cases h31 : (x 1).val / 512 = 31
    · have h32 : 32 < cfg0.N := by omega
      refine ⟨⟨32, h32⟩, (flush7 _).2 (by show 32 ≠ 31; omega), ?_⟩
      show x ∈ ((View.whole main_v2_3).slice (win0_7.rect ⟨32, h32⟩)).set
      rw [View.set_slice_whole, Rect.mem_set_unit]
      intro a
      match a with
      | ⟨0, _⟩ =>
        show win0_7.index ⟨32, h32⟩ 0 * 56 ≤ (x 0).val ∧ (x 0).val < win0_7.index ⟨32, h32⟩ 0 * 56 + win0_7.xsize (grid0.coords ⟨32, h32⟩) 0
        rw [(idx7 _).1, (xsize7 _).1]; omega
      | ⟨1, _⟩ =>
        show win0_7.index ⟨32, h32⟩ 1 * 512 ≤ (x 1).val ∧ (x 1).val < win0_7.index ⟨32, h32⟩ 1 * 512 + win0_7.xsize (grid0.coords ⟨32, h32⟩) 1
        rw [(idx7 _).2, (xsize7 _).2]; show min 32 31 * 512 ≤ _ ∧ _ < min 32 31 * 512 + 512; omega
    · let t : Fin cfg0.N := ⟨(x 1).val / 512, by omega⟩
      refine ⟨t, (flush7 t).2 h31, ?_⟩
      show x ∈ ((View.whole main_v2_3).slice (win0_7.rect t)).set
      rw [View.set_slice_whole, Rect.mem_set_unit]
      intro a
      match a with
      | ⟨0, _⟩ =>
        show win0_7.index t 0 * 56 ≤ (x 0).val ∧ (x 0).val < win0_7.index t 0 * 56 + win0_7.xsize (grid0.coords t) 0
        rw [(idx7 t).1, (xsize7 t).1]; omega
      | ⟨1, _⟩ =>
        show win0_7.index t 1 * 512 ≤ (x 1).val ∧ (x 1).val < win0_7.index t 1 * 512 + win0_7.xsize (grid0.coords t) 1
        rw [(idx7 t).2, (xsize7 t).2]; show min ((x 1).val / 512) 31 * 512 ≤ _ ∧ _ < min ((x 1).val / 512) 31 * 512 + 512; omega

end

/-- The kernel's run: what the four results hold, and the arguments as they were. -/
theorem run_value (m : (ℓ : Loc nD τ sig) → Buf (Elt Ideal) ℓ) (ρ : Dev nD → PrngReg) :
    θ_run defs (onTc (τ := τ) (main (F := Ideal))) (s₀ m ρ) (fun r => ∀ c : Dev nD,
      r.2.mem ((c.tc : Thread nD τ).loc main_v2_0) = resC (aX c m) (aW c m) (aG c m)
      ∧ r.2.mem ((c.tc : Thread nD τ).loc main_v2_1) = resPe (aX c m) (aW c m)
      ∧ r.2.mem ((c.tc : Thread nD τ).loc main_v2_2) = resCodes (aX c m)
      ∧ r.2.mem ((c.tc : Thread nD τ).loc main_v2_3) = resScales (aX c m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨after, hL, hA⟩ := h.1.exists_exact c
    exact ⟨(hA 4).trans (final4 c m after (hL 4)), (hA 5).trans (final5 c m after (hL 5)), (hA 6).trans (final6 c m after (hL 6)),
      (hA 7).trans (final7 c m after (hL 7)), args_kept (fun c => track c m) h.1 c⟩) (run_main ρ (fun c => track c m))
-- ==== Proof.RefPay.lean ====
module

public import proofs.«01_k».proof.Proof.Gen.ReferenceIdeal.Frame
public import Idealize.ShloMosaic.Lib.Pointwise
public import Idealize.ShloMosaic.Lib.Pipeline.ValueKit
public import proofs.«01_k».proof.Proof.Spec

@[expose] public section
set_option maxRecDepth 16384
noncomputable section
namespace Cert.Proof.ReferenceIdeal
open Cert.ReferenceIdeal Cert.ReferenceIdeal.Gen
open Idealize.ShloMosaic Idealize.ShloMosaic.TcCoe Idealize.ShloMosaic.Tactic
open Cert.Proof.Scale Cert.Proof.Spec

/-! The reference's values at an index. -/

/-- A token's row. -/
abbrev rrow (x0 : Vec Ideal S16384x7168 .bf16) (n : Fin 16384) (j : Fin 7168) : EReal := x0 (ix2 n j)

theorem ofBits_448 : Ideal.ofBits .f32 0x43E00000#32 = ((448 : ℝ) : EReal) := by
  simp [Ideal.ofBits, Ideal.ieee, -EReal.coe_mul]; norm_num
theorem ofBits_n448 : Ideal.ofBits .f32 0xC3E00000#32 = ((-448 : ℝ) : EReal) := by
  simp [Ideal.ofBits, Ideal.ieee, -EReal.coe_mul]; norm_num
theorem ofBits_one : Ideal.ofBits .f32 0x3F800000#32 = 1 := by simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_512' : Ideal.ofBits .f32 0x3B000000#32 = ((1 / 512 : ℝ) : EReal) := by
  simp [Ideal.ofBits, Ideal.ieee, -EReal.coe_mul]; norm_num
theorem ofBits_min : Ideal.ofBits .f32 0x00800000#32 = (((2 : ℝ) ^ (-126 : ℤ) : ℝ) : EReal) := by
  simp [Ideal.ofBits, Ideal.ieee, -EReal.coe_mul]; norm_num

theorem blk_eq (x0 : Vec Ideal S16384x7168 .bf16) (n : Fin 16384) (kb : Fin 56) (l : Fin 128) (h : kb.val * 128 + l.val < 7168) :
    x0 (ix2 n ⟨kb.val * 128 + l.val, h⟩) = blk (rrow x0 n) kb l :=
  congrArg (fun q => x0 (ix2 n q)) (Fin.ext (by show kb.val * 128 + l.val = 128 * kb.val + l.val; omega))

theorem pay4_at (x0 : Vec Ideal S16384x7168 .bf16) (n : Fin 16384) (kb : Fin 56) (l : Fin 128) :
    k0_pay4 (F := Ideal) x0 (ix3 n kb l) = blk (rrow x0 n) kb l := by
  pointwise [k0_pay4]
  exact blk_eq ..

theorem pay7_at (x0 : Vec Ideal S16384x7168 .bf16) (p : EReal) (s : Vec Ideal S16384x56 .f32) (n : Fin 16384) (kb : Fin 56) :
    k0_pay7 (F := Ideal) x0 p s (ix2 n kb) = (dbl (Ideal.div (amax (blk (rrow x0 n) kb)) ((448 : ℝ) : EReal)) (p, s (ix2 n kb))).2 := by
  pointwise [k0_pay7]
  simp only [pay4_at]
  rw [ofBits_448, ofBits_two]
  rfl

theorem pay8_at (x0 : Vec Ideal S16384x7168 .bf16) (s : Vec Ideal S16384x56 .f32) (n : Fin 16384) (kb : Fin 56) (l : Fin 128) :
    k0_pay8 (F := Ideal) x0 s (ix3 n kb l) = clip (blk (rrow x0 n) kb l) (s (ix2 n kb)) := by
  pointwise [k0_pay8]
  rw [pay4_at, ofBits_448, ofBits_n448]
  rfl

theorem blk_col (xr : Fin 7168 → EReal) (j : Fin 7168) (h : j.val / 128 < 56) (h' : j.val % 128 < 128) :
    blk xr ⟨j.val / 128, h⟩ ⟨j.val % 128, h'⟩ = xr j :=
  congrArg xr (Fin.ext (by show 128 * (j.val / 128) + j.val % 128 = j.val; omega))

theorem pay9_at (x0 : Vec Ideal S16384x7168 .bf16) (s : Vec Ideal S16384x56 .f32) (n : Fin 16384) (j : Fin 7168) :
    k0_pay9 (F := Ideal) x0 s (ix2 n j) = clip (rrow x0 n j) (s (ix2 n (kbOf j))) := by
  pointwise [k0_pay9]
  rw [pay8_at, blk_col]
  rfl

theorem pay10_at (s : Vec Ideal S16384x56 .f32) (n : Fin 16384) (kb : Fin 56) :
    k0_pay10 (F := Ideal) s (ix2 kb n) = s (ix2 n kb) := by
  pointwise [k0_pay10]

/-- The weights as the reference scales them. -/
abbrev rW (x1 : Vec Ideal S576x7168 .fp8e4m3) (x2 : Vec Ideal S5x56 .f32) : Fin 576 → Fin 7168 → EReal :=
  wb (fun o j => x1 (ix2 o j)) (fun g k => x2 (ix2 g k))

theorem pay11_at (x2 : Vec Ideal S5x56 .f32) (x1 : Vec Ideal S576x7168 .fp8e4m3) (o : Fin 576) (j : Fin 7168) (h : j.val / 128 < 56) (h' : j.val % 128 < 128) :
    k0_pay11 (F := Ideal) x2 x1 (ix3 o ⟨j.val / 128, h⟩ ⟨j.val % 128, h'⟩) = rW x1 x2 o j := by
  pointwise [k0_pay11]
  rfl

/-- The scales that the doubling leaves. -/
abbrev IsScale (x0 : Vec Ideal S16384x7168 .bf16) (s : Vec Ideal S16384x56 .f32) : Prop :=
  ∀ (n : Fin 16384) (kb : Fin 56), s (ix2 n kb) = Spec.sc (rrow x0 n) kb

theorem pay1_at (x0 : Vec Ideal S16384x7168 .bf16) (x1 : Vec Ideal S576x7168 .fp8e4m3) (x2 : Vec Ideal S5x56 .f32) (s : Vec Ideal S16384x56 .f32) (hs : IsScale x0 s) (n : Fin 16384) (o : Fin 576) :
    k0_pay1 (F := Ideal) s (k0_pay8 x0 s) (k0_pay11 x2 x1) (ix2 n o) = Spec.y (rrow x0 n) (rW x1 x2 o) := by
  pointwise [k0_pay1]
  simp only [pay11_at, pay8_at, blk_col, hs]
  rfl

theorem pay3_at (x0 : Vec Ideal S16384x7168 .bf16) (x1 : Vec Ideal S576x7168 .fp8e4m3) (x2 : Vec Ideal S5x56 .f32) (s : Vec Ideal S16384x56 .f32) (hs : IsScale x0 s) (q : Fin 64) (n : Fin 16384) :
    k0_pay3 (F := Ideal) s (k0_pay8 x0 s) (k0_pay11 x2 x1) (ix2 q n) = Spec.y (rrow x0 n) (rW x1 x2 ⟨512 + q.val, by omega⟩) := by
  pointwise [k0_pay3]
  rw [pay1_at x0 x1 x2 s hs]

theorem div_512 (a : EReal) : Ideal.div a ((512 : ℝ) : EReal) = a * ((1 / 512 : ℝ) : EReal) := by
  rw [Ideal.div_coe (by norm_num)]

theorem pay2_at (x0 : Vec Ideal S16384x7168 .bf16) (x1 : Vec Ideal S576x7168 .fp8e4m3) (x2 : Vec Ideal S5x56 .f32) (x3 : Vec Ideal S1x512 .f32) (s : Vec Ideal S16384x56 .f32) (hs : IsScale x0 s) (n : Fin 16384) (p : Fin 512) :
    k0_pay2 (F := Ideal) s (k0_pay8 x0 s) (k0_pay11 x2 x1) x3 (ix2 n p) = latent (fun o => Spec.y (rrow x0 n) (rW x1 x2 ⟨o.val, by omega⟩)) (fun p => x3 (ix2 0 p)) p := by
  pointwise [k0_pay2]
  simp only [pay1_at x0 x1 x2 s hs]
  rw [ofBits_512, div_512, ← ofBits_512']
  rfl

/-- The doubling over all blocks at once is the doubling of each block. -/
theorem fold_at (x0 : Vec Ideal S16384x7168 .bf16) (n : Fin 16384) (kb : Fin 56) (k : ℕ) (l : List (Fin k)) (p : EReal) (s : Vec Ideal S16384x56 .f32) :
    let q := l.foldl (fun (acc : Ideal .f32 × FVec Ideal S16384x56 .f32) _ => (k0_pay6 (F := Ideal) acc.1, k0_pay7 (F := Ideal) x0 acc.1 acc.2)) (p, s)
    ((q.1 : EReal), q.2 (ix2 n kb)) = (dbl (Ideal.div (amax (blk (rrow x0 n) kb)) ((448 : ℝ) : EReal)))^[l.length] (p, s (ix2 n kb)) := by
  induction l generalizing p s with
  | nil => rfl
  | cons a l ih =>
    refine (ih (k0_pay6 (F := Ideal) p) (k0_pay7 (F := Ideal) x0 p s)).trans ?_
    rw [List.length_cons, Function.iterate_succ_apply, pay7_at]
    congr 1
    refine Prod.ext ?_ rfl
    show Ideal.ofBits .f32 0x40000000#32 * p = 2 * p
    rw [ofBits_two]
    rfl

theorem scale_at (x0 : Vec Ideal S16384x7168 .bf16) (k : ℕ) (hk : k = 246) : IsScale x0
    (Scf.fold (n := k) (fun _ (acc : Ideal .f32 × FVec Ideal S16384x56 .f32) => (k0_pay6 (F := Ideal) acc.1, k0_pay7 (F := Ideal) x0 acc.1 acc.2)) (Scalar.ofBits .f32 0x00800000#32, k0_pay5 (F := Ideal))).2 := by
  intro n kb
  rw [Scf.fold_eq]
  refine (congrArg Prod.snd (fold_at x0 n kb k _ _ _)).trans ?_
  rw [List.length_finRange, hk]
  show ((dbl _)^[246] (Ideal.ofBits .f32 0x00800000#32, Ideal.ofBits .f32 0x3F800000#32)).2 = _
  rw [ofBits_min, ofBits_one]
  rfl

end Cert.Proof.ReferenceIdeal

end
-- ==== Proof.RefRun.lean ====
module

public import proofs.«01_k».proof.Proof.Gen.ReferenceIdeal.Frame
public import Idealize.ShloMosaic.Lib.Pointwise
public import Idealize.ShloMosaic.Lib.Pipeline.ValueKit
public import Idealize.ShloMosaic.Lib.WritesUnit
public import Idealize.ShloMosaic.Lib.VecWindow
public import proofs.«01_k».proof.Proof.RefPay

@[expose] public section
set_option maxRecDepth 16384
noncomputable section
namespace Cert.Proof.ReferenceIdeal
open Cert.ReferenceIdeal Cert.ReferenceIdeal.Gen
open Idealize.ShloMosaic Idealize.ShloMosaic.TcCoe Idealize.ShloMosaic.Tactic
open Cert.Proof.Scale Cert.Proof.Spec

/-! What the reference's one run leaves in its results. -/

/-- Loading all of a buffer that holds `x` reads `x`. -/
theorem ld_full {sp : Space} {s : Shape} {e : EltTy} (a : Memref sig .tc sp s e) (ha : a.IsWhole) {off : Fin s.rank → ℕ} (inb : ∀ k, off k + s.size k ≤ s.size k) (x : Vec Ideal s e) :
    View.readAt (Elt Ideal) a.view (Rect.unit off s.size inb).toLoadRect (ha.unread x) = x := by
  rw [View.readAt_full, ha.read_unread]

variable (c : Dev nD) (arg0 : Memref sig .tc .vmem S16384x7168 .bf16) (harg0 : arg0.IsWhole) (arg1 : Memref sig .tc .vmem S576x7168 .fp8e4m3) (harg1 : arg1.IsWhole) (arg2 : Memref sig .tc .vmem S5x56 .f32) (harg2 : arg2.IsWhole) (arg3 : Memref sig .tc .vmem S1x512 .f32) (harg3 : arg3.IsWhole) (arg4 : Memref sig .tc .vmem S16384x512 .bf16) (harg4 : arg4.IsWhole) (arg5 : Memref sig .tc .vmem S64x16384 .bf16) (harg5 : arg5.IsWhole) (arg6 : Memref sig .tc .vmem S16384x7168 .fp8e4m3) (harg6 : arg6.IsWhole) (arg7 : Memref sig .tc .vmem S56x16384 .f32) (harg7 : arg7.IsWhole) (x0 : Vec Ideal S16384x7168 .bf16) (x1 : Vec Ideal S576x7168 .fp8e4m3) (x2 : Vec Ideal S5x56 .f32) (x3 : Vec Ideal S1x512 .f32)

/-- The scales as the reference's loop leaves them. -/
theorem r_scale : IsScale x0 (kernelRun0_A.sl.r (F := Ideal) c arg0 harg0 x0).2 := by
  unfold kernelRun0_A.sl.r
  rw [ld_full]
  exact scale_at x0 _ rfl
theorem r_1 : kernelRun0_A.sl.r_1 (F := Ideal) c arg0 harg0 x0 = (kernelRun0_A.sl.r (F := Ideal) c arg0 harg0 x0).2 := by
  unfold kernelRun0_A.sl.r_1
  rfl
theorem r_2 : kernelRun0_A.sl.r_2 (F := Ideal) c arg0 harg0 x0 = k0_pay8 x0 (kernelRun0_A.sl.r (F := Ideal) c arg0 harg0 x0).2 := by
  unfold kernelRun0_A.sl.r_2
  rw [ld_full]
theorem r_3 : kernelRun0_A.sl.r_3 (F := Ideal) c arg1 harg1 arg2 harg2 x1 x2 = k0_pay11 x2 x1 := by
  unfold kernelRun0_A.sl.r_3
  rw [ld_full, ld_full]
theorem out7 (kb : Fin 56) (n : Fin 16384) : out0_A_7 c arg0 harg0 arg1 harg1 arg2 harg2 arg3 harg3 arg4 harg4 arg5 harg5 arg6 harg6 arg7 harg7 x0 x1 x2 x3 (ix2 kb n) = Spec.sc (rrow x0 n) kb := by
  unfold out0_A_7 kernelRun0_A
  refine (congrFun (View.read_writes_full ..) _).trans ?_
  rw [pay10_at]
  exact r_scale ..
theorem out6 (n : Fin 16384) (j : Fin 7168) : out0_A_6 c arg0 harg0 arg1 harg1 arg2 harg2 arg3 harg3 arg4 harg4 arg5 harg5 arg6 harg6 arg7 harg7 x0 x1 x2 x3 (ix2 n j) = code (rrow x0 n) j := by
  unfold out0_A_6 kernelRun0_A
  refine (congrFun (View.read_writes_full ..) _).trans ?_
  rw [ld_full, pay9_at, r_scale]
  rfl
theorem out5 (q : Fin 64) (n : Fin 16384) : out0_A_5 c arg0 harg0 arg1 harg1 arg2 harg2 arg3 harg3 arg4 harg4 arg5 harg5 arg6 harg6 arg7 harg7 x0 x1 x2 x3 (ix2 q n) = Spec.y (rrow x0 n) (rW x1 x2 ⟨512 + q.val, by omega⟩) := by
  unfold out0_A_5 kernelRun0_A
  refine (congrFun (View.read_writes_full ..) _).trans ?_
  rw [r_1, r_2, r_3]
  exact pay3_at _ _ _ _ (fun _ _ => r_scale ..) _ _
theorem out4 (n : Fin 16384) (p : Fin 512) : out0_A_4 c arg0 harg0 arg1 harg1 arg2 harg2 arg3 harg3 arg4 harg4 arg5 harg5 arg6 harg6 arg7 harg7 x0 x1 x2 x3 (ix2 n p) = latent (fun o => Spec.y (rrow x0 n) (rW x1 x2 ⟨o.val, by omega⟩)) (fun p => x3 (ix2 0 p)) p := by
  unfold out0_A_4 kernelRun0_A
  refine (congrFun (View.read_writes_full ..) _).trans ?_
  rw [r_1, r_2, r_3]
  refine (pay2_at _ _ _ _ _ (fun _ _ => r_scale ..) _ _).trans ?_
  rw [show View.readAt (Elt Ideal) arg3.view (Rect.unit ![0, 0] ![1, 512] inb_S1x512_S1x512_0_0).toLoadRect (harg3.unread x3) = x3 from ld_full arg3 harg3 inb_S1x512_S1x512_0_0 x3]

end Cert.Proof.ReferenceIdeal

end
-- ==== Proof.RefValue.lean ====
module

public import proofs.«01_k».proof.Proof.Gen.ReferenceIdeal.Frame
public import Idealize.ShloMosaic.Lib.Pointwise
public import Idealize.ShloMosaic.Lib.Pipeline.ValueKit
public import Idealize.ShloMosaic.Lib.WritesUnit
public import Idealize.ShloMosaic.Lib.VecWindow
public import proofs.«01_k».proof.Proof.RefRun

@[expose] public section
set_option maxRecDepth 16384
noncomputable section
namespace Cert.Proof.ReferenceIdeal
open Cert.ReferenceIdeal Cert.ReferenceIdeal.Gen
open Idealize.ShloMosaic Idealize.ShloMosaic.TcCoe Idealize.ShloMosaic.Tactic
open Cert.Proof.Scale Cert.Proof.Spec

/-! The reference's four results. -/

open Idealize.SL.Sem
open Idealize.ShloMosaic.Pipeline (Dat Cfg Window)

variable (m : (ℓ : Loc nD τ sig) → Buf (Elt Ideal) ℓ) (c : Dev nD)

/-- The one grid point. -/
def t₀ : Fin cfg0.N := ⟨0, by decide⟩

/-- The tokens, the weights, the weights' scales and the norm's weights, as the region finds them. -/
abbrev bX : Vec Ideal S16384x7168 .bf16 := V m c main_v0
abbrev bG (p : Fin 512) : EReal := (V m c main_v1 : Vec Ideal S1x512 .f32) (ix2 0 p)
abbrev bW : Fin 576 → Fin 7168 → EReal := rW (m (c.tc.loc main_arg1)) (m (c.tc.loc main_arg2))

def refC : Vec Ideal S16384x512 .bf16 := fun x =>
  latent (fun o => Spec.y (rrow (bX m c) (x 0)) (bW m c ⟨o.val, by omega⟩)) (bG m c) (x 1)
def refPe : Vec Ideal S64x16384 .bf16 := fun x =>
  Spec.y (rrow (bX m c) (x 1)) (bW m c ⟨512 + (show Fin 64 from x 0).val, by omega⟩)
def refCodes : Vec Ideal S16384x7168 .fp8e4m3 := fun x => code (rrow (bX m c) (x 0)) (x 1)
def refScales : Vec Ideal S56x16384 .f32 := fun x => Spec.sc (rrow (bX m c) (x 1)) (x 0)

theorem iblk0 : iblk m c 0 t₀ = V m c main_v0 := by
  have hz : (fun a => (win0_0.index t₀) a * main_v0.ty.shape.size a) = fun _ => 0 := funext fun a => by fin_cases a <;> decide
  unfold iblk
  refine (Memref.read_access_unit_zero (Elt Ideal) main_v0 hz (fun a => by fin_cases a <;> decide) _).trans ?_
  rfl

theorem iblk1 : iblk m c 1 t₀ = m (c.tc.loc main_arg1) := by
  have hz : (fun a => (win0_1.index t₀) a * main_arg1.ty.shape.size a) = fun _ => 0 := funext fun a => by fin_cases a <;> decide
  unfold iblk
  refine (Memref.read_access_unit_zero (Elt Ideal) main_arg1 hz (fun a => by fin_cases a <;> decide) _).trans ?_
  exact V_main_arg1 m c

theorem iblk2 : iblk m c 2 t₀ = m (c.tc.loc main_arg2) := by
  have hz : (fun a => (win0_2.index t₀) a * main_arg2.ty.shape.size a) = fun _ => 0 := funext fun a => by fin_cases a <;> decide
  unfold iblk
  refine (Memref.read_access_unit_zero (Elt Ideal) main_arg2 hz (fun a => by fin_cases a <;> decide) _).trans ?_
  exact V_main_arg2 m c

theorem iblk3 : iblk m c 3 t₀ = V m c main_v1 := by
  have hz : (fun a => (win0_3.index t₀) a * main_v1.ty.shape.size a) = fun _ => 0 := funext fun a => by fin_cases a <;> decide
  unfold iblk
  refine (Memref.read_access_unit_zero (Elt Ideal) main_v1 hz (fun a => by fin_cases a <;> decide) _).trans ?_
  rfl

theorem after4 : (dats m 0 c).after 4 t₀ = refC m c := by
  rw [after0_4]
  unfold outsAt0
  dsimp only
  rw [iblk0, iblk1, iblk2, iblk3]
  funext x
  refine Eq.trans (congrArg (out0_A_4 c (ms0_0 t₀) _ (ms0_1 t₀) _ (ms0_2 t₀) _ (ms0_3 t₀) _ (ms0_4 t₀) _ (ms0_5 t₀) _ (ms0_6 t₀) _ (ms0_7 t₀) _ (V m c main_v0) (m (c.tc.loc main_arg1)) (m (c.tc.loc main_arg2)) (V m c main_v1)) (ix2_eta x).symm) ?_
  exact out4 ..

theorem final4 : (dats m 0 c).arrAt 4 cfg0.N = refC m c := by
  have ho : ((cfg0.win 4).blk t₀).view.read (Elt Ideal) ((dats m 0 c).arrAt 4 cfg0.N) = (dats m 0 c).flushed 4 t₀ := by
    rw [show cfg0.N = (t₀ : Fin cfg0.N).val + 1 from rfl, (dats m 0 c).arrAt_succ 4 t₀]
    rw [show (cfg0.win 4).flush t₀ = true from by decide, if_pos rfl]
    exact View.read_write_univ _ _
  have hz : (fun a => (win0_4.index t₀) a * main_v2_0.ty.shape.size a) = fun _ => 0 := funext fun a => by fin_cases a <;> decide
  have hr := fun f => Memref.read_access_unit_zero (Elt Ideal) main_v2_0 hz (fun a => by fin_cases a <;> decide) f
  rw [hr] at ho
  rw [ho]
  show (cfg0.win 4).cut _ ((dats m 0 c).after 4 t₀) = _
  rw [after4]
  rfl

theorem after5 : (dats m 0 c).after 5 t₀ = refPe m c := by
  rw [after0_5]
  unfold outsAt0
  dsimp only
  rw [iblk0, iblk1, iblk2, iblk3]
  funext x
  refine Eq.trans (congrArg (out0_A_5 c (ms0_0 t₀) _ (ms0_1 t₀) _ (ms0_2 t₀) _ (ms0_3 t₀) _ (ms0_4 t₀) _ (ms0_5 t₀) _ (ms0_6 t₀) _ (ms0_7 t₀) _ (V m c main_v0) (m (c.tc.loc main_arg1)) (m (c.tc.loc main_arg2)) (V m c main_v1)) (ix2_eta x).symm) ?_
  exact out5 ..

theorem final5 : (dats m 0 c).arrAt 5 cfg0.N = refPe m c := by
  have ho : ((cfg0.win 5).blk t₀).view.read (Elt Ideal) ((dats m 0 c).arrAt 5 cfg0.N) = (dats m 0 c).flushed 5 t₀ := by
    rw [show cfg0.N = (t₀ : Fin cfg0.N).val + 1 from rfl, (dats m 0 c).arrAt_succ 5 t₀]
    rw [show (cfg0.win 5).flush t₀ = true from by decide, if_pos rfl]
    exact View.read_write_univ _ _
  have hz : (fun a => (win0_5.index t₀) a * main_v2_1.ty.shape.size a) = fun _ => 0 := funext fun a => by fin_cases a <;> decide
  have hr := fun f => Memref.read_access_unit_zero (Elt Ideal) main_v2_1 hz (fun a => by fin_cases a <;> decide) f
  rw [hr] at ho
  rw [ho]
  show (cfg0.win 5).cut _ ((dats m 0 c).after 5 t₀) = _
  rw [after5]
  rfl

theorem after6 : (dats m 0 c).after 6 t₀ = refCodes m c := by
  rw [after0_6]
  unfold outsAt0
  dsimp only
  rw [iblk0, iblk1, iblk2, iblk3]
  funext x
  refine Eq.trans (congrArg (out0_A_6 c (ms0_0 t₀) _ (ms0_1 t₀) _ (ms0_2 t₀) _ (ms0_3 t₀) _ (ms0_4 t₀) _ (ms0_5 t₀) _ (ms0_6 t₀) _ (ms0_7 t₀) _ (V m c main_v0) (m (c.tc.loc main_arg1)) (m (c.tc.loc main_arg2)) (V m c main_v1)) (ix2_eta x).symm) ?_
  exact out6 ..

theorem final6 : (dats m 0 c).arrAt 6 cfg0.N = refCodes m c := by
  have ho : ((cfg0.win 6).blk t₀).view.read (Elt Ideal) ((dats m 0 c).arrAt 6 cfg0.N) = (dats m 0 c).flushed 6 t₀ := by
    rw [show cfg0.N = (t₀ : Fin cfg0.N).val + 1 from rfl, (dats m 0 c).arrAt_succ 6 t₀]
    rw [show (cfg0.win 6).flush t₀ = true from by decide, if_pos rfl]
    exact View.read_write_univ _ _
  have hz : (fun a => (win0_6.index t₀) a * main_v2_2.ty.shape.size a) = fun _ => 0 := funext fun a => by fin_cases a <;> decide
  have hr := fun f => Memref.read_access_unit_zero (Elt Ideal) main_v2_2 hz (fun a => by fin_cases a <;> decide) f
  rw [hr] at ho
  rw [ho]
  show (cfg0.win 6).cut _ ((dats m 0 c).after 6 t₀) = _
  rw [after6]
  rfl

theorem after7 : (dats m 0 c).after 7 t₀ = refScales m c := by
  rw [after0_7]
  unfold outsAt0
  dsimp only
  rw [iblk0, iblk1, iblk2, iblk3]
  funext x
  refine Eq.trans (congrArg (out0_A_7 c (ms0_0 t₀) _ (ms0_1 t₀) _ (ms0_2 t₀) _ (ms0_3 t₀) _ (ms0_4 t₀) _ (ms0_5 t₀) _ (ms0_6 t₀) _ (ms0_7 t₀) _ (V m c main_v0) (m (c.tc.loc main_arg1)) (m (c.tc.loc main_arg2)) (V m c main_v1)) (ix2_eta x).symm) ?_
  exact out7 ..

theorem final7 : (dats m 0 c).arrAt 7 cfg0.N = refScales m c := by
  have ho : ((cfg0.win 7).blk t₀).view.read (Elt Ideal) ((dats m 0 c).arrAt 7 cfg0.N) = (dats m 0 c).flushed 7 t₀ := by
    rw [show cfg0.N = (t₀ : Fin cfg0.N).val + 1 from rfl, (dats m 0 c).arrAt_succ 7 t₀]
    rw [show (cfg0.win 7).flush t₀ = true from by decide, if_pos rfl]
    exact View.read_write_univ _ _
  have hz : (fun a => (win0_7.index t₀) a * main_v2_3.ty.shape.size a) = fun _ => 0 := funext fun a => by fin_cases a <;> decide
  have hr := fun f => Memref.read_access_unit_zero (Elt Ideal) main_v2_3 hz (fun a => by fin_cases a <;> decide) f
  rw [hr] at ho
  rw [ho]
  show (cfg0.win 7).cut _ ((dats m 0 c).after 7 t₀) = _
  rw [after7]
  rfl

theorem run_value (ρ : Dev nD → PrngReg) : θ_run defs (onTc (τ := τ) (main (F := Ideal))) (s₀ m ρ) (fun r => ∀ c : Dev nD,
    r.2.mem ((c.tc : Thread nD τ).loc main_v2_0) = refC m c ∧ r.2.mem ((c.tc : Thread nD τ).loc main_v2_1) = refPe m c ∧
    r.2.mem ((c.tc : Thread nD τ).loc main_v2_2) = refCodes m c ∧ r.2.mem ((c.tc : Thread nD τ).loc main_v2_3) = refScales m c ∧
    r.2.mem ((c.tc : Thread nD τ).loc main_arg0) = m ((c.tc : Thread nD τ).loc main_arg0) ∧ r.2.mem ((c.tc : Thread nD τ).loc main_arg1) = m ((c.tc : Thread nD τ).loc main_arg1) ∧
    r.2.mem ((c.tc : Thread nD τ).loc main_arg2) = m ((c.tc : Thread nD τ).loc main_arg2) ∧ r.2.mem ((c.tc : Thread nD τ).loc main_arg3) = m ((c.tc : Thread nD τ).loc main_arg3)) := by
  refine (θ_run defs _ _).mono (fun r h c => ?_) (θ_run_and (run_main (F := Ideal) m ρ) (unchanged (F := Ideal) m ρ))
  exact ⟨((h.1 c).1 4).trans (final4 m c), ((h.1 c).1 5).trans (final5 m c), ((h.1 c).1 6).trans (final6 m c), ((h.1 c).1 7).trans (final7 m c), h.2 c⟩

end Cert.Proof.ReferenceIdeal

end
-- ==== Proof.Agree.lean ====
module

public import proofs.«01_k».proof.Proof.Arrays
public import proofs.«01_k».proof.Proof.RefValue
public import proofs.«01_k».proof.Defs
public import Idealize.ShloMosaic.Lib.Claim

@[expose] public section
set_option maxRecDepth 16384
noncomputable section
namespace Cert.Proof.Agree
open Idealize.ShloMosaic Idealize.ShloMosaic.TcCoe Idealize.ShloMosaic.Tactic Idealize.SL.Sem
open Cert.Proof.Scale Cert.Proof.Spec

/-! The kernel's results are the reference's. -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem tokens (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (ReferenceIdeal.bX m' c : Vec Ideal Cert.KernelIdeal.S16384x7168 .bf16) = KernelIdeal.aX c m := by
  unfold ReferenceIdeal.bX KernelIdeal.aX
  entry_read
  rw [h]
  rfl

theorem norm_weights (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    ReferenceIdeal.bG m' c = KernelIdeal.aG c m := by
  funext p
  unfold ReferenceIdeal.bG KernelIdeal.aG
  entry_read
  rw [h]
  rfl

theorem weights (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ReferenceIdeal.bW m' c = KernelIdeal.aW c m := by
  unfold ReferenceIdeal.bW KernelIdeal.aW
  rw [h1, h2]

variable (hX : (ReferenceIdeal.bX m' c : Vec Ideal Cert.KernelIdeal.S16384x7168 .bf16) = KernelIdeal.aX c m)
include hX

/-- A token's row, read by either program. -/
theorem row (n : Fin 16384) : ReferenceIdeal.rrow (ReferenceIdeal.bX m' c) n = KernelIdeal.tok (KernelIdeal.aX c m) n.val := by
  funext j
  unfold KernelIdeal.tok
  rw [dif_pos n.isLt]
  exact congrFun hX (ix2 n j)

theorem agreeCodes : ReferenceIdeal.refCodes m' c = KernelIdeal.resCodes (KernelIdeal.aX c m) :=
  funext fun x => congrArg (fun r => code r (x 1)) (row m m' c hX (x 0))

theorem agreeScales : ReferenceIdeal.refScales m' c = KernelIdeal.resScales (KernelIdeal.aX c m) :=
  funext fun x => congrArg (fun r => Spec.sc r (x 0)) (row m m' c hX (x 1))

variable (hW : ReferenceIdeal.bW m' c = KernelIdeal.aW c m)
include hW

theorem agreeRow (n : Fin 16384) (o : Fin 576) : Spec.y (ReferenceIdeal.rrow (ReferenceIdeal.bX m' c) n) (ReferenceIdeal.bW m' c o) = Spec.y (KernelIdeal.tok (KernelIdeal.aX c m) n.val) (KernelIdeal.aW c m o) := by
  rw [row m m' c hX, hW]

theorem agreePe : ReferenceIdeal.refPe m' c = KernelIdeal.resPe (KernelIdeal.aX c m) (KernelIdeal.aW c m) :=
  funext fun x => agreeRow m m' c hX hW (x 1) _

theorem agreeC (hG : ReferenceIdeal.bG m' c = KernelIdeal.aG c m) :
    ReferenceIdeal.refC m' c = KernelIdeal.resC (KernelIdeal.aX c m) (KernelIdeal.aW c m) (KernelIdeal.aG c m) :=
  funext fun x => congrArg₂ (fun (y : Fin 512 → EReal) γ => latent y γ (x 1))
    (funext fun o => agreeRow m m' c hX hW (x 0) _) hG

end

theorem algebraic : Cert.algebraic_KernelIdeal_ReferenceIdeal (hKernelIdeal := Cert.KernelIdeal.Gen.facts) (hReferenceIdeal := Cert.ReferenceIdeal.Gen.facts) := by
  intro m g m' g' _ h
  have hX := fun c => tokens m m' c (h c).1
  have hW := fun c => weights m m' c (h c).2.1 (h c).2.2.1
  have hG := fun c => norm_weights m m' c (h c).2.2.2
  refine ⟨fun c => KernelIdeal.resC (KernelIdeal.aX c m) (KernelIdeal.aW c m) (KernelIdeal.aG c m), fun c => KernelIdeal.resPe (KernelIdeal.aX c m) (KernelIdeal.aW c m),
    fun c => KernelIdeal.resCodes (KernelIdeal.aX c m), fun c => KernelIdeal.resScales (KernelIdeal.aX c m), KernelIdeal.run_value m g, ?_⟩
  refine (θ_run Cert.ReferenceIdeal.defs _ _).mono (fun r hr c => ?_) (ReferenceIdeal.run_value m' g')
  obtain ⟨h0, h1, h2, h3, ha⟩ := hr c
  exact ⟨h0.trans (agreeC m m' c (hX c) (hW c) (hG c)), h1.trans (agreePe m m' c (hX c) (hW c)), h2.trans (agreeCodes m m' c (hX c)), h3.trans (agreeScales m m' c (hX c)), ha⟩

end Cert.Proof.Agree

end
-- ==== Proof.lean ====
module

public import proofs.«01_k».proof.Defs
public import proofs.«01_k».proof.Proof.KernelFrame
public import proofs.«01_k».proof.Proof.KernelIdealFrame
public import proofs.«01_k».proof.Proof.Agree
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Proof.Kernel.frame_main (F := Bits) g m,
  fun m g _ => Cert.Proof.KernelIdeal.frame_main (F := Ideal) g m,
  fun m g _ => Cert.ReferenceIdeal.Gen.frame m g,
  trivial, Cert.Proof.Agree.algebraic⟩

end Cert.Proof

end
